-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v17_0)) (v1 : (c : Dev Cert.Kernel4Ideal.nD) → Buf (Elt Ideal) ((c.tc : Thread Cert.Kernel4Ideal.nD Cert.Kernel4Ideal.τ).loc Cert.Kernel4Ideal.main_v17_1)) (v2 : (c : Dev Cert.Kernel4Ideal.nD) → Buf (Elt Ideal) ((c.tc : Thread Cert.Kernel4Ideal.nD Cert.Kernel4Ideal.τ).loc Cert.Kernel4Ideal.main_v17_2)) (v3 : (c : Dev Cert.Kernel4Ideal.nD) → Buf (Elt Ideal) ((c.tc : Thread Cert.Kernel4Ideal.nD Cert.Kernel4Ideal.τ).loc Cert.Kernel4Ideal.main_v17_3)) (v4 : (c : Dev Cert.Kernel4Ideal.nD) → Buf (Elt Ideal) ((c.tc : Thread Cert.Kernel4Ideal.nD Cert.Kernel4Ideal.τ).loc Cert.Kernel4Ideal.main_v17_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_0) = v0 c
          ∧ r.2.mem ((c.tc : Thread Cert.Kernel4Ideal.nD Cert.Kernel4Ideal.τ).loc Cert.Kernel4Ideal.main_v17_1) = v1 c
          ∧ r.2.mem ((c.tc : Thread Cert.Kernel4Ideal.nD Cert.Kernel4Ideal.τ).loc Cert.Kernel4Ideal.main_v17_2) = v2 c
          ∧ r.2.mem ((c.tc : Thread Cert.Kernel4Ideal.nD Cert.Kernel4Ideal.τ).loc Cert.Kernel4Ideal.main_v17_3) = v3 c
          ∧ r.2.mem ((c.tc : Thread Cert.Kernel4Ideal.nD Cert.Kernel4Ideal.τ).loc Cert.Kernel4Ideal.main_v17_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v29) = v2 c
          ∧ r.2.mem ((c.tc : Thread Cert.Reference4Ideal.nD Cert.Reference4Ideal.τ).loc Cert.Reference4Ideal.main_v30) = v3 c
          ∧ r.2.mem ((c.tc : Thread Cert.Reference4Ideal.nD Cert.Reference4Ideal.τ).loc Cert.Reference4Ideal.main_v34) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v54_0)) (v1 : (c : Dev Cert.Kernel5Ideal.nD) → Buf (Elt Ideal) ((c.tc : Thread Cert.Kernel5Ideal.nD Cert.Kernel5Ideal.τ).loc Cert.Kernel5Ideal.main_v54_1)) (v2 : (c : Dev Cert.Kernel5Ideal.nD) → Buf (Elt Ideal) ((c.tc : Thread Cert.Kernel5Ideal.nD Cert.Kernel5Ideal.τ).loc Cert.Kernel5Ideal.main_v54_2)) (v3 : (c : Dev Cert.Kernel5Ideal.nD) → Buf (Elt Ideal) ((c.tc : Thread Cert.Kernel5Ideal.nD Cert.Kernel5Ideal.τ).loc Cert.Kernel5Ideal.main_v54_3)) (v4 : (c : Dev Cert.Kernel5Ideal.nD) → Buf (Elt Ideal) ((c.tc : Thread Cert.Kernel5Ideal.nD Cert.Kernel5Ideal.τ).loc Cert.Kernel5Ideal.main_v54_4)) (v5 : (c : Dev Cert.Kernel5Ideal.nD) → Buf (Elt Ideal) ((c.tc : Thread Cert.Kernel5Ideal.nD Cert.Kernel5Ideal.τ).loc Cert.Kernel5Ideal.main_v54_5)) (v6 : (c : Dev Cert.Kernel5Ideal.nD) → Buf (Elt Ideal) ((c.tc : Thread Cert.Kernel5Ideal.nD Cert.Kernel5Ideal.τ).loc Cert.Kernel5Ideal.main_v54_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v54_0) = v0 c
          ∧ r.2.mem ((c.tc : Thread Cert.Kernel5Ideal.nD Cert.Kernel5Ideal.τ).loc Cert.Kernel5Ideal.main_v54_1) = v1 c
          ∧ r.2.mem ((c.tc : Thread Cert.Kernel5Ideal.nD Cert.Kernel5Ideal.τ).loc Cert.Kernel5Ideal.main_v54_2) = v2 c
          ∧ r.2.mem ((c.tc : Thread Cert.Kernel5Ideal.nD Cert.Kernel5Ideal.τ).loc Cert.Kernel5Ideal.main_v54_3) = v3 c
          ∧ r.2.mem ((c.tc : Thread Cert.Kernel5Ideal.nD Cert.Kernel5Ideal.τ).loc Cert.Kernel5Ideal.main_v54_4) = v4 c
          ∧ r.2.mem ((c.tc : Thread Cert.Kernel5Ideal.nD Cert.Kernel5Ideal.τ).loc Cert.Kernel5Ideal.main_v54_5) = v5 c
          ∧ r.2.mem ((c.tc : Thread Cert.Kernel5Ideal.nD Cert.Kernel5Ideal.τ).loc Cert.Kernel5Ideal.main_v54_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v31) = v2 c
          ∧ r.2.mem ((c.tc : Thread Cert.Reference5Ideal.nD Cert.Reference5Ideal.τ).loc Cert.Reference5Ideal.main_v46) = v3 c
          ∧ r.2.mem ((c.tc : Thread Cert.Reference5Ideal.nD Cert.Reference5Ideal.τ).loc Cert.Reference5Ideal.main_v52) = v4 c
          ∧ r.2.mem ((c.tc : Thread Cert.Reference5Ideal.nD Cert.Reference5Ideal.τ).loc Cert.Reference5Ideal.main_v58) = v5 c
          ∧ r.2.mem ((c.tc : Thread Cert.Reference5Ideal.nD Cert.Reference5Ideal.τ).loc Cert.Reference5Ideal.main_v65) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel5_Kernel5Ideal
    ∧ algebraic_Kernel5Ideal_Reference5Ideal (hKernel5Ideal := hKernel5Ideal) (hReference5Ideal := hReference5Ideal)
-- ==== Pre_finite.lean ====
abbrev S2x16384x768 : Shape := ⟨3, ![2, 16384, 768]⟩
abbrev S8 : Shape := ⟨1, ![8]⟩
abbrev S2x16384x640 : Shape := ⟨3, ![2, 16384, 640]⟩
abbrev S_ : Shape := ⟨0, ![]⟩

class Facts : Prop where
  slices_S2x16384x768_S2x16384x640_0_0_0 : S2x16384x768.Slices ![0, 0, 0] S2x16384x640
  bcast_S_S2x16384x640 : S_.BroadcastsInDim S2x16384x640 (![] : Fin 0 → Fin S2x16384x640.rank)
  reducesTo_S2x16384x640_S_d0_1_2 : S2x16384x640.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S2x16384x768 .f32) (main_arg1 : FVec F S8 .f32) : IVec S_ 1 :=
  let main_v0 : FVec F S2x16384x640 .f32 := (extractStridedSlice S2x16384x640 ![0, 0, 0] · slices_S2x16384x768_S2x16384x640_0_0_0) main_arg0
  let main_v1 : FVec F S2x16384x640 .f32 := Host.absf main_v0
  let main_cst : FVec F S_ .f32 := constant S_ .f32 0x7F800000#32
  let main_v2 : FVec F S2x16384x640 .f32 := broadcastInDim S2x16384x640 ![] bcast_S_S2x16384x640 main_cst
  let main_v3 : IVec S2x16384x640 1 := cmpf .olt main_v1 main_v2
  let main_c : IVec S_ 1 := constantI S_ 1 1#1
  let main_v4 : IVec S_ 1 := (fun x v => Host.reduce IntOp.andi x v reducesTo_S2x16384x640_S_d0_1_2 h_S_) main_v3 main_c
  let main_v5 : FVec F S8 .f32 := Host.absf main_arg1
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  let main_c_1 : IVec S_ 1 := constantI S_ 1 1#1
  let main_v8 : IVec S_ 1 := (fun x v => Host.reduce IntOp.andi x v reducesTo_S8_S_d0 h_S_) main_v7 main_c_1
  let main_v9 : IVec S_ 1 := andi main_v4 main_v8
  main_v9
-- ==== Kernel.lean ====
abbrev S2x16384x768 : Shape := ⟨3, ![2, 16384, 768]⟩
abbrev S8 : Shape := ⟨1, ![8]⟩
abbrev S_ : Shape := ⟨0, ![]⟩
abbrev S32768x768 : Shape := ⟨2, ![32768, 768]⟩
abbrev S32768x512 : Shape := ⟨2, ![32768, 512]⟩
abbrev S256x128x512 : Shape := ⟨3, ![256, 128, 512]⟩
abbrev S256x512x128 : Shape := ⟨3, ![256, 512, 128]⟩
abbrev S32768x128 : Shape := ⟨2, ![32768, 128]⟩
abbrev S256x128x128 : Shape := ⟨3, ![256, 128, 128]⟩
abbrev S8x1 : Shape := ⟨2, ![8, 1]⟩
abbrev S8x128 : Shape := ⟨2, ![8, 128]⟩
abbrev S4x512x128 : Shape := ⟨3, ![4, 512, 128]⟩
abbrev S128x128 : Shape := ⟨2, ![128, 128]⟩
abbrev S512x128 : Shape := ⟨2, ![512, 128]⟩
abbrev S1x128x128 : Shape := ⟨3, ![1, 128, 128]⟩
abbrev S4x128x128 : Shape := ⟨3, ![4, 128, 128]⟩
abbrev S512x512 : Shape := ⟨2, ![512, 512]⟩
abbrev S256x1 : Shape := ⟨2, ![256, 1]⟩
abbrev S1x128 : Shape := ⟨2, ![1, 128]⟩
abbrev S256x128 : Shape := ⟨2, ![256, 128]⟩
abbrev S640x128 : Shape := ⟨2, ![640, 128]⟩
abbrev S1x256x128 : Shape := ⟨3, ![1, 256, 128]⟩
abbrev S64x128 : Shape := ⟨2, ![64, 128]⟩
abbrev S64x512 : Shape := ⟨2, ![64, 512]⟩
abbrev S128x512 : Shape := ⟨2, ![128, 512]⟩
abbrev S256x512 : Shape := ⟨2, ![256, 512]⟩
abbrev S128 : Shape := ⟨1, ![128]⟩
abbrev S64x256 : Shape := ⟨2, ![64, 256]⟩
abbrev S1x512 : Shape := ⟨2, ![1, 512]⟩
abbrev S128x256 : Shape := ⟨2, ![128, 256]⟩

abbrev nBuf : Space → Nat
  | .hbm => 30
  | .vmem => 13
  | .smem => 0
  | _ => 0

abbrev bufTy : (tb : Table) → Fin (tcTables nBuf tb) → BufTy
  | .hbm, ⟨0, _⟩ => ⟨S2x16384x768, .f32⟩
  | .hbm, ⟨1, _⟩ => ⟨S8, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32768x768, .f32⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S32768x512, .bf16⟩
  | .hbm, ⟨13, _⟩ => ⟨S256x128x512, .bf16⟩
  | .hbm, ⟨14, _⟩ => ⟨S256x512x128, .bf16⟩
  | .hbm, ⟨15, _⟩ => ⟨S32768x128, .f32⟩
  | .hbm, ⟨16, _⟩ => ⟨S32768x128, .bf16⟩
  | .hbm, ⟨17, _⟩ => ⟨S32768x128, .f32⟩
  | .hbm, ⟨18, _⟩ => ⟨S32768x128, .bf16⟩
  | .hbm, ⟨19, _⟩ => ⟨S256x128x128, .bf16⟩
  | .hbm, ⟨20, _⟩ => ⟨S256x128x128, .bf16⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8x1, .f32⟩
  | .hbm, ⟨28, _⟩ => ⟨S8x128, .f32⟩
  | .hbm, ⟨29, _⟩ => ⟨S32768x512, .bf16⟩
  | .local _ .vmem, ⟨0, _⟩ => ⟨S4x512x128, .bf16⟩
  | .local _ .vmem, ⟨1, _⟩ => ⟨S4x512x128, .bf16⟩
  | .local _ .vmem, ⟨2, _⟩ => ⟨S128x128, .bf16⟩
  | .local _ .vmem, ⟨3, _⟩ => ⟨S128x128, .bf16⟩
  | .local _ .vmem, ⟨4, _⟩ => ⟨S512x128, .bf16⟩
  | .local _ .vmem, ⟨5, _⟩ => ⟨S512x128, .bf16⟩
  | .local _ .vmem, ⟨6, _⟩ => ⟨S1x128x128, .bf16⟩
  | .local _ .vmem, ⟨7, _⟩ => ⟨S1x128x128, .bf16⟩
  | .local _ .vmem, ⟨8, _⟩ => ⟨S4x128x128, .bf16⟩
  | .local _ .vmem, ⟨9, _⟩ => ⟨S4x128x128, .bf16⟩
  | .local _ .vmem, ⟨10, _⟩ => ⟨S8x128, .f32⟩
  | .local _ .vmem, ⟨11, _⟩ => ⟨S512x512, .bf16⟩
  | .local _ .vmem, ⟨12, _⟩ => ⟨S512x512, .bf16⟩
  | _, _ => ⟨S2x16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c4_i32 : BitVec 32 := 4#32
  let v1 : BitVec 32 := Scalar.muli c4_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c4_i32 : BitVec 32 := 4#32
  let v1 : BitVec 32 := Scalar.muli c4_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  let c0_i32_2 : BitVec 32 := 0#32
  ![v4.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x16384x768 : Shape := ⟨3, ![2, 16384, 768]⟩
abbrev S8 : Shape := ⟨1, ![8]⟩
abbrev S2x16384x512 : Shape := ⟨3, ![2, 16384, 512]⟩
abbrev S2x128x128x2x4x64 : Shape := ⟨6, ![2, 128, 128, 2, 4, 64]⟩
abbrev S2x16384x128 : Shape := ⟨3, ![2, 16384, 128]⟩
abbrev S2x128x128x2x64 : Shape := ⟨5, ![2, 128, 128, 2, 64]⟩
abbrev S2x1x128x2x64 : Shape := ⟨5, ![2, 1, 128, 2, 64]⟩
abbrev S_ : Shape := ⟨0, ![]⟩
abbrev S2x127x128x2x64 : Shape := ⟨5, ![2, 127, 128, 2, 64]⟩
abbrev S2x128x256x2x64 : Shape := ⟨5, ![2, 128, 256, 2, 64]⟩
abbrev S2x128x2x256x128x4 : Shape := ⟨6, ![2, 128, 2, 256, 128, 4]⟩
abbrev S2x128x2x4x128x256 : Shape := ⟨6, ![2, 128, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x128x256 : Shape := ⟨3, ![1, 128, 256]⟩
abbrev S1x1x256 : Shape := ⟨3, ![1, 1, 256]⟩
abbrev S128x1x256 : Shape := ⟨3, ![128, 1, 256]⟩
abbrev S128x128x256 : Shape := ⟨3, ![128, 128, 256]⟩
abbrev S1x128x1x1x128x256 : Shape := ⟨6, ![1, 128, 1, 1, 128, 256]⟩
abbrev S1x1x2x4x1x1 : Shape := ⟨6, ![1, 1, 2, 4, 1, 1]⟩
abbrev S2x128x2x4x128 : Shape := ⟨5, ![2, 128, 2, 4, 128]⟩
abbrev S2x128x2x4x128x1 : Shape := ⟨6, ![2, 128, 2, 4, 128, 1]⟩
abbrev S2x128x2x64x4x128 : Shape := ⟨6, ![2, 128, 2, 64, 4, 128]⟩
abbrev S32768x512 : Shape := ⟨2, ![32768, 512]⟩

abbrev nBuf : Space → Nat
  | .hbm => 92
  | .vmem => 0
  | .smem => 0
  | _ => 0

abbrev bufTy : (tb : Table) → Fin (tcTables nBuf tb) → BufTy
  | .hbm, ⟨0, _⟩ => ⟨S2x16384x768, .f32⟩
  | .hbm, ⟨1, _⟩ => ⟨S8, .f32⟩
  | .hbm, ⟨2, _⟩ => ⟨S2x16384x512, .f32⟩
  | .hbm, ⟨3, _⟩ => ⟨S2x128x128x2x4x64, .f32⟩
  | .hbm, ⟨4, _⟩ => ⟨S2x16384x128, .f32⟩
  | .hbm, ⟨5, _⟩ => ⟨S2x128x128x2x64, .f32⟩
  | .hbm, ⟨6, _⟩ => ⟨S2x16384x128, .f32⟩
  | .hbm, ⟨7, _⟩ => ⟨S2x128x128x2x64, .f32⟩
  | .hbm, ⟨8, _⟩ => ⟨S2x1x128x2x64, .f32⟩
  | .hbm, ⟨9, _⟩ => ⟨S_, .f32⟩
  | .hbm, ⟨10, _⟩ => ⟨S2x1x128x2x64, .f32⟩
  | .hbm, ⟨11, _⟩ => ⟨S2x127x128x2x64, .f32⟩
  | .hbm, ⟨12, _⟩ => ⟨S2x128x128x2x64, .f32⟩
  | .hbm, ⟨13, _⟩ => ⟨S2x128x256x2x64, .f32⟩
  | .hbm, ⟨14, _⟩ => ⟨S2x1x128x2x64, .f32⟩
  | .hbm, ⟨15, _⟩ => ⟨S_, .f32⟩
  | .hbm, ⟨16, _⟩ => ⟨S2x1x128x2x64, .f32⟩
  | .hbm, ⟨17, _⟩ => ⟨S2x127x128x2x64, .f32⟩
  | .hbm, ⟨18, _⟩ => ⟨S2x128x128x2x64, .f32⟩
  | .hbm, ⟨19, _⟩ => ⟨S2x128x256x2x64, .f32⟩
  | .hbm, ⟨20, _⟩ => ⟨S2x128x2x256x128x4, .f32⟩
  | .hbm, ⟨21, _⟩ => ⟨S2x128x2x4x128x256, .f32⟩
  | .hbm, ⟨22, _⟩ => ⟨S_, .f32⟩
  | .hbm, ⟨23, _⟩ => ⟨S2x128x2x4x128x256, .f32⟩
  | .hbm, ⟨24, _⟩ => ⟨S2x128x2x4x128x256, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S_, .i32⟩
  | .hbm, ⟨30, _⟩ => ⟨S1x256, .i32⟩
  | .hbm, ⟨31, _⟩ => ⟨S1x256, .i32⟩
  | .hbm, ⟨32, _⟩ => ⟨S128x256, .i32⟩
  | .hbm, ⟨33, _⟩ => ⟨S128x256, .i32⟩
  | .hbm, ⟨34, _⟩ => ⟨S128x256, .i1⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x256, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S128, .i32⟩
  | .hbm, ⟨43, _⟩ => ⟨S128x1x1, .i32⟩
  | .hbm, ⟨44, _⟩ => ⟨S_, .i32⟩
  | .hbm, ⟨45, _⟩ => ⟨S128x1x1, .i32⟩
  | .hbm, ⟨46, _⟩ => ⟨S128x1x1, .i1⟩
  | .hbm, ⟨47, _⟩ => ⟨S1x128x256, .i1⟩
  | .hbm, ⟨48, _⟩ => ⟨S_, .i32⟩
  | .hbm, ⟨49, _⟩ => ⟨S1x256, .i32⟩
  | .hbm, ⟨50, _⟩ => ⟨S1x256, .i1⟩
  | .hbm, ⟨51, _⟩ => ⟨S1x1x256, .i1⟩
  | .hbm, ⟨52, _⟩ => ⟨S128x1x256, .i1⟩
  | .hbm, ⟨53, _⟩ => ⟨S128x1x256, .i1⟩
  | .hbm, ⟨54, _⟩ => ⟨S128x1x256, .i1⟩
  | .hbm, ⟨55, _⟩ => ⟨S128x1x256, .i1⟩
  | .hbm, ⟨56, _⟩ => ⟨S128x128x256, .i1⟩
  | .hbm, ⟨57, _⟩ => ⟨S128x128x256, .i1⟩
  | .hbm, ⟨58, _⟩ => ⟨S128x128x256, .i1⟩
  | .hbm, ⟨59, _⟩ => ⟨S1x128x1x1x128x256, .i1⟩
  | .hbm, ⟨60, _⟩ => ⟨S1x1x2x4x1x1, .f32⟩
  | .hbm, ⟨61, _⟩ => ⟨S_, .f32⟩
  | .hbm, ⟨62, _⟩ => ⟨S_, .f32⟩
  | .hbm, ⟨63, _⟩ => ⟨S2x128x2x4x128x256, .i1⟩
  | .hbm, ⟨64, _⟩ => ⟨S2x128x2x4x128x256, .f32⟩
  | .hbm, ⟨65, _⟩ => ⟨S2x128x2x4x128x256, .f32⟩
  | .hbm, ⟨66, _⟩ => ⟨S_, .f32⟩
  | .hbm, ⟨67, _⟩ => ⟨S2x128x2x4x128, .f32⟩
  | .hbm, ⟨68, _⟩ => ⟨S2x128x2x4x128x1, .f32⟩
  | .hbm, ⟨69, _⟩ => ⟨S2x128x2x4x128x1, .f32⟩
  | .hbm, ⟨70, _⟩ => ⟨S2x128x2x4x128x1, .f32⟩
  | .hbm, ⟨71, _⟩ => ⟨S2x128x2x4x128x256, .f32⟩
  | .hbm, ⟨72, _⟩ => ⟨S2x128x2x4x128x256, .f32⟩
  | .hbm, ⟨73, _⟩ => ⟨S2x128x2x4x128x256, .f32⟩
  | .hbm, ⟨74, _⟩ => ⟨S_, .f32⟩
  | .hbm, ⟨75, _⟩ => ⟨S_, .f32⟩
  | .hbm, ⟨76, _⟩ => ⟨S2x128x2x4x128x256, .i1⟩
  | .hbm, ⟨77, _⟩ => ⟨S2x128x2x4x128x256, .f32⟩
  | .hbm, ⟨78, _⟩ => ⟨S2x128x2x4x128x256, .f32⟩
  | .hbm, ⟨79, _⟩ => ⟨S_, .f32⟩
  | .hbm, ⟨80, _⟩ => ⟨S2x128x2x4x128, .f32⟩
  | .hbm, ⟨81, _⟩ => ⟨S2x128x2x4x128x1, .f32⟩
  | .hbm, ⟨82, _⟩ => ⟨S2x128x2x4x128x1, .f32⟩
  | .hbm, ⟨83, _⟩ => ⟨S2x128x2x4x128x1, .f32⟩
  | .hbm, ⟨84, _⟩ => ⟨S2x128x2x4x128x1, .f32⟩
  | .hbm, ⟨85, _⟩ => ⟨S2x128x2x4x128x1, .f32⟩
  | .hbm, ⟨86, _⟩ => ⟨S2x128x2x4x128x256, .f32⟩
  | .hbm, ⟨87, _⟩ => ⟨S2x128x2x4x128x256, .f32⟩
  | .hbm, ⟨88, _⟩ => ⟨S2x128x2x64x4x128, .f32⟩
  | .hbm, ⟨89, _⟩ => ⟨S2x128x128x2x4x64, .f32⟩
  | .hbm, ⟨90, _⟩ => ⟨S32768x512, .f32⟩
  | .hbm, ⟨91, _⟩ => ⟨S32768x512, .bf16⟩
  | _, _ => ⟨S2x16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_5 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_7 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x16384x512 : Shape := ⟨3, ![2, 16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S32768x512 : Shape := ⟨2, ![32768, 512]⟩
abbrev S512x1024 : Shape := ⟨2, ![512, 1024]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 22
  | .vmem => 19
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S32768x1024, .f32⟩
  | .hbm, ⟨9, _⟩ => ⟨S32768x512, .f32⟩
  | .hbm, ⟨10, _⟩ => ⟨S32768x512, .bf16⟩
  | .hbm, ⟨11, _⟩ => ⟨S32768x512, .f32⟩
  | .hbm, ⟨12, _⟩ => ⟨S32768x512, .bf16⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S1x1024, .f32⟩
  | .hbm, ⟨18, _⟩ => ⟨S1024x4096, .bf16⟩
  | .hbm, ⟨19, _⟩ => ⟨S4096x1024, .bf16⟩
  | .hbm, ⟨20, _⟩ => ⟨S1x1024, .f32⟩
  | .hbm, ⟨21, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S2x16384x1024 : Shape := ⟨3, ![2, 16384, 1024]⟩
abbrev S2x16384x512 : Shape := ⟨3, ![2, 16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4096 : Shape := ⟨3, ![2, 16384, 4096]⟩
abbrev S32768x1024 : Shape := ⟨2, ![32768, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S2x16384x1024, .f32⟩
  | .hbm, ⟨9, _⟩ => ⟨S2x16384x1024, .f32⟩
  | .hbm, ⟨10, _⟩ => ⟨S2x16384x1024, .f32⟩
  | .hbm, ⟨11, _⟩ => ⟨S2x16384x1024, .f32⟩
  | .hbm, ⟨12, _⟩ => ⟨S_, .f32⟩
  | .hbm, ⟨13, _⟩ => ⟨S2x16384, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S2x16384x1, .f32⟩
  | .hbm, ⟨22, _⟩ => ⟨S2x16384x1024, .f32⟩
  | .hbm, ⟨23, _⟩ => ⟨S2x16384x1024, .f32⟩
  | .hbm, ⟨24, _⟩ => ⟨S1x1x1024, .f32⟩
  | .hbm, ⟨25, _⟩ => ⟨S2x16384x1024, .f32⟩
  | .hbm, ⟨26, _⟩ => ⟨S2x16384x1024, .f32⟩
  | .hbm, ⟨27, _⟩ => ⟨S2x16384x4096, .f32⟩
  | .hbm, ⟨28, _⟩ => ⟨S_, .f32⟩
  | .hbm, ⟨29, _⟩ => ⟨S2x16384x4096, .f32⟩
  | .hbm, ⟨30, _⟩ => ⟨S2x16384x4096, .f32⟩
  | .hbm, ⟨31, _⟩ => ⟨S2x16384x4096, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S_, .f32⟩
  | .hbm, ⟨36, _⟩ => ⟨S2x16384, .f32⟩
  | .hbm, ⟨37, _⟩ => ⟨S2x16384x1, .f32⟩
  | .hbm, ⟨38, _⟩ => ⟨S_, .f32⟩
  | .hbm, ⟨39, _⟩ => ⟨S2x16384x1, .f32⟩
  | .hbm, ⟨40, _⟩ => ⟨S2x16384x1, .f32⟩
  | .hbm, ⟨41, _⟩ => ⟨S_, .f32⟩
  | .hbm, ⟨42, _⟩ => ⟨S2x16384x1, .f32⟩
  | .hbm, ⟨43, _⟩ => ⟨S2x16384x1, .f32⟩
  | .hbm, ⟨44, _⟩ => ⟨S2x16384x1, .f32⟩
  | .hbm, ⟨45, _⟩ => ⟨S2x16384x1024, .f32⟩
  | .hbm, ⟨46, _⟩ => ⟨S2x16384x1024, .f32⟩
  | .hbm, ⟨47, _⟩ => ⟨S1x1x1024, .f32⟩
  | .hbm, ⟨48, _⟩ => ⟨S2x16384x1024, .f32⟩
  | .hbm, ⟨49, _⟩ => ⟨S2x16384x1024, .f32⟩
  | .hbm, ⟨50, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x16384x512 : Shape := ⟨3, ![2, 16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S32768x512 : Shape := ⟨2, ![32768, 512]⟩
abbrev S512x1024 : Shape := ⟨2, ![512, 1024]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 22
  | .vmem => 19
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S32768x1024, .f32⟩
  | .hbm, ⟨9, _⟩ => ⟨S32768x512, .f32⟩
  | .hbm, ⟨10, _⟩ => ⟨S32768x512, .bf16⟩
  | .hbm, ⟨11, _⟩ => ⟨S32768x512, .f32⟩
  | .hbm, ⟨12, _⟩ => ⟨S32768x512, .bf16⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S1x1024, .f32⟩
  | .hbm, ⟨18, _⟩ => ⟨S1024x4096, .bf16⟩
  | .hbm, ⟨19, _⟩ => ⟨S4096x1024, .bf16⟩
  | .hbm, ⟨20, _⟩ => ⟨S1x1024, .f32⟩
  | .hbm, ⟨21, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S2x16384x1024 : Shape := ⟨3, ![2, 16384, 1024]⟩
abbrev S2x16384x512 : Shape := ⟨3, ![2, 16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4096 : Shape := ⟨3, ![2, 16384, 4096]⟩
abbrev S32768x1024 : Shape := ⟨2, ![32768, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S2x16384x1024, .f32⟩
  | .hbm, ⟨9, _⟩ => ⟨S2x16384x1024, .f32⟩
  | .hbm, ⟨10, _⟩ => ⟨S2x16384x1024, .f32⟩
  | .hbm, ⟨11, _⟩ => ⟨S2x16384x1024, .f32⟩
  | .hbm, ⟨12, _⟩ => ⟨S_, .f32⟩
  | .hbm, ⟨13, _⟩ => ⟨S2x16384, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S2x16384x1, .f32⟩
  | .hbm, ⟨22, _⟩ => ⟨S2x16384x1024, .f32⟩
  | .hbm, ⟨23, _⟩ => ⟨S2x16384x1024, .f32⟩
  | .hbm, ⟨24, _⟩ => ⟨S1x1x1024, .f32⟩
  | .hbm, ⟨25, _⟩ => ⟨S2x16384x1024, .f32⟩
  | .hbm, ⟨26, _⟩ => ⟨S2x16384x1024, .f32⟩
  | .hbm, ⟨27, _⟩ => ⟨S2x16384x4096, .f32⟩
  | .hbm, ⟨28, _⟩ => ⟨S_, .f32⟩
  | .hbm, ⟨29, _⟩ => ⟨S2x16384x4096, .f32⟩
  | .hbm, ⟨30, _⟩ => ⟨S2x16384x4096, .f32⟩
  | .hbm, ⟨31, _⟩ => ⟨S2x16384x4096, .f32⟩
  | .hbm, ⟨32, _⟩ => ⟨S2x16384x1024, .f32⟩
  | .hbm, ⟨33, _⟩ => ⟨S2x16384x1024, .f32⟩
  | .hbm, ⟨34, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== Kernel4.lean ====
abbrev S2x16384x1024 : Shape := ⟨3, ![2, 16384, 1024]⟩
abbrev S1024 : Shape := ⟨1, ![1024]⟩
abbrev S1024x1280 : Shape := ⟨2, ![1024, 1280]⟩
abbrev S32768x1024 : Shape := ⟨2, ![32768, 1024]⟩
abbrev S_ : Shape := ⟨0, ![]⟩
abbrev S1024x512 : Shape := ⟨2, ![1024, 512]⟩
abbrev S1024x128 : Shape := ⟨2, ![1024, 128]⟩
abbrev S512x1024 : Shape := ⟨2, ![512, 1024]⟩
abbrev S128x1024 : Shape := ⟨2, ![128, 1024]⟩
abbrev S1x1024 : Shape := ⟨2, ![1, 1024]⟩
abbrev S256x512x128 : Shape := ⟨3, ![256, 512, 128]⟩
abbrev S32768x128 : Shape := ⟨2, ![32768, 128]⟩
abbrev S256x128x128 : Shape := ⟨3, ![256, 128, 128]⟩
abbrev S32768x512 : Shape := ⟨2, ![32768, 512]⟩
abbrev S1024x16384 : Shape := ⟨2, ![1024, 16384]⟩
abbrev S4x512x128 : Shape := ⟨3, ![4, 512, 128]⟩
abbrev S512x128 : Shape := ⟨2, ![512, 128]⟩
abbrev S4x128x128 : Shape := ⟨3, ![4, 128, 128]⟩
abbrev S512x512 : Shape := ⟨2, ![512, 512]⟩
abbrev S16x16384 : Shape := ⟨2, ![16, 16384]⟩
abbrev S512 : Shape := ⟨1, ![512]⟩
abbrev S512x1 : Shape := ⟨2, ![512, 1]⟩
abbrev S1x512x128 : Shape := ⟨3, ![1, 512, 128]⟩
abbrev S128x512 : Shape := ⟨2, ![128, 512]⟩
abbrev S128x128 : Shape := ⟨2, ![128, 128]⟩
abbrev S1x128x128 : Shape := ⟨3, ![1, 128, 128]⟩
abbrev S1x16x128 : Shape := ⟨3, ![1, 16, 128]⟩
abbrev S16x128 : Shape := ⟨2, ![16, 128]⟩

abbrev nBuf : Space → Nat
  | .hbm => 28
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x1280, .f32⟩
  | .hbm, ⟨3, _⟩ => ⟨S32768x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x128, .f32⟩
  | .hbm, ⟨14, _⟩ => ⟨S1024x128, .f32⟩
  | .hbm, ⟨15, _⟩ => ⟨S1024x512, .f32⟩
  | .hbm, ⟨16, _⟩ => ⟨S512x1024, .f32⟩
  | .hbm, ⟨17, _⟩ => ⟨S512x1024, .bf16⟩
  | .hbm, ⟨18, _⟩ => ⟨S1024x128, .bf16⟩
  | .hbm, ⟨19, _⟩ => ⟨S128x1024, .f32⟩
  | .hbm, ⟨20, _⟩ => ⟨S128x1024, .bf16⟩
  | .hbm, ⟨21, _⟩ => ⟨S1024x512, .bf16⟩
  | .hbm, ⟨22, _⟩ => ⟨S1x1024, .f32⟩
  | .hbm, ⟨23, _⟩ => ⟨S256x512x128, .bf16⟩
  | .hbm, ⟨24, _⟩ => ⟨S32768x128, .bf16⟩
  | .hbm, ⟨25, _⟩ => ⟨S256x128x128, .bf16⟩
  | .hbm, ⟨26, _⟩ => ⟨S32768x512, .f32⟩
  | .hbm, ⟨27, _⟩ => ⟨S1024x16384, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S1024x128, .bf16⟩
  | .local _ .vmem, ⟨5, _⟩ => ⟨S128x1024, .bf16⟩
  | .local _ .vmem, ⟨6, _⟩ => ⟨S1024x512, .bf16⟩
  | .local _ .vmem, ⟨7, _⟩ => ⟨S4x512x128, .bf16⟩
  | .local _ .vmem, ⟨8, _⟩ => ⟨S4x512x128, .bf16⟩
  | .local _ .vmem, ⟨9, _⟩ => ⟨S512x128, .bf16⟩
  | .local _ .vmem, ⟨10, _⟩ => ⟨S512x128, .bf16⟩
  | .local _ .vmem, ⟨11, _⟩ => ⟨S4x128x128, .bf16⟩
  | .local _ .vmem, ⟨12, _⟩ => ⟨S4x128x128, .bf16⟩
  | .local _ .vmem, ⟨13, _⟩ => ⟨S512x512, .f32⟩
  | .local _ .vmem, ⟨14, _⟩ => ⟨S512x512, .f32⟩
  | .local _ .vmem, ⟨15, _⟩ => ⟨S16x16384, .bf16⟩
  | .local _ .vmem, ⟨16, _⟩ => ⟨S16x16384, .bf16⟩
  | .local _ .vmem, ⟨17, _⟩ => ⟨S4x512x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev main_v17_3 : Ref sig .tc := ⟨.hbm, 26, rfl⟩
abbrev main_v17_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x16384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S2x16384x1024 : Shape := ⟨3, ![2, 16384, 1024]⟩
abbrev S1024 : Shape := ⟨1, ![1024]⟩
abbrev S1024x1280 : Shape := ⟨2, ![1024, 1280]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x1280 : Shape := ⟨3, ![2, 16384, 1280]⟩
abbrev S32768x1280 : Shape := ⟨2, ![32768, 1280]⟩
abbrev S32768x512 : Shape := ⟨2, ![32768, 512]⟩
abbrev S256x128x512 : Shape := ⟨3, ![256, 128, 512]⟩
abbrev S256x512x128 : Shape := ⟨3, ![256, 512, 128]⟩
abbrev S32768x128 : Shape := ⟨2, ![32768, 128]⟩
abbrev S256x128x128 : Shape := ⟨3, ![256, 128, 128]⟩
abbrev S1024x32x4x128 : Shape := ⟨4, ![1024, 32, 4, 128]⟩
abbrev S1024x4x32x128 : Shape := ⟨4, ![1024, 4, 32, 128]⟩
abbrev S1024x16384 : Shape := ⟨2, ![1024, 16384]⟩

abbrev nBuf : Space → Nat
  | .hbm => 43
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x1280, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x1280, .f32⟩
  | .hbm, ⟨20, _⟩ => ⟨S32768x1280, .f32⟩
  | .hbm, ⟨21, _⟩ => ⟨S32768x512, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S_, .f32⟩
  | .hbm, ⟨26, _⟩ => ⟨S_, .f32⟩
  | .hbm, ⟨27, _⟩ => ⟨S32768x512, .f32⟩
  | .hbm, ⟨28, _⟩ => ⟨S32768x512, .f32⟩
  | .hbm, ⟨29, _⟩ => ⟨S256x128x512, .f32⟩
  | .hbm, ⟨30, _⟩ => ⟨S256x512x128, .f32⟩
  | .hbm, ⟨31, _⟩ => ⟨S256x512x128, .bf16⟩
  | .hbm, ⟨32, _⟩ => ⟨S32768x128, .f32⟩
  | .hbm, ⟨33, _⟩ => ⟨S32768x128, .bf16⟩
  | .hbm, ⟨34, _⟩ => ⟨S32768x128, .f32⟩
  | .hbm, ⟨35, _⟩ => ⟨S256x128x128, .f32⟩
  | .hbm, ⟨36, _⟩ => ⟨S256x128x128, .f32⟩
  | .hbm, ⟨37, _⟩ => ⟨S256x128x128, .bf16⟩
  | .hbm, ⟨38, _⟩ => ⟨S32768x512, .f32⟩
  | .hbm, ⟨39, _⟩ => ⟨S1024x32x4x128, .f32⟩
  | .hbm, ⟨40, _⟩ => ⟨S1024x4x32x128, .f32⟩
  | .hbm, ⟨41, _⟩ => ⟨S1024x16384, .f32⟩
  | .hbm, ⟨42, _⟩ => ⟨S1024x16384, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Kernel6.lean ====
abbrev S2x16384x512 : Shape := ⟨3, ![2, 16384, 512]⟩
abbrev S512 : Shape := ⟨1, ![512]⟩
abbrev S512x512 : Shape := ⟨2, ![512, 512]⟩
abbrev S32768x512 : Shape := ⟨2, ![32768, 512]⟩
abbrev S1x512 : Shape := ⟨2, ![1, 512]⟩
abbrev S1024x512 : Shape := ⟨2, ![1024, 512]⟩

abbrev nBuf : Space → Nat
  | .hbm => 12
  | .vmem => 9
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S32768x512, .f32⟩
  | .hbm, ⟨6, _⟩ => ⟨S32768x512, .bf16⟩
  | .hbm, ⟨7, _⟩ => ⟨S32768x512, .f32⟩
  | .hbm, ⟨8, _⟩ => ⟨S1x512, .f32⟩
  | .hbm, ⟨9, _⟩ => ⟨S512x512, .bf16⟩
  | .hbm, ⟨10, _⟩ => ⟨S1x512, .f32⟩
  | .hbm, ⟨11, _⟩ => ⟨S32768x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S1024x512, .bf16⟩
  | .local _ .vmem, ⟨8, _⟩ => ⟨S1024x512, .bf16⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S2x16384x512 : Shape := ⟨3, ![2, 16384, 512]⟩
abbrev S512 : Shape := ⟨1, ![512]⟩
abbrev S512x512 : Shape := ⟨2, ![512, 512]⟩
abbrev S2x16384x32x16 : Shape := ⟨4, ![2, 16384, 32, 16]⟩
abbrev S32x16 : Shape := ⟨2, ![32, 16]⟩
abbrev S1x1x32x16 : Shape := ⟨4, ![1, 1, 32, 16]⟩
abbrev S_ : Shape := ⟨0, ![]⟩
abbrev S1x1x512 : Shape := ⟨3, ![1, 1, 512]⟩
abbrev S32768x512 : Shape := ⟨2, ![32768, 512]⟩

abbrev nBuf : Space → Nat
  | .hbm => 45
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S2x16384x32x16, .f32⟩
  | .hbm, ⟨6, _⟩ => ⟨S2x16384x32x16, .f32⟩
  | .hbm, ⟨7, _⟩ => ⟨S32x16, .f32⟩
  | .hbm, ⟨8, _⟩ => ⟨S1x1x32x16, .f32⟩
  | .hbm, ⟨9, _⟩ => ⟨S2x16384x32x16, .f32⟩
  | .hbm, ⟨10, _⟩ => ⟨S2x16384x32x16, .f32⟩
  | .hbm, ⟨11, _⟩ => ⟨S2x16384x32x16, .f32⟩
  | .hbm, ⟨12, _⟩ => ⟨S2x16384x512, .f32⟩
  | .hbm, ⟨13, _⟩ => ⟨S2x16384x512, .f32⟩
  | .hbm, ⟨14, _⟩ => ⟨S2x16384x512, .f32⟩
  | .hbm, ⟨15, _⟩ => ⟨S_, .f32⟩
  | .hbm, ⟨16, _⟩ => ⟨S2x16384x512, .f32⟩
  | .hbm, ⟨17, _⟩ => ⟨S2x16384x512, .f32⟩
  | .hbm, ⟨18, _⟩ => ⟨S2x16384x512, .f32⟩
  | .hbm, ⟨19, _⟩ => ⟨S_, .f32⟩
  | .hbm, ⟨20, _⟩ => ⟨S2x16384x512, .f32⟩
  | .hbm, ⟨21, _⟩ => ⟨S2x16384x512, .f32⟩
  | .hbm, ⟨22, _⟩ => ⟨S2x16384x512, .f32⟩
  | .hbm, ⟨23, _⟩ => ⟨S_, .f32⟩
  | .hbm, ⟨24, _⟩ => ⟨S2x16384x512, .f32⟩
  | .hbm, ⟨25, _⟩ => ⟨S2x16384x512, .f32⟩
  | .hbm, ⟨26, _⟩ => ⟨S_, .f32⟩
  | .hbm, ⟨27, _⟩ => ⟨S2x16384x512, .f32⟩
  | .hbm, ⟨28, _⟩ => ⟨S2x16384x512, .f32⟩
  | .hbm, ⟨29, _⟩ => ⟨S2x16384x512, .f32⟩
  | .hbm, ⟨30, _⟩ => ⟨S2x16384x512, .f32⟩
  | .hbm, ⟨31, _⟩ => ⟨S1x1x512, .f32⟩
  | .hbm, ⟨32, _⟩ => ⟨S2x16384x512, .f32⟩
  | .hbm, ⟨33, _⟩ => ⟨S2x16384x512, .f32⟩
  | .hbm, ⟨34, _⟩ => ⟨S2x16384x512, .f32⟩
  | .hbm, ⟨35, _⟩ => ⟨S2x16384x512, .f32⟩
  | .hbm, ⟨36, _⟩ => ⟨S_, .f32⟩
  | .hbm, ⟨37, _⟩ => ⟨S2x16384x512, .f32⟩
  | .hbm, ⟨38, _⟩ => ⟨S2x16384x512, .f32⟩
  | .hbm, ⟨39, _⟩ => ⟨S_, .f32⟩
  | .hbm, ⟨40, _⟩ => ⟨S2x16384x512, .f32⟩
  | .hbm, ⟨41, _⟩ => ⟨S2x16384x512, .f32⟩
  | .hbm, ⟨42, _⟩ => ⟨S2x16384x512, .f32⟩
  | .hbm, ⟨43, _⟩ => ⟨S32768x512, .f32⟩
  | .hbm, ⟨44, _⟩ => ⟨S32768x512, .bf16⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel5.lean ====
abbrev S2x16384x1024 : Shape := ⟨3, ![2, 16384, 1024]⟩
abbrev S1024 : Shape := ⟨1, ![1024]⟩
abbrev S1024x2848 : Shape := ⟨2, ![1024, 2848]⟩
abbrev S32768x1024 : Shape := ⟨2, ![32768, 1024]⟩
abbrev S_ : Shape := ⟨0, ![]⟩
abbrev S1024x1544 : Shape := ⟨2, ![1024, 1544]⟩
abbrev S1024x120 : Shape := ⟨2, ![1024, 120]⟩
abbrev S1024x1664 : Shape := ⟨2, ![1024, 1664]⟩
abbrev S1024x512 : Shape := ⟨2, ![1024, 512]⟩
abbrev S1024x128 : Shape := ⟨2, ![1024, 128]⟩
abbrev S1024x24 : Shape := ⟨2, ![1024, 24]⟩
abbrev S1024x2x4x3 : Shape := ⟨4, ![1024, 2, 4, 3]⟩
abbrev S1024x2x3x4 : Shape := ⟨4, ![1024, 2, 3, 4]⟩
abbrev S1024x2x12 : Shape := ⟨3, ![1024, 2, 12]⟩
abbrev S1024x2x4 : Shape := ⟨3, ![1024, 2, 4]⟩
abbrev S1024x2x16 : Shape := ⟨3, ![1024, 2, 16]⟩
abbrev S1024x32 : Shape := ⟨2, ![1024, 32]⟩
abbrev S1024x256 : Shape := ⟨2, ![1024, 256]⟩
abbrev S1024x2x64 : Shape := ⟨3, ![1024, 2, 64]⟩
abbrev S1024x2x128 : Shape := ⟨3, ![1024, 2, 128]⟩
abbrev S512x256 : Shape := ⟨2, ![512, 256]⟩
abbrev S512x1024 : Shape := ⟨2, ![512, 1024]⟩
abbrev S256x1024 : Shape := ⟨2, ![256, 1024]⟩
abbrev S32x1024 : Shape := ⟨2, ![32, 1024]⟩
abbrev S1x1024 : Shape := ⟨2, ![1, 1024]⟩
abbrev S32768x1664 : Shape := ⟨2, ![32768, 1664]⟩
abbrev S256x512x128 : Shape := ⟨3, ![256, 512, 128]⟩
abbrev S2048x4096 : Shape := ⟨2, ![2048, 4096]⟩
abbrev S32768x256 : Shape := ⟨2, ![32768, 256]⟩
abbrev S256x256x128 : Shape := ⟨3, ![256, 256, 128]⟩
abbrev S256x32x128 : Shape := ⟨3, ![256, 32, 128]⟩
abbrev S512x1664 : Shape := ⟨2, ![512, 1664]⟩
abbrev S4x512x128 : Shape := ⟨3, ![4, 512, 128]⟩
abbrev S32x4096 : Shape := ⟨2, ![32, 4096]⟩
abbrev S4x256x128 : Shape := ⟨3, ![4, 256, 128]⟩
abbrev S4x32x128 : Shape := ⟨3, ![4, 32, 128]⟩
abbrev S2x512x128 : Shape := ⟨3, ![2, 512, 128]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x512x128 : Shape := ⟨3, ![1, 512, 128]⟩
abbrev S1x32x128 : Shape := ⟨3, ![1, 32, 128]⟩
abbrev S32x128 : Shape := ⟨2, ![32, 128]⟩
abbrev S32x64 : Shape := ⟨2, ![32, 64]⟩
abbrev S256x512 : Shape := ⟨2, ![256, 512]⟩
abbrev S256x128 : Shape := ⟨2, ![256, 128]⟩
abbrev S1x256x128 : Shape := ⟨3, ![1, 256, 128]⟩
abbrev S32x512 : Shape := ⟨2, ![32, 512]⟩

abbrev nBuf : Space → Nat
  | .hbm => 135
  | .vmem => 26
  | .smem => 0
  | _ => 0

abbrev hbmTy0_0 (i : Nat) : BufTy := match i % 128 with
  | 0 => ⟨S2x16384x1024, .f32⟩
  | 1 => ⟨S1024, .f32⟩
  | 2 => ⟨S1024x2848, .f32⟩
  | 3 => ⟨S32768x1024, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S1024x1544, .f32⟩
  | 11 => ⟨S_, .f32⟩
  | 12 => ⟨S1024x120, .f32⟩
  | 13 => ⟨S1024x1664, .f32⟩
  | 14 => ⟨S1024x512, .f32⟩
  | 15 => ⟨S1024x512, .f32⟩
  | 16 => ⟨S1024x512, .f32⟩
  | 17 => ⟨S1024x128, .f32⟩
  | 18 => ⟨S1024x128, .f32⟩
  | 19 => ⟨S1024x128, .f32⟩
  | 20 => ⟨S1024x128, .f32⟩
  | 21 => ⟨S1024x128, .f32⟩
  | 22 => ⟨S1024x128, .f32⟩
  | 23 => ⟨S1024x24, .f32⟩
  | 24 => ⟨S1024x2x4x3, .f32⟩
  | 25 => ⟨S1024x2x3x4, .f32⟩
  | 26 => ⟨S1024x2x12, .f32⟩
  | 27 => ⟨S_, .f32⟩
  | 28 => ⟨S1024x2x4, .f32⟩
  | 29 => ⟨S1024x2x16, .f32⟩
  | 30 => ⟨S1024x32, .f32⟩
  | 31 => ⟨S1024x256, .f32⟩
  | 32 => ⟨S1024x2x64, .f32⟩
  | 33 => ⟨S_, .f32⟩
  | 34 => ⟨S1024x2x64, .f32⟩
  | 35 => ⟨S1024x2x128, .f32⟩
  | 36 => ⟨S1024x256, .f32⟩
  | 37 => ⟨S512x256, .i32⟩
  | 38 => ⟨S512x256, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S512x256, .i32⟩
  | 46 => ⟨S512x256, .i32⟩
  | 47 => ⟨S_, .i32⟩
  | 48 => ⟨S512x256, .i32⟩
  | 49 => ⟨S512x256, .i1⟩
  | 50 => ⟨S_, .i32⟩
  | 51 => ⟨S512x256, .i32⟩
  | 52 => ⟨S512x256, .i1⟩
  | 53 => ⟨S_, .i32⟩
  | 54 => ⟨S_, .i1⟩
  | 55 => ⟨S512x256, .i1⟩
  | 56 => ⟨S512x256, .i1⟩
  | 57 => ⟨S512x256, .i1⟩
  | 58 => ⟨S512x256, .i32⟩
  | 59 => ⟨S512x256, .i32⟩
  | 60 => ⟨S512x256, .i32⟩
  | 61 => ⟨S_, .i32⟩
  | 62 => ⟨S_, .i32⟩
  | 63 => ⟨S512x256, .i32⟩
  | 64 => ⟨S512x256, .i32⟩
  | 65 => ⟨S512x256, .i32⟩
  | 66 => ⟨S_, .i32⟩
  | 67 => ⟨S512x256, .i32⟩
  | 68 => ⟨S512x256, .i1⟩
  | 69 => ⟨S512x256, .i32⟩
  | 70 => ⟨S512x256, .i32⟩
  | 71 => ⟨S_, .i32⟩
  | 72 => ⟨S512x256, .i32⟩
  | 73 => ⟨S512x256, .i1⟩
  | 74 => ⟨S512x256, .i1⟩
  | 75 => ⟨S_, .i32⟩
  | 76 => ⟨S512x256, .i32⟩
  | 77 => ⟨S512x256, .i32⟩
  | 78 => ⟨S512x256, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S512x256, .i32⟩
  | 86 => ⟨S512x256, .i32⟩
  | 87 => ⟨S_, .i32⟩
  | 88 => ⟨S512x256, .i32⟩
  | 89 => ⟨S512x256, .i1⟩
  | 90 => ⟨S_, .i32⟩
  | 91 => ⟨S512x256, .i32⟩
  | 92 => ⟨S512x256, .i1⟩
  | 93 => ⟨S_, .i32⟩
  | 94 => ⟨S_, .i1⟩
  | 95 => ⟨S512x256, .i1⟩
  | 96 => ⟨S512x256, .i1⟩
  | 97 => ⟨S512x256, .i1⟩
  | 98 => ⟨S512x256, .i32⟩
  | 99 => ⟨S512x256, .i32⟩
  | 100 => ⟨S512x256, .i32⟩
  | 101 => ⟨S_, .i32⟩
  | 102 => ⟨S512x256, .i32⟩
  | 103 => ⟨S512x256, .i32⟩
  | 104 => ⟨S512x256, .i1⟩
  | 105 => ⟨S_, .f32⟩
  | 106 => ⟨S_, .f32⟩
  | 107 => ⟨S512x256, .f32⟩
  | 108 => ⟨S512x256, .f32⟩
  | 109 => ⟨S512x256, .f32⟩
  | 110 => ⟨S512x256, .bf16⟩
  | 111 => ⟨S1024x2x64, .f32⟩
  | 112 => ⟨S_, .f32⟩
  | 113 => ⟨S1024x2x64, .f32⟩
  | 114 => ⟨S1024x2x128, .f32⟩
  | 115 => ⟨S1024x256, .f32⟩
  | 116 => ⟨S1024x256, .f32⟩
  | 117 => ⟨S1024x1664, .bf16⟩
  | 118 => ⟨S512x1024, .f32⟩
  | 119 => ⟨S512x1024, .bf16⟩
  | 120 => ⟨S1024x256, .bf16⟩
  | 121 => ⟨S1024x256, .bf16⟩
  | 122 => ⟨S1024x256, .bf16⟩
  | 123 => ⟨S256x1024, .f32⟩
  | 124 => ⟨S256x1024, .bf16⟩
  | 125 => ⟨S32x1024, .f32⟩
  | 126 => ⟨S32x1024, .bf16⟩
  | 127 => ⟨S1x1024, .f32⟩
  | _ => ⟨S2x16384x1024, .f32⟩

abbrev hbmTy0_1 (i : Nat) : BufTy := match i % 128 with
  | 0 => ⟨S32768x1664, .f32⟩
  | 1 => ⟨S256x512x128, .bf16⟩
  | 2 => ⟨S2048x4096, .f32⟩
  | 3 => ⟨S32768x256, .bf16⟩
  | 4 => ⟨S32768x256, .bf16⟩
  | 5 => ⟨S256x256x128, .bf16⟩
  | 6 => ⟨S256x32x128, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1664, .bf16⟩
  | .local _ .vmem, ⟨4, _⟩ => ⟨S512x1024, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S32x1024, .bf16⟩
  | .local _ .vmem, ⟨10, _⟩ => ⟨S512x256, .bf16⟩
  | .local _ .vmem, ⟨11, _⟩ => ⟨S512x1664, .f32⟩
  | .local _ .vmem, ⟨12, _⟩ => ⟨S512x1664, .f32⟩
  | .local _ .vmem, ⟨13, _⟩ => ⟨S4x512x128, .bf16⟩
  | .local _ .vmem, ⟨14, _⟩ => ⟨S4x512x128, .bf16⟩
  | .local _ .vmem, ⟨15, _⟩ => ⟨S32x4096, .f32⟩
  | .local _ .vmem, ⟨16, _⟩ => ⟨S32x4096, .f32⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S4x256x128, .bf16⟩
  | .local _ .vmem, ⟨22, _⟩ => ⟨S4x256x128, .bf16⟩
  | .local _ .vmem, ⟨23, _⟩ => ⟨S4x32x128, .f32⟩
  | .local _ .vmem, ⟨24, _⟩ => ⟨S4x32x128, .f32⟩
  | .local _ .vmem, ⟨25, _⟩ => ⟨S2x512x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_call0_v0 : Ref sig .tc := ⟨.hbm, 40, rfl⟩
abbrev main_call0_c : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_c_1 : Ref sig .tc := ⟨.hbm, 47, rfl⟩
abbrev main_call0_v5 : Ref sig .tc := ⟨.hbm, 48, rfl⟩
abbrev main_call0_v6 : Ref sig .tc := ⟨.hbm, 49, rfl⟩
abbrev main_call0_c_2 : Ref sig .tc := ⟨.hbm, 50, rfl⟩
abbrev main_call0_v7 : Ref sig .tc := ⟨.hbm, 51, rfl⟩
abbrev main_call0_v8 : Ref sig .tc := ⟨.hbm, 52, rfl⟩
abbrev main_call0_c_3 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_v30 : Ref sig .tc := ⟨.hbm, 60, rfl⟩
abbrev main_c_5 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_c : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_0 : Ref sig .tc := ⟨.hbm, 75, rfl⟩
abbrev main_call1_v12 : Ref sig .tc := ⟨.hbm, 76, rfl⟩
abbrev main_call1_v13 : Ref sig .tc := ⟨.hbm, 77, rfl⟩
abbrev main_v31 : Ref sig .tc := ⟨.hbm, 78, rfl⟩
abbrev main_c_6 : Ref sig .tc := ⟨.hbm, 79, rfl⟩
abbrev main_call2_v0 : Ref sig .tc := ⟨.hbm, 80, rfl⟩
abbrev main_call2_c : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_c_1 : Ref sig .tc := ⟨.hbm, 87, rfl⟩
abbrev main_call2_v5 : Ref sig .tc := ⟨.hbm, 88, rfl⟩
abbrev main_call2_v6 : Ref sig .tc := ⟨.hbm, 89, rfl⟩
abbrev main_call2_c_2 : Ref sig .tc := ⟨.hbm, 90, rfl⟩
abbrev main_call2_v7 : Ref sig .tc := ⟨.hbm, 91, rfl⟩
abbrev main_call2_v8 : Ref sig .tc := ⟨.hbm, 92, rfl⟩
abbrev main_call2_c_3 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_v32 : Ref sig .tc := ⟨.hbm, 100, rfl⟩
abbrev main_c_7 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_cst_8 : Ref sig .tc := ⟨.hbm, 105, rfl⟩
abbrev main_cst_9 : Ref sig .tc := ⟨.hbm, 106, rfl⟩
abbrev main_call3_v0 : Ref sig .tc := ⟨.hbm, 107, rfl⟩
abbrev main_call3_v1 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_cst_10 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54_0 : Ref sig .tc := ⟨.hbm, 128, rfl⟩
abbrev main_v54_1 : Ref sig .tc := ⟨.hbm, 129, rfl⟩
abbrev main_v54_2 : Ref sig .tc := ⟨.hbm, 130, rfl⟩
abbrev main_v54_3 : Ref sig .tc := ⟨.hbm, 131, rfl⟩
abbrev main_v54_4 : Ref sig .tc := ⟨.hbm, 132, rfl⟩
abbrev main_v54_5 : Ref sig .tc := ⟨.hbm, 133, rfl⟩
abbrev main_v54_6 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1664 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x32x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S2x16384x1024 : Shape := ⟨3, ![2, 16384, 1024]⟩
abbrev S1024 : Shape := ⟨1, ![1024]⟩
abbrev S1024x2848 : Shape := ⟨2, ![1024, 2848]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2848 : Shape := ⟨3, ![2, 16384, 2848]⟩
abbrev S32768x2848 : Shape := ⟨2, ![32768, 2848]⟩
abbrev S32768x1544 : Shape := ⟨2, ![32768, 1544]⟩
abbrev S32768x120 : Shape := ⟨2, ![32768, 120]⟩
abbrev S32768x1664 : Shape := ⟨2, ![32768, 1664]⟩
abbrev S32768x1304 : Shape := ⟨2, ![32768, 1304]⟩
abbrev S32768x512 : Shape := ⟨2, ![32768, 512]⟩
abbrev S256x128x512 : Shape := ⟨3, ![256, 128, 512]⟩
abbrev S256x512x128 : Shape := ⟨3, ![256, 512, 128]⟩
abbrev S32768x256 : Shape := ⟨2, ![32768, 256]⟩
abbrev S2048x16x4x64 : Shape := ⟨4, ![2048, 16, 4, 64]⟩
abbrev S2048x4x16x64 : Shape := ⟨4, ![2048, 4, 16, 64]⟩
abbrev S2048x4096 : Shape := ⟨2, ![2048, 4096]⟩
abbrev S8x8 : Shape := ⟨2, ![8, 8]⟩
abbrev S1x8x1x1x8 : Shape := ⟨5, ![1, 8, 1, 1, 8]⟩
abbrev S64x8x64x2x8 : Shape := ⟨5, ![64, 8, 64, 2, 8]⟩
abbrev S32768x2x8 : Shape := ⟨3, ![32768, 2, 8]⟩
abbrev S32768x128 : Shape := ⟨2, ![32768, 128]⟩
abbrev S32768x2x64 : Shape := ⟨3, ![32768, 2, 64]⟩
abbrev S32768x2x56 : Shape := ⟨3, ![32768, 2, 56]⟩
abbrev S32768x2x128 : Shape := ⟨3, ![32768, 2, 128]⟩
abbrev S256x128x256 : Shape := ⟨3, ![256, 128, 256]⟩
abbrev S256x256x128 : Shape := ⟨3, ![256, 256, 128]⟩
abbrev S32768x24 : Shape := ⟨2, ![32768, 24]⟩
abbrev S256x128x2x4x3 : Shape := ⟨5, ![256, 128, 2, 4, 3]⟩
abbrev S256x2x3x4x128 : Shape := ⟨5, ![256, 2, 3, 4, 128]⟩
abbrev S256x2x12x128 : Shape := ⟨4, ![256, 2, 12, 128]⟩
abbrev S256x2x4x128 : Shape := ⟨4, ![256, 2, 4, 128]⟩
abbrev S256x2x16x128 : Shape := ⟨4, ![256, 2, 16, 128]⟩
abbrev S256x32x128 : Shape := ⟨3, ![256, 32, 128]⟩

abbrev nBuf : Space → Nat
  | .hbm => 79
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2848, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x2848, .f32⟩
  | .hbm, ⟨20, _⟩ => ⟨S32768x2848, .f32⟩
  | .hbm, ⟨21, _⟩ => ⟨S32768x1544, .f32⟩
  | .hbm, ⟨22, _⟩ => ⟨S_, .f32⟩
  | .hbm, ⟨23, _⟩ => ⟨S32768x120, .f32⟩
  | .hbm, ⟨24, _⟩ => ⟨S32768x1664, .f32⟩
  | .hbm, ⟨25, _⟩ => ⟨S32768x1304, .f32⟩
  | .hbm, ⟨26, _⟩ => ⟨S32768x512, .f32⟩
  | .hbm, ⟨27, _⟩ => ⟨S_, .f32⟩
  | .hbm, ⟨28, _⟩ => ⟨S32768x512, .f32⟩
  | .hbm, ⟨29, _⟩ => ⟨S32768x512, .f32⟩
  | .hbm, ⟨30, _⟩ => ⟨S_, .f32⟩
  | .hbm, ⟨31, _⟩ => ⟨S_, .f32⟩
  | .hbm, ⟨32, _⟩ => ⟨S32768x512, .f32⟩
  | .hbm, ⟨33, _⟩ => ⟨S32768x512, .f32⟩
  | .hbm, ⟨34, _⟩ => ⟨S256x128x512, .f32⟩
  | .hbm, ⟨35, _⟩ => ⟨S256x512x128, .f32⟩
  | .hbm, ⟨36, _⟩ => ⟨S256x512x128, .bf16⟩
  | .hbm, ⟨37, _⟩ => ⟨S32768x256, .f32⟩
  | .hbm, ⟨38, _⟩ => ⟨S2048x16x4x64, .f32⟩
  | .hbm, ⟨39, _⟩ => ⟨S2048x4x16x64, .f32⟩
  | .hbm, ⟨40, _⟩ => ⟨S2048x4096, .f32⟩
  | .hbm, ⟨41, _⟩ => ⟨S8x8, .i32⟩
  | .hbm, ⟨42, _⟩ => ⟨S8x8, .i32⟩
  | .hbm, ⟨43, _⟩ => ⟨S_, .i32⟩
  | .hbm, ⟨44, _⟩ => ⟨S8x8, .i32⟩
  | .hbm, ⟨45, _⟩ => ⟨S8x8, .i32⟩
  | .hbm, ⟨46, _⟩ => ⟨S8x8, .i1⟩
  | .hbm, ⟨47, _⟩ => ⟨S8x8, .f32⟩
  | .hbm, ⟨48, _⟩ => ⟨S1x8x1x1x8, .f32⟩
  | .hbm, ⟨49, _⟩ => ⟨S64x8x64x2x8, .f32⟩
  | .hbm, ⟨50, _⟩ => ⟨S32768x2x8, .f32⟩
  | .hbm, ⟨51, _⟩ => ⟨S32768x128, .f32⟩
  | .hbm, ⟨52, _⟩ => ⟨S32768x2x64, .f32⟩
  | .hbm, ⟨53, _⟩ => ⟨S_, .f32⟩
  | .hbm, ⟨54, _⟩ => ⟨S32768x2x56, .f32⟩
  | .hbm, ⟨55, _⟩ => ⟨S32768x2x128, .f32⟩
  | .hbm, ⟨56, _⟩ => ⟨S32768x256, .f32⟩
  | .hbm, ⟨57, _⟩ => ⟨S32768x256, .bf16⟩
  | .hbm, ⟨58, _⟩ => ⟨S32768x128, .f32⟩
  | .hbm, ⟨59, _⟩ => ⟨S32768x2x64, .f32⟩
  | .hbm, ⟨60, _⟩ => ⟨S_, .f32⟩
  | .hbm, ⟨61, _⟩ => ⟨S32768x2x64, .f32⟩
  | .hbm, ⟨62, _⟩ => ⟨S32768x2x128, .f32⟩
  | .hbm, ⟨63, _⟩ => ⟨S32768x256, .f32⟩
  | .hbm, ⟨64, _⟩ => ⟨S32768x256, .bf16⟩
  | .hbm, ⟨65, _⟩ => ⟨S32768x128, .f32⟩
  | .hbm, ⟨66, _⟩ => ⟨S32768x128, .f32⟩
  | .hbm, ⟨67, _⟩ => ⟨S32768x256, .f32⟩
  | .hbm, ⟨68, _⟩ => ⟨S256x128x256, .f32⟩
  | .hbm, ⟨69, _⟩ => ⟨S256x256x128, .f32⟩
  | .hbm, ⟨70, _⟩ => ⟨S256x256x128, .bf16⟩
  | .hbm, ⟨71, _⟩ => ⟨S32768x24, .f32⟩
  | .hbm, ⟨72, _⟩ => ⟨S256x128x2x4x3, .f32⟩
  | .hbm, ⟨73, _⟩ => ⟨S256x2x3x4x128, .f32⟩
  | .hbm, ⟨74, _⟩ => ⟨S256x2x12x128, .f32⟩
  | .hbm, ⟨75, _⟩ => ⟨S_, .f32⟩
  | .hbm, ⟨76, _⟩ => ⟨S256x2x4x128, .f32⟩
  | .hbm, ⟨77, _⟩ => ⟨S256x2x16x128, .f32⟩
  | .hbm, ⟨78, _⟩ => ⟨S256x32x128, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_7 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩

abbrev nD : Nat := 1
abbrev τ : Topo := Topo.v7x

variable {F : FTy → Type} [FloatOps F]
-- ==== Proof.SwaKernel.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Swa

open Cert.KernelIdeal Cert.KernelIdeal.Gen Cert.KernelIdeal.Value

/-! ## One block of 128 queries, as the body computes it

    The body writes the same computation out for each of its four blocks and each head; these functions say it once. -/

/-- The running maximum of one head: the largest masked score of a query, or the sink if that is larger. -/
def headMax (x : FVec Ideal S256x128 .f32) (sk : Vec Ideal S1x128 .f32) : FVec Ideal S1x128 .f32 :=
  maximumf (shapeCast S1x128 (multiReduction .maximumf [0] S128 x 0xFF800000#32 reduces_S256x128_S128 (.inl rfl) rfl) shapeCasts_S128_S1x128)
    (shapeCast S1x128 sk shapeCasts_S1x128_S1x128)

/-- The exponentials of one head. -/
def headExp (x : FVec Ideal S256x128 .f32) (sk : Vec Ideal S1x128 .f32) : FVec Ideal S256x128 .f32 :=
  exp2 (subf x (broadcastTo S256x128 (headMax x sk) broadcasts_S1x128_S256x128))

/-- The denominators of one head. -/
def headDen (x : FVec Ideal S256x128 .f32) (sk : Vec Ideal S1x128 .f32) : FVec Ideal S1x128 .f32 :=
  addf (shapeCast S1x128 (multiReduction .add [0] S128 (headExp x sk) 0x00000000#32 reduces_S256x128_S128 (.inl rfl) rfl) shapeCasts_S128_S1x128)
    (exp2 (subf (shapeCast S1x128 sk shapeCasts_S1x128_S1x128) (headMax x sk)))

/-- The four heads' masked scores, cut out of a group's scores. -/
def sc0 (s : FVec Ideal S256x512 .f32) (b : FVec Ideal S256x128 .f32) : FVec Ideal S256x128 .f32 :=
  addf (extractStridedSlice S256x128 ![0, 0] s slices_S256x512_o0_0_S256x128) b
def sc1 (s : FVec Ideal S256x512 .f32) (b : FVec Ideal S256x128 .f32) : FVec Ideal S256x128 .f32 :=
  addf (extractStridedSlice S256x128 ![0, 128] s slices_S256x512_o0_128_S256x128) b
def sc2 (s : FVec Ideal S256x512 .f32) (b : FVec Ideal S256x128 .f32) : FVec Ideal S256x128 .f32 :=
  addf (extractStridedSlice S256x128 ![0, 256] s slices_S256x512_o0_256_S256x128) b
def sc3 (s : FVec Ideal S256x512 .f32) (b : FVec Ideal S256x128 .f32) : FVec Ideal S256x128 .f32 :=
  addf (extractStridedSlice S256x128 ![0, 384] s slices_S256x512_o0_384_S256x128) b

/-- The weighted values of a group's four heads, divided by the denominators. -/
def groupMat (vb : FVec Ideal S64x256 .bf16) (x0 x1 x2 x3 : FVec Ideal S256x128 .f32) (k0 k1 k2 k3 : Vec Ideal S1x128 .f32) : FVec Ideal S64x512 .f32 :=
  mulf (matmul dot_S64x256_S256x512_S64x512_1_0_0_1_n_n none vb
      (concatenate S256x512 1 [⟨S256x128, truncf .bf16 (headExp x0 k0) bitsLt_bf16_f32⟩, ⟨S256x128, truncf .bf16 (headExp x1 k1) bitsLt_bf16_f32⟩,
        ⟨S256x128, truncf .bf16 (headExp x2 k2) bitsLt_bf16_f32⟩, ⟨S256x128, truncf .bf16 (headExp x3 k3) bitsLt_bf16_f32⟩]
        concatenates_S256x128_S256x128_S256x128_S256x128_S256x512_d1) (constant S64x512 .f32 0x00000000#32))
    (broadcastTo S64x512 (divf (broadcast S1x512 (Scalar.ofBits .f32 0x3F800000#32))
      (concatenate S1x512 1 [⟨S1x128, headDen x0 k0⟩, ⟨S1x128, headDen x1 k1⟩, ⟨S1x128, headDen x2 k2⟩, ⟨S1x128, headDen x3 k3⟩]
        concatenates_S1x128_S1x128_S1x128_S1x128_S1x512_d1)) broadcasts_S1x512_S64x512)

/-- The same with a query per row and the heads side by side. -/
def groupOut (w : FVec Ideal S64x512 .f32) : FVec Ideal S128x256 .f32 :=
  transpose S128x256 [1, 0] (concatenate S256x128 0 [⟨S64x128, extractStridedSlice S64x128 ![0, 0] w slices_S64x512_o0_0_S64x128⟩,
    ⟨S64x128, extractStridedSlice S64x128 ![0, 128] w slices_S64x512_o0_128_S64x128⟩,
    ⟨S64x128, extractStridedSlice S64x128 ![0, 256] w slices_S64x512_o0_256_S64x128⟩,
    ⟨S64x128, extractStridedSlice S64x128 ![0, 384] w slices_S64x512_o0_384_S64x128⟩] concatenates_S64x128_S64x128_S64x128_S64x128_S256x128_d0)
    transposes_S256x128_p1_0_S128x256

/-- The two groups' rows of a pair of value tiles, side by side. -/
def vband0 (va vb : FVec Ideal S128x128 .bf16) : FVec Ideal S64x256 .bf16 :=
  concatenate S64x256 1 [⟨S64x128, extractStridedSlice S64x128 ![0, 0] va slices_S128x128_o0_0_S64x128⟩,
    ⟨S64x128, extractStridedSlice S64x128 ![0, 0] vb slices_S128x128_o0_0_S64x128⟩] concatenates_S64x128_S64x128_S64x256_d1
def vband1 (va vb : FVec Ideal S128x128 .bf16) : FVec Ideal S64x256 .bf16 :=
  concatenate S64x256 1 [⟨S64x128, extractStridedSlice S64x128 ![64, 0] va slices_S128x128_o64_0_S64x128⟩,
    ⟨S64x128, extractStridedSlice S64x128 ![64, 0] vb slices_S128x128_o64_0_S64x128⟩] concatenates_S64x128_S64x128_S64x256_d1

/-- A group's scores from its key band and its four heads' queries. -/
def qcat (q : Vec Ideal S1x256x128 .bf16) : FVec Ideal S64x512 .bf16 :=
  concatenate S64x512 1 [
    ⟨S64x128, extractStridedSlice S64x128 ![0, 0] (shapeCast S256x128 q shapeCasts_S1x256x128_S256x128 : FVec Ideal S256x128 .bf16) slices_S256x128_o0_0_S64x128⟩,
    ⟨S64x128, extractStridedSlice S64x128 ![64, 0] (shapeCast S256x128 q shapeCasts_S1x256x128_S256x128 : FVec Ideal S256x128 .bf16) slices_S256x128_o64_0_S64x128⟩,
    ⟨S64x128, extractStridedSlice S64x128 ![128, 0] (shapeCast S256x128 q shapeCasts_S1x256x128_S256x128 : FVec Ideal S256x128 .bf16) slices_S256x128_o128_0_S64x128⟩,
    ⟨S64x128, extractStridedSlice S64x128 ![192, 0] (shapeCast S256x128 q shapeCasts_S1x256x128_S256x128 : FVec Ideal S256x128 .bf16) slices_S256x128_o192_0_S64x128⟩]
    concatenates_S64x128_S64x128_S64x128_S64x128_S64x512_d1
def scores0 (kb : FVec Ideal S256x128 .bf16) (q : Vec Ideal S1x256x128 .bf16) : FVec Ideal S256x512 .f32 :=
  matmul dot_S256x128_S128x512_S256x512_1_0_0_1_n_n none kb
    (concatenate S128x512 0 [⟨S64x512, qcat q⟩, ⟨S64x512, broadcast S64x512 (Scalar.ofBits .bf16 0x0000#16)⟩] concatenates_S64x512_S64x512_S128x512_d0)
    (constant S256x512 .f32 0x00000000#32)
def scores1 (kb : FVec Ideal S256x128 .bf16) (q : Vec Ideal S1x256x128 .bf16) : FVec Ideal S256x512 .f32 :=
  matmul dot_S256x128_S128x512_S256x512_1_0_0_1_n_n none kb
    (concatenate S128x512 0 [⟨S64x512, broadcast S64x512 (Scalar.ofBits .bf16 0x0000#16)⟩, ⟨S64x512, qcat q⟩] concatenates_S64x512_S64x512_S128x512_d0)
    (constant S256x512 .f32 0x00000000#32)

/-- A block's output, from its key band, queries, value tiles, mask and the sinks. -/
def blockOut (kb : FVec Ideal S256x128 .bf16) (q0 q1 : Vec Ideal S1x256x128 .bf16) (b : FVec Ideal S256x128 .f32) (va vb : FVec Ideal S128x128 .bf16)
    (k0 k1 k2 k3 k4 k5 k6 k7 : Vec Ideal S1x128 .f32) : FVec Ideal S128x512 .bf16 :=
  truncf .bf16 (concatenate S128x512 1 [
    ⟨S128x256, groupOut (groupMat (vband0 va vb) (sc0 (scores0 kb q0) b) (sc1 (scores0 kb q0) b) (sc2 (scores0 kb q0) b) (sc3 (scores0 kb q0) b) k0 k1 k2 k3)⟩,
    ⟨S128x256, groupOut (groupMat (vband1 va vb) (sc0 (scores1 kb q1) b) (sc1 (scores1 kb q1) b) (sc2 (scores1 kb q1) b) (sc3 (scores1 kb q1) b) k4 k5 k6 k7)⟩]
    concatenates_S128x256_S128x256_S128x512_d1) bitsLt_bf16_f32

/-- The body's output buffer, block by block. -/
def outBlocks (i : grid0.Coords) (x0 : Vec Ideal S4x512x128 .bf16) (x1 : Vec Ideal S128x128 .bf16) (x2 : Vec Ideal S512x128 .bf16)
    (x3 : Vec Ideal S1x128x128 .bf16) (x4 : Vec Ideal S4x128x128 .bf16) (x5 : Vec Ideal S8x128 .f32) : Vec Ideal S512x512 .bf16 :=
  View.canon [
    ⟨r0_26, blockOut (k0_pay21 (k0_pay6 (View.ld x1 r0_0) (View.ld x2 r0_1))) (View.ld x0 r0_13) (View.ld x0 r0_14) k0_pay5
      (k0_pay10 (View.ld x4 r0_5)) (k0_pay11 (View.ld x4 r0_6)) (View.ld x5 r0_15) (View.ld x5 r0_16) (View.ld x5 r0_17) (View.ld x5 r0_18)
      (View.ld x5 r0_19) (View.ld x5 r0_20) (View.ld x5 r0_21) (View.ld x5 r0_22)⟩,
    ⟨r0_25, blockOut (k0_pay18 (k0_pay6 (View.ld x1 r0_0) (View.ld x2 r0_1))) (View.ld x0 r0_11) (View.ld x0 r0_12) k0_pay5
      (k0_pay9 (View.ld x4 r0_4)) (k0_pay10 (View.ld x4 r0_5)) (View.ld x5 r0_15) (View.ld x5 r0_16) (View.ld x5 r0_17) (View.ld x5 r0_18)
      (View.ld x5 r0_19) (View.ld x5 r0_20) (View.ld x5 r0_21) (View.ld x5 r0_22)⟩,
    ⟨r0_24, blockOut (k0_pay15 (k0_pay6 (View.ld x1 r0_0) (View.ld x2 r0_1))) (View.ld x0 r0_9) (View.ld x0 r0_10) k0_pay5
      (k0_pay8 (View.ld x4 r0_3)) (k0_pay9 (View.ld x4 r0_4)) (View.ld x5 r0_15) (View.ld x5 r0_16) (View.ld x5 r0_17) (View.ld x5 r0_18)
      (View.ld x5 r0_19) (View.ld x5 r0_20) (View.ld x5 r0_21) (View.ld x5 r0_22)⟩,
    ⟨r0_23, blockOut (k0_pay12 (k0_pay6 (View.ld x1 r0_0) (View.ld x2 r0_1))) (View.ld x0 r0_7) (View.ld x0 r0_8) (k0_pay4 i)
      (k0_pay7 (View.ld x3 r0_2)) (k0_pay8 (View.ld x4 r0_3)) (View.ld x5 r0_15) (View.ld x5 r0_16) (View.ld x5 r0_17) (View.ld x5 r0_18)
      (View.ld x5 r0_19) (View.ld x5 r0_20) (View.ld x5 r0_21) (View.ld x5 r0_22)⟩]

set_option maxHeartbeats 4000000 in
theorem out_eq (i : grid0.Coords) (x0 : Vec Ideal S4x512x128 .bf16) (x1 : Vec Ideal S128x128 .bf16) (x2 : Vec Ideal S512x128 .bf16)
    (x3 : Vec Ideal S1x128x128 .bf16) (x4 : Vec Ideal S4x128x128 .bf16) (x5 : Vec Ideal S8x128 .f32) :
    out0_6 (F := Ideal) i x0 x1 x2 x3 x4 x5 = outBlocks i x0 x1 x2 x3 x4 x5 := rfl

end Cert.KernelIdeal.Swa
-- ==== Proof.SwaAt.lean ====
module

public import proofs.«01_k».proof.Proof.SwaKernel

@[expose] public section

set_option maxRecDepth 16384

noncomputable section

open Idealize.ShloMosaic Idealize.ShloMosaic.TcCoe Idealize.SL.Sem
open Idealize.ShloMosaic.Pipeline (Dat)

namespace Cert.KernelIdeal.Swa

open Cert.KernelIdeal Cert.KernelIdeal.Gen Cert.KernelIdeal.Value

/-! ## Softmax with a sink, over one query's 256 scores -/

/-- The largest of the scores and the sink. -/
def smax (s : Fin 256 → EReal) (k : EReal) : EReal := max (Finset.univ.fold max ⊥ s) k

/-- The denominator, in powers of two. -/
def sden (s : Fin 256 → EReal) (k : EReal) : EReal := (∑ j, Ideal.exp2 (s j - smax s k)) + Ideal.exp2 (k - smax s k)

/-- The weighted sum of the values, times the reciprocal of the denominator. -/
def attn (s : Fin 256 → EReal) (k : EReal) (v : Fin 256 → EReal) : EReal :=
  (∑ j, v j * Ideal.exp2 (s j - smax s k)) * Ideal.div 1 (sden s k)

theorem bits_ninf : Ideal.ofBits .f32 0xFF800000#32 = ⊥ := by
  simp [Ideal.ofBits, Ideal.ieee, -EReal.coe_mul]

theorem headMax_at (x : FVec Ideal S256x128 .f32) (k : Vec Ideal S1x128 .f32) (q : Fin 128) :
    headMax x k (ix2 0 q) = smax (fun j => x (ix2 j q)) (k (ix2 0 q)) := by
  unfold smax
  rw [← bits_ninf]
  pointwise [headMax]

theorem headExp_at (x : FVec Ideal S256x128 .f32) (k : Vec Ideal S1x128 .f32) (j : Fin 256) (q : Fin 128) :
    headExp x k (ix2 j q) = Ideal.exp2 (x (ix2 j q) - smax (fun j => x (ix2 j q)) (k (ix2 0 q))) := by
  rw [← headMax_at]
  pointwise [headExp]
  rfl

theorem headDen_at (x : FVec Ideal S256x128 .f32) (k : Vec Ideal S1x128 .f32) (q : Fin 128) :
    headDen x k (ix2 0 q) = sden (fun j => x (ix2 j q)) (k (ix2 0 q)) := by
  have e : headDen x k (ix2 0 q) = (∑ j : Fin 256, headExp x k (ix2 j q)) + Ideal.exp2 (k (ix2 0 q) - headMax x k (ix2 0 q)) := by
    pointwise [headDen]
    rfl
  rw [e, headMax_at]
  unfold sden
  simp only [headExp_at]

theorem vband0_at (va vb : FVec Ideal S128x128 .bf16) (d : Fin 64) (j : Fin 256) :
    vband0 va vb (ix2 d j) = if h : j.val < 128 then va (ix2 ⟨d.val, by omega⟩ ⟨j.val, h⟩) else vb (ix2 ⟨d.val, by omega⟩ ⟨j.val - 128, by omega⟩) := by
  pointwise [vband0]

theorem vband1_at (va vb : FVec Ideal S128x128 .bf16) (d : Fin 64) (j : Fin 256) :
    vband1 va vb (ix2 d j) = if h : j.val < 128 then va (ix2 ⟨64 + d.val, by omega⟩ ⟨j.val, h⟩) else vb (ix2 ⟨64 + d.val, by omega⟩ ⟨j.val - 128, by omega⟩) := by
  pointwise [vband1]

/-! ## One head of a block -/

theorem sc0_at (s : FVec Ideal S256x512 .f32) (b : FVec Ideal S256x128 .f32) (j : Fin 256) (q : Fin 128) :
    sc0 s b (ix2 j q) = s (ix2 j ⟨q.val, by omega⟩) + b (ix2 j q) := by
  pointwise [sc0]

theorem groupMat_at0 (v : FVec Ideal S64x256 .bf16) (x0 x1 x2 x3 : FVec Ideal S256x128 .f32) (k0 k1 k2 k3 : Vec Ideal S1x128 .f32)
    (d : Fin 64) (q : Fin 128) :
    groupMat v x0 x1 x2 x3 k0 k1 k2 k3 (ix2 d ⟨q.val, by omega⟩)
      = attn (fun j => x0 (ix2 j q)) (k0 (ix2 0 q)) (fun j => v (ix2 d j)) := by
  unfold attn
  rw [← headDen_at]
  simp only [← headExp_at]
  pointwise [groupMat]

theorem groupOut_at0 (w : FVec Ideal S64x512 .f32) (d : Fin 64) (q : Fin 128) :
    groupOut w (ix2 q ⟨d.val, by omega⟩) = w (ix2 d ⟨q.val, by omega⟩) := by
  pointwise [groupOut]

theorem scores0_at0 (kb : FVec Ideal S256x128 .bf16) (x : Vec Ideal S1x256x128 .bf16) (j : Fin 256) (q : Fin 128) :
    scores0 kb x (ix2 j ⟨q.val, by omega⟩) = ∑ d : Fin 64, kb (ix2 j ⟨d.val, by omega⟩) * x (ix3 0 ⟨d.val, by omega⟩ q) := by
  pointwise [scores0, qcat]
  simp only [mul_zero, Finset.sum_const_zero, add_zero, zero_add]

theorem scores1_at0 (kb : FVec Ideal S256x128 .bf16) (x : Vec Ideal S1x256x128 .bf16) (j : Fin 256) (q : Fin 128) :
    scores1 kb x (ix2 j ⟨q.val, by omega⟩) = ∑ d : Fin 64, kb (ix2 j ⟨64 + d.val, by omega⟩) * x (ix3 0 ⟨d.val, by omega⟩ q) := by
  pointwise [scores1, qcat]
  simp only [mul_zero, Finset.sum_const_zero, add_zero, zero_add]

theorem sc1_at (s : FVec Ideal S256x512 .f32) (b : FVec Ideal S256x128 .f32) (j : Fin 256) (q : Fin 128) :
    sc1 s b (ix2 j q) = s (ix2 j ⟨128 + q.val, by omega⟩) + b (ix2 j q) := by
  pointwise [sc1]

theorem groupMat_at1 (v : FVec Ideal S64x256 .bf16) (x0 x1 x2 x3 : FVec Ideal S256x128 .f32) (k0 k1 k2 k3 : Vec Ideal S1x128 .f32)
    (d : Fin 64) (q : Fin 128) :
    groupMat v x0 x1 x2 x3 k0 k1 k2 k3 (ix2 d ⟨128 + q.val, by omega⟩)
      = attn (fun j => x1 (ix2 j q)) (k1 (ix2 0 q)) (fun j => v (ix2 d j)) := by
  unfold attn
  rw [← headDen_at]
  simp only [← headExp_at]
  pointwise [groupMat]

theorem groupOut_at1 (w : FVec Ideal S64x512 .f32) (d : Fin 64) (q : Fin 128) :
    groupOut w (ix2 q ⟨64 + d.val, by omega⟩) = w (ix2 d ⟨128 + q.val, by omega⟩) := by
  pointwise [groupOut]

theorem scores0_at1 (kb : FVec Ideal S256x128 .bf16) (x : Vec Ideal S1x256x128 .bf16) (j : Fin 256) (q : Fin 128) :
    scores0 kb x (ix2 j ⟨128 + q.val, by omega⟩) = ∑ d : Fin 64, kb (ix2 j ⟨d.val, by omega⟩) * x (ix3 0 ⟨64 + d.val, by omega⟩ q) := by
  pointwise [scores0, qcat]
  simp only [mul_zero, Finset.sum_const_zero, add_zero, zero_add]

theorem scores1_at1 (kb : FVec Ideal S256x128 .bf16) (x : Vec Ideal S1x256x128 .bf16) (j : Fin 256) (q : Fin 128) :
    scores1 kb x (ix2 j ⟨128 + q.val, by omega⟩) = ∑ d : Fin 64, kb (ix2 j ⟨64 + d.val, by omega⟩) * x (ix3 0 ⟨64 + d.val, by omega⟩ q) := by
  pointwise [scores1, qcat]
  simp only [mul_zero, Finset.sum_const_zero, add_zero, zero_add]

theorem sc2_at (s : FVec Ideal S256x512 .f32) (b : FVec Ideal S256x128 .f32) (j : Fin 256) (q : Fin 128) :
    sc2 s b (ix2 j q) = s (ix2 j ⟨256 + q.val, by omega⟩) + b (ix2 j q) := by
  pointwise [sc2]

theorem groupMat_at2 (v : FVec Ideal S64x256 .bf16) (x0 x1 x2 x3 : FVec Ideal S256x128 .f32) (k0 k1 k2 k3 : Vec Ideal S1x128 .f32)
    (d : Fin 64) (q : Fin 128) :
    groupMat v x0 x1 x2 x3 k0 k1 k2 k3 (ix2 d ⟨256 + q.val, by omega⟩)
      = attn (fun j => x2 (ix2 j q)) (k2 (ix2 0 q)) (fun j => v (ix2 d j)) := by
  unfold attn
  rw [← headDen_at]
  simp only [← headExp_at]
  pointwise [groupMat]
  simp only [show ¬ 256 + q.val < 128 by omega,
    show 256 + q.val - 128 = 128 + q.val by omega,
    show ¬ 128 + q.val < 128 by omega,
    show 128 + q.val - 128 = q.val by omega, q.isLt, dite_true, dite_false, dif_pos, Fin.eta]

theorem groupOut_at2 (w : FVec Ideal S64x512 .f32) (d : Fin 64) (q : Fin 128) :
    groupOut w (ix2 q ⟨128 + d.val, by omega⟩) = w (ix2 d ⟨256 + q.val, by omega⟩) := by
  pointwise [groupOut]
  simp only [show ¬ 128 + d.val < 64 by omega,
    show 128 + d.val - 64 = 64 + d.val by omega,
    show ¬ 64 + d.val < 64 by omega,
    show 64 + d.val - 64 = d.val by omega, d.isLt, dite_true, dite_false, dif_pos, Fin.eta]

theorem scores0_at2 (kb : FVec Ideal S256x128 .bf16) (x : Vec Ideal S1x256x128 .bf16) (j : Fin 256) (q : Fin 128) :
    scores0 kb x (ix2 j ⟨256 + q.val, by omega⟩) = ∑ d : Fin 64, kb (ix2 j ⟨d.val, by omega⟩) * x (ix3 0 ⟨128 + d.val, by omega⟩ q) := by
  pointwise [scores0, qcat]
  simp only [show ¬ 256 + q.val < 128 by omega,
    show 256 + q.val - 128 = 128 + q.val by omega,
    show ¬ 128 + q.val < 128 by omega,
    show 128 + q.val - 128 = q.val by omega, q.isLt, dite_true, dite_false, dif_pos, Fin.eta]
  simp only [mul_zero, Finset.sum_const_zero, add_zero, zero_add]

theorem scores1_at2 (kb : FVec Ideal S256x128 .bf16) (x : Vec Ideal S1x256x128 .bf16) (j : Fin 256) (q : Fin 128) :
    scores1 kb x (ix2 j ⟨256 + q.val, by omega⟩) = ∑ d : Fin 64, kb (ix2 j ⟨64 + d.val, by omega⟩) * x (ix3 0 ⟨128 + d.val, by omega⟩ q) := by
  pointwise [scores1, qcat]
  simp only [show ¬ 256 + q.val < 128 by omega,
    show 256 + q.val - 128 = 128 + q.val by omega,
    show ¬ 128 + q.val < 128 by omega,
    show 128 + q.val - 128 = q.val by omega, q.isLt, dite_true, dite_false, dif_pos, Fin.eta]
  simp only [mul_zero, Finset.sum_const_zero, add_zero, zero_add]

theorem sc3_at (s : FVec Ideal S256x512 .f32) (b : FVec Ideal S256x128 .f32) (j : Fin 256) (q : Fin 128) :
    sc3 s b (ix2 j q) = s (ix2 j ⟨384 + q.val, by omega⟩) + b (ix2 j q) := by
  pointwise [sc3]

theorem groupMat_at3 (v : FVec Ideal S64x256 .bf16) (x0 x1 x2 x3 : FVec Ideal S256x128 .f32) (k0 k1 k2 k3 : Vec Ideal S1x128 .f32)
    (d : Fin 64) (q : Fin 128) :
    groupMat v x0 x1 x2 x3 k0 k1 k2 k3 (ix2 d ⟨384 + q.val, by omega⟩)
      = attn (fun j => x3 (ix2 j q)) (k3 (ix2 0 q)) (fun j => v (ix2 d j)) := by
  unfold attn
  rw [← headDen_at]
  simp only [← headExp_at]
  pointwise [groupMat]
  simp only [show ¬ 384 + q.val < 128 by omega,
    show 384 + q.val - 128 = 256 + q.val by omega,
    show ¬ 256 + q.val < 128 by omega,
    show 256 + q.val - 128 = 128 + q.val by omega,
    show ¬ 128 + q.val < 128 by omega,
    show 128 + q.val - 128 = q.val by omega, q.isLt, dite_true, dite_false, dif_pos, Fin.eta]

theorem groupOut_at3 (w : FVec Ideal S64x512 .f32) (d : Fin 64) (q : Fin 128) :
    groupOut w (ix2 q ⟨192 + d.val, by omega⟩) = w (ix2 d ⟨384 + q.val, by omega⟩) := by
  pointwise [groupOut]
  simp only [show ¬ 192 + d.val < 64 by omega,
    show 192 + d.val - 64 = 128 + d.val by omega,
    show ¬ 128 + d.val < 64 by omega,
    show 128 + d.val - 64 = 64 + d.val by omega,
    show ¬ 64 + d.val < 64 by omega,
    show 64 + d.val - 64 = d.val by omega, d.isLt, dite_true, dite_false, dif_pos, Fin.eta]

theorem scores0_at3 (kb : FVec Ideal S256x128 .bf16) (x : Vec Ideal S1x256x128 .bf16) (j : Fin 256) (q : Fin 128) :
    scores0 kb x (ix2 j ⟨384 + q.val, by omega⟩) = ∑ d : Fin 64, kb (ix2 j ⟨d.val, by omega⟩) * x (ix3 0 ⟨192 + d.val, by omega⟩ q) := by
  pointwise [scores0, qcat]
  simp only [show ¬ 384 + q.val < 128 by omega,
    show 384 + q.val - 128 = 256 + q.val by omega,
    show ¬ 256 + q.val < 128 by omega,
    show 256 + q.val - 128 = 128 + q.val by omega,
    show ¬ 128 + q.val < 128 by omega,
    show 128 + q.val - 128 = q.val by omega, q.isLt, dite_true, dite_false, dif_pos, Fin.eta]
  simp only [mul_zero, Finset.sum_const_zero, add_zero, zero_add]

theorem scores1_at3 (kb : FVec Ideal S256x128 .bf16) (x : Vec Ideal S1x256x128 .bf16) (j : Fin 256) (q : Fin 128) :
    scores1 kb x (ix2 j ⟨384 + q.val, by omega⟩) = ∑ d : Fin 64, kb (ix2 j ⟨64 + d.val, by omega⟩) * x (ix3 0 ⟨192 + d.val, by omega⟩ q) := by
  pointwise [scores1, qcat]
  simp only [show ¬ 384 + q.val < 128 by omega,
    show 384 + q.val - 128 = 256 + q.val by omega,
    show ¬ 256 + q.val < 128 by omega,
    show 256 + q.val - 128 = 128 + q.val by omega,
    show ¬ 128 + q.val < 128 by omega,
    show 128 + q.val - 128 = q.val by omega, q.isLt, dite_true, dite_false, dif_pos, Fin.eta]
  simp only [mul_zero, Finset.sum_const_zero, add_zero, zero_add]

theorem blockOut_at0 (kb : FVec Ideal S256x128 .bf16) (q0 q1 : Vec Ideal S1x256x128 .bf16) (b : FVec Ideal S256x128 .f32) (va vb : FVec Ideal S128x128 .bf16)
    (k0 k1 k2 k3 k4 k5 k6 k7 : Vec Ideal S1x128 .f32) (q : Fin 128) (d : Fin 64) :
    blockOut kb q0 q1 b va vb k0 k1 k2 k3 k4 k5 k6 k7 (ix2 q ⟨d.val, by omega⟩)
      = attn (fun j => (∑ d' : Fin 64, kb (ix2 j ⟨d'.val, by omega⟩) * q0 (ix3 0 ⟨d'.val, by omega⟩ q)) + b (ix2 j q)) (k0 (ix2 0 q))
        (fun j => if h : j.val < 128 then va (ix2 ⟨d.val, by omega⟩ ⟨j.val, h⟩) else vb (ix2 ⟨d.val, by omega⟩ ⟨j.val - 128, by omega⟩)) := by
  have e : blockOut kb q0 q1 b va vb k0 k1 k2 k3 k4 k5 k6 k7 (ix2 q ⟨d.val, by omega⟩)
      = groupOut (groupMat (vband0 va vb) (sc0 (scores0 kb q0) b) (sc1 (scores0 kb q0) b) (sc2 (scores0 kb q0) b) (sc3 (scores0 kb q0) b)
          k0 k1 k2 k3) (ix2 q ⟨d.val, by omega⟩) := by
    pointwise [blockOut]
    exact dif_pos (show d.val < 256 by omega)
  rw [e, groupOut_at0, groupMat_at0]
  simp only [sc0_at, scores0_at0, vband0_at]

theorem blockOut_at1 (kb : FVec Ideal S256x128 .bf16) (q0 q1 : Vec Ideal S1x256x128 .bf16) (b : FVec Ideal S256x128 .f32) (va vb : FVec Ideal S128x128 .bf16)
    (k0 k1 k2 k3 k4 k5 k6 k7 : Vec Ideal S1x128 .f32) (q : Fin 128) (d : Fin 64) :
    blockOut kb q0 q1 b va vb k0 k1 k2 k3 k4 k5 k6 k7 (ix2 q ⟨64 + d.val, by omega⟩)
      = attn (fun j => (∑ d' : Fin 64, kb (ix2 j ⟨d'.val, by omega⟩) * q0 (ix3 0 ⟨64 + d'.val, by omega⟩ q)) + b (ix2 j q)) (k1 (ix2 0 q))
        (fun j => if h : j.val < 128 then va (ix2 ⟨d.val, by omega⟩ ⟨j.val, h⟩) else vb (ix2 ⟨d.val, by omega⟩ ⟨j.val - 128, by omega⟩)) := by
  have e : blockOut kb q0 q1 b va vb k0 k1 k2 k3 k4 k5 k6 k7 (ix2 q ⟨64 + d.val, by omega⟩)
      = groupOut (groupMat (vband0 va vb) (sc0 (scores0 kb q0) b) (sc1 (scores0 kb q0) b) (sc2 (scores0 kb q0) b) (sc3 (scores0 kb q0) b)
          k0 k1 k2 k3) (ix2 q ⟨64 + d.val, by omega⟩) := by
    pointwise [blockOut]
    exact dif_pos (show 64 + d.val < 256 by omega)
  rw [e, groupOut_at1, groupMat_at1]
  simp only [sc1_at, scores0_at1, vband0_at]

theorem blockOut_at2 (kb : FVec Ideal S256x128 .bf16) (q0 q1 : Vec Ideal S1x256x128 .bf16) (b : FVec Ideal S256x128 .f32) (va vb : FVec Ideal S128x128 .bf16)
    (k0 k1 k2 k3 k4 k5 k6 k7 : Vec Ideal S1x128 .f32) (q : Fin 128) (d : Fin 64) :
    blockOut kb q0 q1 b va vb k0 k1 k2 k3 k4 k5 k6 k7 (ix2 q ⟨128 + d.val, by omega⟩)
      = attn (fun j => (∑ d' : Fin 64, kb (ix2 j ⟨d'.val, by omega⟩) * q0 (ix3 0 ⟨128 + d'.val, by omega⟩ q)) + b (ix2 j q)) (k2 (ix2 0 q))
        (fun j => if h : j.val < 128 then va (ix2 ⟨d.val, by omega⟩ ⟨j.val, h⟩) else vb (ix2 ⟨d.val, by omega⟩ ⟨j.val - 128, by omega⟩)) := by
  have e : blockOut kb q0 q1 b va vb k0 k1 k2 k3 k4 k5 k6 k7 (ix2 q ⟨128 + d.val, by omega⟩)
      = groupOut (groupMat (vband0 va vb) (sc0 (scores0 kb q0) b) (sc1 (scores0 kb q0) b) (sc2 (scores0 kb q0) b) (sc3 (scores0 kb q0) b)
          k0 k1 k2 k3) (ix2 q ⟨128 + d.val, by omega⟩) := by
    pointwise [blockOut]
    exact dif_pos (show 128 + d.val < 256 by omega)
  rw [e, groupOut_at2, groupMat_at2]
  simp only [sc2_at, scores0_at2, vband0_at]

theorem blockOut_at3 (kb : FVec Ideal S256x128 .bf16) (q0 q1 : Vec Ideal S1x256x128 .bf16) (b : FVec Ideal S256x128 .f32) (va vb : FVec Ideal S128x128 .bf16)
    (k0 k1 k2 k3 k4 k5 k6 k7 : Vec Ideal S1x128 .f32) (q : Fin 128) (d : Fin 64) :
    blockOut kb q0 q1 b va vb k0 k1 k2 k3 k4 k5 k6 k7 (ix2 q ⟨192 + d.val, by omega⟩)
      = attn (fun j => (∑ d' : Fin 64, kb (ix2 j ⟨d'.val, by omega⟩) * q0 (ix3 0 ⟨192 + d'.val, by omega⟩ q)) + b (ix2 j q)) (k3 (ix2 0 q))
        (fun j => if h : j.val < 128 then va (ix2 ⟨d.val, by omega⟩ ⟨j.val, h⟩) else vb (ix2 ⟨d.val, by omega⟩ ⟨j.val - 128, by omega⟩)) := by
  have e : blockOut kb q0 q1 b va vb k0 k1 k2 k3 k4 k5 k6 k7 (ix2 q ⟨192 + d.val, by omega⟩)
      = groupOut (groupMat (vband0 va vb) (sc0 (scores0 kb q0) b) (sc1 (scores0 kb q0) b) (sc2 (scores0 kb q0) b) (sc3 (scores0 kb q0) b)
          k0 k1 k2 k3) (ix2 q ⟨192 + d.val, by omega⟩) := by
    pointwise [blockOut]
    exact dif_pos (show 192 + d.val < 256 by omega)
  rw [e, groupOut_at3, groupMat_at3]
  simp only [sc3_at, scores0_at3, vband0_at]

theorem blockOut_at4 (kb : FVec Ideal S256x128 .bf16) (q0 q1 : Vec Ideal S1x256x128 .bf16) (b : FVec Ideal S256x128 .f32) (va vb : FVec Ideal S128x128 .bf16)
    (k0 k1 k2 k3 k4 k5 k6 k7 : Vec Ideal S1x128 .f32) (q : Fin 128) (d : Fin 64) :
    blockOut kb q0 q1 b va vb k0 k1 k2 k3 k4 k5 k6 k7 (ix2 q ⟨256 + d.val, by omega⟩)
      = attn (fun j => (∑ d' : Fin 64, kb (ix2 j ⟨64 + d'.val, by omega⟩) * q1 (ix3 0 ⟨d'.val, by omega⟩ q)) + b (ix2 j q)) (k4 (ix2 0 q))
        (fun j => if h : j.val < 128 then va (ix2 ⟨64 + d.val, by omega⟩ ⟨j.val, h⟩) else vb (ix2 ⟨64 + d.val, by omega⟩ ⟨j.val - 128, by omega⟩)) := by
  have e : blockOut kb q0 q1 b va vb k0 k1 k2 k3 k4 k5 k6 k7 (ix2 q ⟨256 + d.val, by omega⟩)
      = groupOut (groupMat (vband1 va vb) (sc0 (scores1 kb q1) b) (sc1 (scores1 kb q1) b) (sc2 (scores1 kb q1) b) (sc3 (scores1 kb q1) b)
          k4 k5 k6 k7) (ix2 q ⟨d.val, by omega⟩) := by
    pointwise [blockOut]
  rw [e, groupOut_at0, groupMat_at0]
  simp only [sc0_at, scores1_at0, vband1_at]

theorem blockOut_at5 (kb : FVec Ideal S256x128 .bf16) (q0 q1 : Vec Ideal S1x256x128 .bf16) (b : FVec Ideal S256x128 .f32) (va vb : FVec Ideal S128x128 .bf16)
    (k0 k1 k2 k3 k4 k5 k6 k7 : Vec Ideal S1x128 .f32) (q : Fin 128) (d : Fin 64) :
    blockOut kb q0 q1 b va vb k0 k1 k2 k3 k4 k5 k6 k7 (ix2 q ⟨320 + d.val, by omega⟩)
      = attn (fun j => (∑ d' : Fin 64, kb (ix2 j ⟨64 + d'.val, by omega⟩) * q1 (ix3 0 ⟨64 + d'.val, by omega⟩ q)) + b (ix2 j q)) (k5 (ix2 0 q))
        (fun j => if h : j.val < 128 then va (ix2 ⟨64 + d.val, by omega⟩ ⟨j.val, h⟩) else vb (ix2 ⟨64 + d.val, by omega⟩ ⟨j.val - 128, by omega⟩)) := by
  have e : blockOut kb q0 q1 b va vb k0 k1 k2 k3 k4 k5 k6 k7 (ix2 q ⟨320 + d.val, by omega⟩)
      = groupOut (groupMat (vband1 va vb) (sc0 (scores1 kb q1) b) (sc1 (scores1 kb q1) b) (sc2 (scores1 kb q1) b) (sc3 (scores1 kb q1) b)
          k4 k5 k6 k7) (ix2 q ⟨64 + d.val, by omega⟩) := by
    pointwise [blockOut]
    rw [dif_neg (show ¬ 320 + d.val < 256 by omega)]
    exact congrArg _ (congrArg (ix2 q) (Fin.ext (show 320 + d.val - 256 = 64 + d.val by omega)))
  rw [e, groupOut_at1, groupMat_at1]
  simp only [sc1_at, scores1_at1, vband1_at]

theorem blockOut_at6 (kb : FVec Ideal S256x128 .bf16) (q0 q1 : Vec Ideal S1x256x128 .bf16) (b : FVec Ideal S256x128 .f32) (va vb : FVec Ideal S128x128 .bf16)
    (k0 k1 k2 k3 k4 k5 k6 k7 : Vec Ideal S1x128 .f32) (q : Fin 128) (d : Fin 64) :
    blockOut kb q0 q1 b va vb k0 k1 k2 k3 k4 k5 k6 k7 (ix2 q ⟨384 + d.val, by omega⟩)
      = attn (fun j => (∑ d' : Fin 64, kb (ix2 j ⟨64 + d'.val, by omega⟩) * q1 (ix3 0 ⟨128 + d'.val, by omega⟩ q)) + b (ix2 j q)) (k6 (ix2 0 q))
        (fun j => if h : j.val < 128 then va (ix2 ⟨64 + d.val, by omega⟩ ⟨j.val, h⟩) else vb (ix2 ⟨64 + d.val, by omega⟩ ⟨j.val - 128, by omega⟩)) := by
  have e : blockOut kb q0 q1 b va vb k0 k1 k2 k3 k4 k5 k6 k7 (ix2 q ⟨384 + d.val, by omega⟩)
      = groupOut (groupMat (vband1 va vb) (sc0 (scores1 kb q1) b) (sc1 (scores1 kb q1) b) (sc2 (scores1 kb q1) b) (sc3 (scores1 kb q1) b)
          k4 k5 k6 k7) (ix2 q ⟨128 + d.val, by omega⟩) := by
    pointwise [blockOut]
    rw [dif_neg (show ¬ 384 + d.val < 256 by omega)]
    exact congrArg _ (congrArg (ix2 q) (Fin.ext (show 384 + d.val - 256 = 128 + d.val by omega)))
  rw [e, groupOut_at2, groupMat_at2]
  simp only [sc2_at, scores1_at2, vband1_at]

theorem blockOut_at7 (kb : FVec Ideal S256x128 .bf16) (q0 q1 : Vec Ideal S1x256x128 .bf16) (b : FVec Ideal S256x128 .f32) (va vb : FVec Ideal S128x128 .bf16)
    (k0 k1 k2 k3 k4 k5 k6 k7 : Vec Ideal S1x128 .f32) (q : Fin 128) (d : Fin 64) :
    blockOut kb q0 q1 b va vb k0 k1 k2 k3 k4 k5 k6 k7 (ix2 q ⟨448 + d.val, by omega⟩)
      = attn (fun j => (∑ d' : Fin 64, kb (ix2 j ⟨64 + d'.val, by omega⟩) * q1 (ix3 0 ⟨192 + d'.val, by omega⟩ q)) + b (ix2 j q)) (k7 (ix2 0 q))
        (fun j => if h : j.val < 128 then va (ix2 ⟨64 + d.val, by omega⟩ ⟨j.val, h⟩) else vb (ix2 ⟨64 + d.val, by omega⟩ ⟨j.val - 128, by omega⟩)) := by
  have e : blockOut kb q0 q1 b va vb k0 k1 k2 k3 k4 k5 k6 k7 (ix2 q ⟨448 + d.val, by omega⟩)
      = groupOut (groupMat (vband1 va vb) (sc0 (scores1 kb q1) b) (sc1 (scores1 kb q1) b) (sc2 (scores1 kb q1) b) (sc3 (scores1 kb q1) b)
          k4 k5 k6 k7) (ix2 q ⟨192 + d.val, by omega⟩) := by
    pointwise [blockOut]
    rw [dif_neg (show ¬ 448 + d.val < 256 by omega)]
    exact congrArg _ (congrArg (ix2 q) (Fin.ext (show 448 + d.val - 256 = 192 + d.val by omega)))
  rw [e, groupOut_at3, groupMat_at3]
  simp only [sc3_at, scores1_at3, vband1_at]

end Cert.KernelIdeal.Swa
-- ==== Proof.SwaMath.lean ====
module

public import proofs.«01_k».proof.Proof.SwaAt

@[expose] public section

set_option maxRecDepth 16384

noncomputable section

open Idealize.ShloMosaic Idealize.ShloMosaic.TcCoe Idealize.SL.Sem

namespace Cert.KernelIdeal.Swa

/-! ## The masked softmax with a sink, in real numbers -/

section
variable (p : Fin 256 → Prop) [DecidablePred p] (a : Fin 256 → ℝ) (κ : ℝ)

/-- The exponential of a score under the mask, shifted by `M`. -/
def expo (M : ℝ) (j : Fin 256) : ℝ := if p j then Real.exp (a j - M) else 0

def total (M : ℝ) : ℝ := (∑ j, expo p a M j) + Real.exp (κ - M)

/-- The share of the softmax that one key gets. -/
def weight (j : Fin 256) : ℝ := expo p a 0 j * (1 / total p a κ 0)

theorem expo_nonneg (M : ℝ) (j : Fin 256) : 0 ≤ expo p a M j := by
  unfold expo; split
  · exact (Real.exp_pos _).le
  · exact le_rfl

theorem total_pos (M : ℝ) : 0 < total p a κ M :=
  add_pos_of_nonneg_of_pos (Finset.sum_nonneg fun j _ => expo_nonneg p a M j) (Real.exp_pos _)

theorem expo_shift (M : ℝ) (j : Fin 256) : expo p a M j = expo p a 0 j * Real.exp (-M) := by
  unfold expo; split
  · rw [← Real.exp_add]; congr 1; ring
  · rw [zero_mul]

theorem total_shift (M : ℝ) : total p a κ M = total p a κ 0 * Real.exp (-M) := by
  unfold total
  rw [add_mul, Finset.sum_mul, ← Real.exp_add]
  congr 1
  · exact Finset.sum_congr rfl fun j _ => expo_shift p a M j
  · congr 1; ring

/-- The share does not depend on the shift. -/
theorem weight_shift (M : ℝ) (j : Fin 256) : expo p a M j * (1 / total p a κ M) = weight p a κ j := by
  rw [expo_shift, total_shift, weight]
  have := (total_pos p a κ 0).ne'
  have := (Real.exp_pos (-M)).ne'
  field_simp

/-! ## Sums of extended reals -/

theorem sum_coe (f : Fin 256 → ℝ) : (∑ j, ((f j : ℝ) : EReal)) = ((∑ j, f j : ℝ) : EReal) :=
  (map_sum (⟨⟨fun x : ℝ => (x : EReal), EReal.coe_zero⟩, EReal.coe_add⟩ : ℝ →+ EReal) f Finset.univ).symm

theorem sum_coe64 (f : Fin 64 → ℝ) : (∑ j, ((f j : ℝ) : EReal)) = ((∑ j, f j : ℝ) : EReal) :=
  (map_sum (⟨⟨fun x : ℝ => (x : EReal), EReal.coe_zero⟩, EReal.coe_add⟩ : ℝ →+ EReal) f Finset.univ).symm

theorem sum_mul_coe {c : ℝ} (hc : 0 ≤ c) (f : Fin 256 → EReal) : (∑ j, f j) * (c : EReal) = ∑ j, f j * (c : EReal) := by
  have hc' : (0 : EReal) ≤ (c : EReal) := EReal.coe_nonneg.2 hc
  induction (Finset.univ : Finset (Fin 256)) using Finset.induction_on with
  | empty => simp
  | insert x s hx ih =>
    rw [Finset.sum_insert hx, Finset.sum_insert hx, EReal.right_distrib_of_nonneg_of_ne_top hc' (EReal.coe_ne_top c), ih]

/-- The largest of scores below infinity and a real sink is real. -/
theorem smax_real (s : Fin 256 → EReal) (hs : ∀ j, s j ≠ ⊤) : ∃ M : ℝ, smax s (κ : EReal) = (M : EReal) := by
  have h1 : smax s (κ : EReal) ≠ ⊤ := by
    refine (max_lt ?_ (EReal.coe_lt_top κ)).ne
    exact Finset.fold_max_lt _ |>.2 ⟨bot_lt_top, fun j _ => lt_top_iff_ne_top.2 (hs j)⟩
  have h2 : smax s (κ : EReal) ≠ ⊥ :=
    ((EReal.bot_lt_coe κ).trans_le (le_max_right _ _)).ne'
  exact ⟨_, (EReal.coe_toReal h1 h2).symm⟩

/-! ## The kernel's softmax -/

theorem two_pow (x M : ℝ) : Real.rpow 2 (1 / Real.log 2 * x - M) = Real.exp (x - Real.log 2 * M) := by
  have h2 : Real.log 2 ≠ 0 := (Real.log_pos (by norm_num)).ne'
  show (2 : ℝ) ^ (1 / Real.log 2 * x - M) = _
  rw [Real.rpow_def_of_pos (by norm_num)]
  congr 1
  field_simp

/-- The kernel's powers of two, over scores times log2 e, are the softmax. -/
theorem attn_weight (v s : Fin 256 → EReal) (k : EReal)
    (hs : ∀ j, s j = ((1 / Real.log 2 * a j : ℝ) : EReal) + if p j then 0 else ⊥)
    (hk : k = ((1 / Real.log 2 * κ : ℝ) : EReal)) :
    attn s k v = ∑ j, v j * (weight p a κ j : EReal) := by
  subst hk
  obtain ⟨M, hM⟩ := smax_real (1 / Real.log 2 * κ) s (fun j => by
    rw [hs j]; split
    · rw [add_zero]; exact EReal.coe_ne_top _
    · rw [EReal.add_bot]; exact bot_ne_top)
  have he : ∀ j, Ideal.exp2 (s j - M) = (expo p a (Real.log 2 * M) j : EReal) := by
    intro j
    rw [hs j]; unfold expo; split
    · rw [add_zero, ← EReal.coe_sub, Ideal.exp2_coe, two_pow]
    · rw [EReal.add_bot, EReal.bot_sub, Ideal.exp2_bot, EReal.coe_zero]
  have hd : sden s ((1 / Real.log 2 * κ : ℝ) : EReal) = (total p a κ (Real.log 2 * M) : EReal) := by
    unfold sden
    rw [hM]
    simp only [he]
    rw [← EReal.coe_sub, Ideal.exp2_coe, two_pow, sum_coe, ← EReal.coe_add]
    rfl
  unfold attn
  rw [hd, hM, Ideal.div_coe (total_pos p a κ _).ne', one_mul, sum_mul_coe (one_div_nonneg.2 (total_pos p a κ _).le)]
  refine Finset.sum_congr rfl fun j _ => ?_
  rw [he j, mul_assoc, ← EReal.coe_mul, weight_shift]

/-! ## The reference's softmax -/

theorem ref_weight (v v' s : Fin 256 → EReal) (hs : ∀ j, s j ≠ ⊤) (hp : ∀ j, p j → s j = (a j : EReal))
    (hv : ∀ j, p j → v' j = v j) :
    (∑ j, v' j * Ideal.div (if p j then Ideal.exp (s j - smax s κ) else 0)
        ((∑ i, if p i then Ideal.exp (s i - smax s κ) else 0) + Ideal.exp ((κ : EReal) - smax s κ)))
      = ∑ j, v j * (weight p a κ j : EReal) := by
  obtain ⟨M, hM⟩ := smax_real κ s hs
  have he : ∀ j, (if p j then Ideal.exp (s j - smax s κ) else 0) = (expo p a M j : EReal) := by
    intro j
    rw [hM]; unfold expo; split
    · next h => rw [hp j h, ← EReal.coe_sub, Ideal.exp_coe]
    · rfl
  have hd : (∑ i, if p i then Ideal.exp (s i - smax s κ) else 0) + Ideal.exp ((κ : EReal) - smax s κ) = (total p a κ M : EReal) := by
    rw [Finset.sum_congr rfl fun i _ => he i, hM, ← EReal.coe_sub, Ideal.exp_coe, sum_coe, ← EReal.coe_add]
    rfl
  rw [hd]
  refine Finset.sum_congr rfl fun j _ => ?_
  rw [he j, Ideal.div_coe (total_pos p a κ _).ne', ← EReal.coe_mul, weight_shift]
  by_cases h : p j
  · rw [hv j h]
  · have : weight p a κ j = 0 := by unfold weight expo; rw [if_neg h, zero_mul]
    rw [this, EReal.coe_zero, mul_zero, mul_zero]

end

/-! ## Constants -/

theorem bits_two : Ideal.ofBits .f32 0x40000000#32 = ((2 : ℝ) : EReal) := by
  simp [Ideal.ofBits, Ideal.ieee, -EReal.coe_mul]; norm_num

theorem bits_eighth : Ideal.ofBits .f32 0x3E000000#32 = ((0.125 : ℝ) : EReal) := by
  simp [Ideal.ofBits, Ideal.ieee, -EReal.coe_mul]; norm_num

theorem bits_far : Ideal.ofBits .f32 0xF149F2CA#32 ≠ ⊤ := by
  simp [Ideal.ofBits, Ideal.ieee, -EReal.coe_mul]
  try exact EReal.coe_ne_top _

end Cert.KernelIdeal.Swa
-- ==== Proof.SwaBlocks.lean ====
module

public import proofs.«01_k».proof.Proof.SwaAt

@[expose] public section

set_option maxRecDepth 16384

noncomputable section

open Idealize.ShloMosaic Idealize.ShloMosaic.TcCoe Idealize.SL.Sem
open Idealize.ShloMosaic.Pipeline (Dat)

namespace Cert.KernelIdeal.Swa

open Cert.KernelIdeal Cert.KernelIdeal.Gen Cert.KernelIdeal.Value

variable (m : (ℓ : Loc nD τ sig) → Buf (Elt Ideal) ℓ)

/-- Every window's block index at a grid point. -/
theorem idx : ∀ t : Fin cfg0.N,
    win0_0.index t = ![t.val, 0, 0] ∧ win0_1.index t = ![t.val / 32 * 128 + (4 * (t.val % 32) - 1), 0] ∧ win0_2.index t = ![t.val, 0]
    ∧ win0_3.index t = ![t.val / 32 * 128 + (4 * (t.val % 32) - 1), 0, 0] ∧ win0_4.index t = ![t.val, 0, 0]
    ∧ win0_5.index t = ![0, 0] ∧ win0_6.index t = ![t.val, 0] ∧ ((grid0.coords t) 1).val = t.val % 32 :=
  (by decide +kernel : ∀ t : Fin grid0.N, _)

abbrev A0 (c : Dev nD) : FVec Ideal S2x16384x768 .f32 := m ((c : Thread nD τ).loc main_arg0)
abbrev A1 (c : Dev nD) : FVec Ideal S8 .f32 := m ((c : Thread nD τ).loc main_arg1)

/-- The host's reciprocal of the logarithm of two. -/
def invLog2 : EReal := Ideal.div 1 (Ideal.log (Ideal.ofBits .f32 0x40000000#32))

theorem blk0 (c : Dev nD) (t : Fin cfg0.N) (i : Fin 4) (e : Fin 512) (q : Fin 128) (b : Fin 2) (s : Fin 16384)
    (h : b.val * 16384 + s.val = 512 * t.val + 128 * i.val + q.val) :
    iblk m c 0 t (ix3 i e q) = A0 m c (ix3 b s ⟨e.val, by omega⟩) * (Ideal.ofBits .f32 0x3E000000#32 * invLog2) := by
  unfold invLog2
  blk_simp [iblk]
  entry_read
  pointwise
  refine congrArg₂ _ ?_ rfl
  blk_ext [idx t]

theorem blk1 (c : Dev nD) (t : Fin cfg0.N) (r e : Fin 128) (b : Fin 2) (s : Fin 16384)
    (h : b.val * 16384 + s.val = 128 * (t.val / 32 * 128 + (4 * (t.val % 32) - 1)) + r.val) :
    iblk m c 1 t (ix2 r e) = A0 m c (ix3 b s ⟨512 + e.val, by omega⟩) := by
  blk_simp [iblk]
  entry_read
  pointwise
  blk_ext [idx t]

theorem blk2 (c : Dev nD) (t : Fin cfg0.N) (r : Fin 512) (e : Fin 128) (b : Fin 2) (s : Fin 16384)
    (h : b.val * 16384 + s.val = 512 * t.val + r.val) :
    iblk m c 2 t (ix2 r e) = A0 m c (ix3 b s ⟨512 + e.val, by omega⟩) := by
  blk_simp [iblk]
  entry_read
  pointwise
  blk_ext [idx t]

theorem blk3 (c : Dev nD) (t : Fin cfg0.N) (e r : Fin 128) (b : Fin 2) (s : Fin 16384)
    (h : b.val * 16384 + s.val = 128 * (t.val / 32 * 128 + (4 * (t.val % 32) - 1)) + r.val) :
    iblk m c 3 t (ix3 0 e r) = A0 m c (ix3 b s ⟨640 + e.val, by omega⟩) := by
  blk_simp [iblk]
  entry_read
  pointwise
  blk_ext [idx t]

theorem blk4 (c : Dev nD) (t : Fin cfg0.N) (i : Fin 4) (e r : Fin 128) (b : Fin 2) (s : Fin 16384)
    (h : b.val * 16384 + s.val = 512 * t.val + 128 * i.val + r.val) :
    iblk m c 4 t (ix3 i e r) = A0 m c (ix3 b s ⟨640 + e.val, by omega⟩) := by
  blk_simp [iblk]
  entry_read
  pointwise
  blk_ext [idx t]

theorem blk5 (c : Dev nD) (t : Fin cfg0.N) (i : Fin 8) (q : Fin 128) :
    iblk m c 5 t (ix2 i q) = A1 m c (ix1 i) * invLog2 := by
  unfold invLog2
  blk_simp [iblk]
  entry_read
  pointwise
  refine congrArg₂ _ ?_ rfl
  blk_ext [idx t]

/-! ## The mask -/

theorem mask_val : (Named.named κ "mask" 0xF149F2CA#32 : Ideal .f32) = (⊥ : EReal) :=
  IdealRules.named_const.ideal_named_scalar _ _ _ _ rfl

/-- The window's condition on a key and a query, as the body computes it on words. -/
theorem band_word : ∀ (j : Fin 256) (q : Fin 128),
    IntOp.andi (IntOp.cmpi CmpIPredicate.sle (IntOp.subi (BitVec.ofNat 32 j.val) 128#32) (BitVec.ofNat 32 q.val))
      (IntOp.cmpi CmpIPredicate.sgt (IntOp.subi (BitVec.ofNat 32 j.val) 128#32) (IntOp.subi (BitVec.ofNat 32 q.val) 128#32))
      = BitVec.ofBool (decide (j.val ≤ q.val + 128 ∧ q.val < j.val)) := by decide +kernel

/-- The condition that the first step of a sequence has no block before it. -/
theorem first_word : ∀ (j : Fin 256) (n : Fin 32),
    IntOp.cmpi CmpIPredicate.sge (IntOp.subi (BitVec.ofNat 32 j.val) 128#32)
      (Scalar.select (Scalar.cmpi CmpIPredicate.sgt (BitVec.ofNat 32 n.val) 0#32) 4294967168#32 0#32)
      = BitVec.ofBool (decide (n.val = 0 → 128 ≤ j.val)) := by decide +kernel

theorem and_word (a b : Bool) : IntOp.andi (BitVec.ofBool a) (BitVec.ofBool b) = BitVec.ofBool (a && b) := by
  cases a <;> cases b <;> rfl

theorem select_word {α : Type} (a : Bool) (x y : α) : Scalar.select (BitVec.ofBool a) x y = if a = true then x else y := by
  cases a <;> rfl

theorem pay5_at (j : Fin 256) (q : Fin 128) :
    (k0_pay5 (F := Ideal) : FVec Ideal S256x128 .f32) (ix2 j q) = if j.val ≤ q.val + 128 ∧ q.val < j.val then 0 else ⊥ := by
  rw [← mask_val]
  pointwise [k0_pay5, k0_pay3, k0_pay2]
  rw [band_word j q, select_word]
  simp only [decide_eq_true_eq]

theorem pay4_at (t : Fin cfg0.N) (j : Fin 256) (q : Fin 128) :
    (k0_pay4 (F := Ideal) (grid0.coords t) : FVec Ideal S256x128 .f32) (ix2 j q)
      = if j.val ≤ q.val + 128 ∧ q.val < j.val ∧ (t.val % 32 = 0 → 128 ≤ j.val) then 0 else ⊥ := by
  rw [← mask_val]
  pointwise [k0_pay4, k0_pay3, k0_pay2]
  rw [(idx t).2.2.2.2.2.2.2, band_word j q, first_word j ⟨t.val % 32, by omega⟩, and_word, select_word]
  simp only [Bool.and_eq_true, decide_eq_true_eq, and_assoc]

end Cert.KernelIdeal.Swa
-- ==== Proof.SwaPieces.lean ====
module

public import proofs.«01_k».proof.Proof.SwaBlocks

@[expose] public section

set_option maxRecDepth 16384

noncomputable section

open Idealize.ShloMosaic Idealize.ShloMosaic.TcCoe Idealize.SL.Sem
open Idealize.ShloMosaic.Pipeline (Dat)

namespace Cert.KernelIdeal.Swa

open Cert.KernelIdeal Cert.KernelIdeal.Gen Cert.KernelIdeal.Value

variable (m : (ℓ : Loc nD τ sig) → Buf (Elt Ideal) ℓ)

/-- The token that key `j` of block `n` stands for: the block before comes first, then the block itself. (The first block has
    none before it; the kernel reads the block itself there, under the mask.) -/
def keyTok (n : Fin 128) (j : Fin 256) : Fin 16384 :=
  ⟨if j.val < 128 then (n.val * 128 - 128) + j.val else n.val * 128 + j.val - 128, by split <;> omega⟩

/-- The token of query `q` of block `n`. -/
def queryTok (n q : Fin 128) : Fin 16384 := ⟨n.val * 128 + q.val, by omega⟩

/-- The masked score of one query and one key, as the kernel computes it. -/
def kscore (u : FVec Ideal S2x16384x768 .f32) (b : Fin 2) (n q : Fin 128) (h : Fin 8) (j : Fin 256) : EReal :=
  (∑ d : Fin 64, u (ix3 b (keyTok n j) ⟨512 + h.val / 4 * 64 + d.val, by omega⟩)
      * (u (ix3 b (queryTok n q) ⟨h.val * 64 + d.val, by omega⟩) * (Ideal.ofBits .f32 0x3E000000#32 * invLog2)))
    + if j.val ≤ q.val + 128 ∧ q.val < j.val ∧ (n.val = 0 → 128 ≤ j.val) then 0 else ⊥

/-- The kernel's output for one query, head and channel. -/
def kout (u : FVec Ideal S2x16384x768 .f32) (sk : FVec Ideal S8 .f32) (b : Fin 2) (n q : Fin 128) (h : Fin 8) (d : Fin 64) : EReal :=
  attn (kscore u b n q h) (sk (ix1 h) * invLog2) (fun j => u (ix3 b (keyTok n j) ⟨640 + h.val / 4 * 64 + d.val, by omega⟩))

/-! ## The pieces of a block, over the arguments -/

theorem kband_at0 (c : Dev nD) (t : Fin cfg0.N) (b : Fin 2) (st : Fin 32) (ht : t.val = 32 * b.val + st.val) (j : Fin 256) (e : Fin 128) (x : Fin 768) (hx : x.val = 512 + e.val) :
    (k0_pay12 (k0_pay6 (View.ld (iblk m c 1 t) r0_0) (View.ld (iblk m c 2 t) r0_1)) : FVec Ideal S256x128 .bf16) (ix2 j e)
      = A0 m c (ix3 b (keyTok ⟨4 * st.val + 0, by omega⟩ j) x) := by
  obtain rfl : x = ⟨512 + e.val, by clear hx; omega⟩ := Fin.ext hx
  pointwise [k0_pay12, k0_pay6]
  split
  · rename_i hj
    exact blk1 m c t ⟨j.val, hj⟩ e b _ (by simp only [keyTok, hj, if_true]; omega)
  · rename_i hj
    exact blk2 m c t ⟨j.val - 128, by omega⟩ e b _ (by simp only [keyTok, hj, if_false]; omega)

theorem query_at0_0 (c : Dev nD) (t : Fin cfg0.N) (b : Fin 2) (st : Fin 32) (ht : t.val = 32 * b.val + st.val) (e : Fin 256) (q : Fin 128) (x : Fin 768) (hx : x.val = e.val) :
    (View.ld (iblk m c 0 t) r0_7 : Vec Ideal S1x256x128 .bf16) (ix3 0 e q)
      = A0 m c (ix3 b (queryTok ⟨4 * st.val + 0, by omega⟩ q) x) * (Ideal.ofBits .f32 0x3E000000#32 * invLog2) := by
  obtain rfl : x = ⟨e.val, by clear hx; omega⟩ := Fin.ext hx
  rw [← blk0 m c t 0 ⟨e.val, by omega⟩ q b _ (show b.val * 16384 + (queryTok ⟨4 * st.val + 0, by omega⟩ q).val = 512 * t.val + 128 * 0 + q.val by simp only [queryTok]; omega)]
  pointwise []
  try blk_ext

theorem query_at0_1 (c : Dev nD) (t : Fin cfg0.N) (b : Fin 2) (st : Fin 32) (ht : t.val = 32 * b.val + st.val) (e : Fin 256) (q : Fin 128) (x : Fin 768) (hx : x.val = 256 + e.val) :
    (View.ld (iblk m c 0 t) r0_8 : Vec Ideal S1x256x128 .bf16) (ix3 0 e q)
      = A0 m c (ix3 b (queryTok ⟨4 * st.val + 0, by omega⟩ q) x) * (Ideal.ofBits .f32 0x3E000000#32 * invLog2) := by
  obtain rfl : x = ⟨256 + e.val, by clear hx; omega⟩ := Fin.ext hx
  rw [← blk0 m c t 0 ⟨256 + e.val, by omega⟩ q b _ (show b.val * 16384 + (queryTok ⟨4 * st.val + 0, by omega⟩ q).val = 512 * t.val + 128 * 0 + q.val by simp only [queryTok]; omega)]
  pointwise []
  try blk_ext

theorem kband_at1 (c : Dev nD) (t : Fin cfg0.N) (b : Fin 2) (st : Fin 32) (ht : t.val = 32 * b.val + st.val) (j : Fin 256) (e : Fin 128) (x : Fin 768) (hx : x.val = 512 + e.val) :
    (k0_pay15 (k0_pay6 (View.ld (iblk m c 1 t) r0_0) (View.ld (iblk m c 2 t) r0_1)) : FVec Ideal S256x128 .bf16) (ix2 j e)
      = A0 m c (ix3 b (keyTok ⟨4 * st.val + 1, by omega⟩ j) x) := by
  obtain rfl : x = ⟨512 + e.val, by clear hx; omega⟩ := Fin.ext hx
  have e1 : (k0_pay15 (k0_pay6 (View.ld (iblk m c 1 t) r0_0) (View.ld (iblk m c 2 t) r0_1)) : FVec Ideal S256x128 .bf16) (ix2 j e) = iblk m c 2 t (ix2 ⟨j.val, by omega⟩ e) := by
    pointwise [k0_pay15, k0_pay6]
  rw [e1]
  exact blk2 m c t ⟨j.val, by omega⟩ e b _ (by simp only [keyTok]; split <;> omega)

theorem query_at1_0 (c : Dev nD) (t : Fin cfg0.N) (b : Fin 2) (st : Fin 32) (ht : t.val = 32 * b.val + st.val) (e : Fin 256) (q : Fin 128) (x : Fin 768) (hx : x.val = e.val) :
    (View.ld (iblk m c 0 t) r0_9 : Vec Ideal S1x256x128 .bf16) (ix3 0 e q)
      = A0 m c (ix3 b (queryTok ⟨4 * st.val + 1, by omega⟩ q) x) * (Ideal.ofBits .f32 0x3E000000#32 * invLog2) := by
  obtain rfl : x = ⟨e.val, by clear hx; omega⟩ := Fin.ext hx
  rw [← blk0 m c t 1 ⟨e.val, by omega⟩ q b _ (show b.val * 16384 + (queryTok ⟨4 * st.val + 1, by omega⟩ q).val = 512 * t.val + 128 * 1 + q.val by simp only [queryTok]; omega)]
  pointwise []
  try blk_ext

theorem query_at1_1 (c : Dev nD) (t : Fin cfg0.N) (b : Fin 2) (st : Fin 32) (ht : t.val = 32 * b.val + st.val) (e : Fin 256) (q : Fin 128) (x : Fin 768) (hx : x.val = 256 + e.val) :
    (View.ld (iblk m c 0 t) r0_10 : Vec Ideal S1x256x128 .bf16) (ix3 0 e q)
      = A0 m c (ix3 b (queryTok ⟨4 * st.val + 1, by omega⟩ q) x) * (Ideal.ofBits .f32 0x3E000000#32 * invLog2) := by
  obtain rfl : x = ⟨256 + e.val, by clear hx; omega⟩ := Fin.ext hx
  rw [← blk0 m c t 1 ⟨256 + e.val, by omega⟩ q b _ (show b.val * 16384 + (queryTok ⟨4 * st.val + 1, by omega⟩ q).val = 512 * t.val + 128 * 1 + q.val by simp only [queryTok]; omega)]
  pointwise []
  try blk_ext

theorem kband_at2 (c : Dev nD) (t : Fin cfg0.N) (b : Fin 2) (st : Fin 32) (ht : t.val = 32 * b.val + st.val) (j : Fin 256) (e : Fin 128) (x : Fin 768) (hx : x.val = 512 + e.val) :
    (k0_pay18 (k0_pay6 (View.ld (iblk m c 1 t) r0_0) (View.ld (iblk m c 2 t) r0_1)) : FVec Ideal S256x128 .bf16) (ix2 j e)
      = A0 m c (ix3 b (keyTok ⟨4 * st.val + 2, by omega⟩ j) x) := by
  obtain rfl : x = ⟨512 + e.val, by clear hx; omega⟩ := Fin.ext hx
  have e1 : (k0_pay18 (k0_pay6 (View.ld (iblk m c 1 t) r0_0) (View.ld (iblk m c 2 t) r0_1)) : FVec Ideal S256x128 .bf16) (ix2 j e) = iblk m c 2 t (ix2 ⟨128 + j.val, by omega⟩ e) := by
    pointwise [k0_pay18, k0_pay6]
    rw [dif_neg (show ¬ 256 + j.val < 128 by omega)]
    exact congrArg _ (congrArg (fun x => ix2 x e) (Fin.ext (show 256 + j.val - 128 = 128 + j.val by omega)))
  rw [e1]
  exact blk2 m c t ⟨128 + j.val, by omega⟩ e b _ (by simp only [keyTok]; split <;> omega)

theorem query_at2_0 (c : Dev nD) (t : Fin cfg0.N) (b : Fin 2) (st : Fin 32) (ht : t.val = 32 * b.val + st.val) (e : Fin 256) (q : Fin 128) (x : Fin 768) (hx : x.val = e.val) :
    (View.ld (iblk m c 0 t) r0_11 : Vec Ideal S1x256x128 .bf16) (ix3 0 e q)
      = A0 m c (ix3 b (queryTok ⟨4 * st.val + 2, by omega⟩ q) x) * (Ideal.ofBits .f32 0x3E000000#32 * invLog2) := by
  obtain rfl : x = ⟨e.val, by clear hx; omega⟩ := Fin.ext hx
  rw [← blk0 m c t 2 ⟨e.val, by omega⟩ q b _ (show b.val * 16384 + (queryTok ⟨4 * st.val + 2, by omega⟩ q).val = 512 * t.val + 128 * 2 + q.val by simp only [queryTok]; omega)]
  pointwise []
  try blk_ext

theorem query_at2_1 (c : Dev nD) (t : Fin cfg0.N) (b : Fin 2) (st : Fin 32) (ht : t.val = 32 * b.val + st.val) (e : Fin 256) (q : Fin 128) (x : Fin 768) (hx : x.val = 256 + e.val) :
    (View.ld (iblk m c 0 t) r0_12 : Vec Ideal S1x256x128 .bf16) (ix3 0 e q)
      = A0 m c (ix3 b (queryTok ⟨4 * st.val + 2, by omega⟩ q) x) * (Ideal.ofBits .f32 0x3E000000#32 * invLog2) := by
  obtain rfl : x = ⟨256 + e.val, by clear hx; omega⟩ := Fin.ext hx
  rw [← blk0 m c t 2 ⟨256 + e.val, by omega⟩ q b _ (show b.val * 16384 + (queryTok ⟨4 * st.val + 2, by omega⟩ q).val = 512 * t.val + 128 * 2 + q.val by simp only [queryTok]; omega)]
  pointwise []
  try blk_ext

theorem kband_at3 (c : Dev nD) (t : Fin cfg0.N) (b : Fin 2) (st : Fin 32) (ht : t.val = 32 * b.val + st.val) (j : Fin 256) (e : Fin 128) (x : Fin 768) (hx : x.val = 512 + e.val) :
    (k0_pay21 (k0_pay6 (View.ld (iblk m c 1 t) r0_0) (View.ld (iblk m c 2 t) r0_1)) : FVec Ideal S256x128 .bf16) (ix2 j e)
      = A0 m c (ix3 b (keyTok ⟨4 * st.val + 3, by omega⟩ j) x) := by
  obtain rfl : x = ⟨512 + e.val, by clear hx; omega⟩ := Fin.ext hx
  have e1 : (k0_pay21 (k0_pay6 (View.ld (iblk m c 1 t) r0_0) (View.ld (iblk m c 2 t) r0_1)) : FVec Ideal S256x128 .bf16) (ix2 j e) = iblk m c 2 t (ix2 ⟨256 + j.val, by omega⟩ e) := by
    pointwise [k0_pay21, k0_pay6]
    rw [dif_neg (show ¬ 384 + j.val < 128 by omega)]
    exact congrArg _ (congrArg (fun x => ix2 x e) (Fin.ext (show 384 + j.val - 128 = 256 + j.val by omega)))
  rw [e1]
  exact blk2 m c t ⟨256 + j.val, by omega⟩ e b _ (by simp only [keyTok]; split <;> omega)

theorem query_at3_0 (c : Dev nD) (t : Fin cfg0.N) (b : Fin 2) (st : Fin 32) (ht : t.val = 32 * b.val + st.val) (e : Fin 256) (q : Fin 128) (x : Fin 768) (hx : x.val = e.val) :
    (View.ld (iblk m c 0 t) r0_13 : Vec Ideal S1x256x128 .bf16) (ix3 0 e q)
      = A0 m c (ix3 b (queryTok ⟨4 * st.val + 3, by omega⟩ q) x) * (Ideal.ofBits .f32 0x3E000000#32 * invLog2) := by
  obtain rfl : x = ⟨e.val, by clear hx; omega⟩ := Fin.ext hx
  rw [← blk0 m c t 3 ⟨e.val, by omega⟩ q b _ (show b.val * 16384 + (queryTok ⟨4 * st.val + 3, by omega⟩ q).val = 512 * t.val + 128 * 3 + q.val by simp only [queryTok]; omega)]
  pointwise []
  try blk_ext

theorem query_at3_1 (c : Dev nD) (t : Fin cfg0.N) (b : Fin 2) (st : Fin 32) (ht : t.val = 32 * b.val + st.val) (e : Fin 256) (q : Fin 128) (x : Fin 768) (hx : x.val = 256 + e.val) :
    (View.ld (iblk m c 0 t) r0_14 : Vec Ideal S1x256x128 .bf16) (ix3 0 e q)
      = A0 m c (ix3 b (queryTok ⟨4 * st.val + 3, by omega⟩ q) x) * (Ideal.ofBits .f32 0x3E000000#32 * invLog2) := by
  obtain rfl : x = ⟨256 + e.val, by clear hx; omega⟩ := Fin.ext hx
  rw [← blk0 m c t 3 ⟨256 + e.val, by omega⟩ q b _ (show b.val * 16384 + (queryTok ⟨4 * st.val + 3, by omega⟩ q).val = 512 * t.val + 128 * 3 + q.val by simp only [queryTok]; omega)]
  pointwise []
  try blk_ext

theorem value_at0 (c : Dev nD) (t : Fin cfg0.N) (b : Fin 2) (st : Fin 32) (ht : t.val = 32 * b.val + st.val) (e r : Fin 128) (x : Fin 768) (hx : x.val = 640 + e.val) (s : Fin 16384) (hs : s.val = (4 * st.val * 128 - 128) + r.val) :
    (k0_pay7 (View.ld (iblk m c 3 t) r0_2) : FVec Ideal S128x128 .bf16) (ix2 e r) = A0 m c (ix3 b s x) := by
  obtain rfl : x = ⟨640 + e.val, by clear hx; omega⟩ := Fin.ext hx
  rw [← blk3 m c t e r b s (by omega)]
  pointwise [k0_pay7]
  try blk_ext

theorem value_at1 (c : Dev nD) (t : Fin cfg0.N) (b : Fin 2) (st : Fin 32) (ht : t.val = 32 * b.val + st.val) (e r : Fin 128) (x : Fin 768) (hx : x.val = 640 + e.val) (s : Fin 16384) (hs : s.val = (4 * st.val + 0) * 128 + r.val) :
    (k0_pay8 (View.ld (iblk m c 4 t) r0_3) : FVec Ideal S128x128 .bf16) (ix2 e r) = A0 m c (ix3 b s x) := by
  obtain rfl : x = ⟨640 + e.val, by clear hx; omega⟩ := Fin.ext hx
  rw [← blk4 m c t 0 e r b s (show b.val * 16384 + s.val = 512 * t.val + 128 * 0 + r.val by omega)]
  pointwise [k0_pay8]
  try blk_ext

theorem value_at2 (c : Dev nD) (t : Fin cfg0.N) (b : Fin 2) (st : Fin 32) (ht : t.val = 32 * b.val + st.val) (e r : Fin 128) (x : Fin 768) (hx : x.val = 640 + e.val) (s : Fin 16384) (hs : s.val = (4 * st.val + 1) * 128 + r.val) :
    (k0_pay9 (View.ld (iblk m c 4 t) r0_4) : FVec Ideal S128x128 .bf16) (ix2 e r) = A0 m c (ix3 b s x) := by
  obtain rfl : x = ⟨640 + e.val, by clear hx; omega⟩ := Fin.ext hx
  rw [← blk4 m c t 1 e r b s (show b.val * 16384 + s.val = 512 * t.val + 128 * 1 + r.val by omega)]
  pointwise [k0_pay9]
  try blk_ext

theorem value_at3 (c : Dev nD) (t : Fin cfg0.N) (b : Fin 2) (st : Fin 32) (ht : t.val = 32 * b.val + st.val) (e r : Fin 128) (x : Fin 768) (hx : x.val = 640 + e.val) (s : Fin 16384) (hs : s.val = (4 * st.val + 2) * 128 + r.val) :
    (k0_pay10 (View.ld (iblk m c 4 t) r0_5) : FVec Ideal S128x128 .bf16) (ix2 e r) = A0 m c (ix3 b s x) := by
  obtain rfl : x = ⟨640 + e.val, by clear hx; omega⟩ := Fin.ext hx
  rw [← blk4 m c t 2 e r b s (show b.val * 16384 + s.val = 512 * t.val + 128 * 2 + r.val by omega)]
  pointwise [k0_pay10]
  try blk_ext

theorem value_at4 (c : Dev nD) (t : Fin cfg0.N) (b : Fin 2) (st : Fin 32) (ht : t.val = 32 * b.val + st.val) (e r : Fin 128) (x : Fin 768) (hx : x.val = 640 + e.val) (s : Fin 16384) (hs : s.val = (4 * st.val + 3) * 128 + r.val) :
    (k0_pay11 (View.ld (iblk m c 4 t) r0_6) : FVec Ideal S128x128 .bf16) (ix2 e r) = A0 m c (ix3 b s x) := by
  obtain rfl : x = ⟨640 + e.val, by clear hx; omega⟩ := Fin.ext hx
  rw [← blk4 m c t 3 e r b s (show b.val * 16384 + s.val = 512 * t.val + 128 * 3 + r.val by omega)]
  pointwise [k0_pay11]
  try blk_ext

theorem sink_at0 (c : Dev nD) (t : Fin cfg0.N) (q : Fin 128) :
    (View.ld (iblk m c 5 t) r0_15 : Vec Ideal S1x128 .f32) (ix2 0 q) = A1 m c (ix1 0) * invLog2 := by
  rw [← blk5 m c t 0 q]
  pointwise []
  try blk_ext

theorem sink_at1 (c : Dev nD) (t : Fin cfg0.N) (q : Fin 128) :
    (View.ld (iblk m c 5 t) r0_16 : Vec Ideal S1x128 .f32) (ix2 0 q) = A1 m c (ix1 1) * invLog2 := by
  rw [← blk5 m c t 1 q]
  pointwise []
  try blk_ext

theorem sink_at2 (c : Dev nD) (t : Fin cfg0.N) (q : Fin 128) :
    (View.ld (iblk m c 5 t) r0_17 : Vec Ideal S1x128 .f32) (ix2 0 q) = A1 m c (ix1 2) * invLog2 := by
  rw [← blk5 m c t 2 q]
  pointwise []
  try blk_ext

theorem sink_at3 (c : Dev nD) (t : Fin cfg0.N) (q : Fin 128) :
    (View.ld (iblk m c 5 t) r0_18 : Vec Ideal S1x128 .f32) (ix2 0 q) = A1 m c (ix1 3) * invLog2 := by
  rw [← blk5 m c t 3 q]
  pointwise []
  try blk_ext

theorem sink_at4 (c : Dev nD) (t : Fin cfg0.N) (q : Fin 128) :
    (View.ld (iblk m c 5 t) r0_19 : Vec Ideal S1x128 .f32) (ix2 0 q) = A1 m c (ix1 4) * invLog2 := by
  rw [← blk5 m c t 4 q]
  pointwise []
  try blk_ext

theorem sink_at5 (c : Dev nD) (t : Fin cfg0.N) (q : Fin 128) :
    (View.ld (iblk m c 5 t) r0_20 : Vec Ideal S1x128 .f32) (ix2 0 q) = A1 m c (ix1 5) * invLog2 := by
  rw [← blk5 m c t 5 q]
  pointwise []
  try blk_ext

theorem sink_at6 (c : Dev nD) (t : Fin cfg0.N) (q : Fin 128) :
    (View.ld (iblk m c 5 t) r0_21 : Vec Ideal S1x128 .f32) (ix2 0 q) = A1 m c (ix1 6) * invLog2 := by
  rw [← blk5 m c t 6 q]
  pointwise []
  try blk_ext

theorem sink_at7 (c : Dev nD) (t : Fin cfg0.N) (q : Fin 128) :
    (View.ld (iblk m c 5 t) r0_22 : Vec Ideal S1x128 .f32) (ix2 0 q) = A1 m c (ix1 7) * invLog2 := by
  rw [← blk5 m c t 7 q]
  pointwise []
  try blk_ext

/-- The mask of block 0 of a step. -/
theorem bias_at0 (c : Dev nD) (t : Fin cfg0.N) (b : Fin 2) (st : Fin 32) (ht : t.val = 32 * b.val + st.val) (j : Fin 256) (q : Fin 128) :
    (k0_pay4 (grid0.coords t) : FVec Ideal S256x128 .f32) (ix2 j q)
      = if j.val ≤ q.val + 128 ∧ q.val < j.val ∧ (4 * st.val + 0 = 0 → 128 ≤ j.val) then 0 else ⊥ := by
  rw [pay4_at t j q]
  exact if_congr (by omega) rfl rfl

/-- Block 0 of a step's output. -/
def blockOf0 (c : Dev nD) (t : Fin cfg0.N) : FVec Ideal S128x512 .bf16 :=
  blockOut (k0_pay12 (k0_pay6 (View.ld (iblk m c 1 t) r0_0) (View.ld (iblk m c 2 t) r0_1))) (View.ld (iblk m c 0 t) r0_7) (View.ld (iblk m c 0 t) r0_8) (k0_pay4 (grid0.coords t)) (k0_pay7 (View.ld (iblk m c 3 t) r0_2)) (k0_pay8 (View.ld (iblk m c 4 t) r0_3)) (View.ld (iblk m c 5 t) r0_15) (View.ld (iblk m c 5 t) r0_16) (View.ld (iblk m c 5 t) r0_17) (View.ld (iblk m c 5 t) r0_18) (View.ld (iblk m c 5 t) r0_19) (View.ld (iblk m c 5 t) r0_20) (View.ld (iblk m c 5 t) r0_21) (View.ld (iblk m c 5 t) r0_22)

theorem head_at0_0 (c : Dev nD) (t : Fin cfg0.N) (b : Fin 2) (st : Fin 32) (ht : t.val = 32 * b.val + st.val) (q : Fin 128) (d : Fin 64) :
    blockOf0 m c t (ix2 q ⟨d.val, by omega⟩) = kout (A0 m c) (A1 m c) b ⟨4 * st.val + 0, by omega⟩ q 0 d := by
  refine (blockOut_at0 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at0 m c t b st ht j _ _ (show 512 + 0 / 4 * 64 + d'.val = 512 + (d'.val) by omega)
  · exact query_at0_0 m c t b st ht _ q _ (show 0 * 64 + d'.val = (d'.val) by omega)
  · exact bias_at0 c t b st ht j q
  · exact sink_at0 m c t q
  · split
    · rename_i hj
      exact value_at0 m c t b st ht _ _ _ (show 640 + 0 / 4 * 64 + d.val = 640 + (d.val) by omega) (keyTok ⟨4 * st.val + 0, by omega⟩ j) (by simp only [keyTok, hj, if_true]; omega)
    · rename_i hj
      exact value_at1 m c t b st ht _ _ _ (show 640 + 0 / 4 * 64 + d.val = 640 + (d.val) by omega) (keyTok ⟨4 * st.val + 0, by omega⟩ j) (by simp only [keyTok, hj, if_false]; omega)

theorem head_at0_1 (c : Dev nD) (t : Fin cfg0.N) (b : Fin 2) (st : Fin 32) (ht : t.val = 32 * b.val + st.val) (q : Fin 128) (d : Fin 64) :
    blockOf0 m c t (ix2 q ⟨64 + d.val, by omega⟩) = kout (A0 m c) (A1 m c) b ⟨4 * st.val + 0, by omega⟩ q 1 d := by
  refine (blockOut_at1 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at0 m c t b st ht j _ _ (show 512 + 1 / 4 * 64 + d'.val = 512 + (d'.val) by omega)
  · exact query_at0_0 m c t b st ht _ q _ (show 1 * 64 + d'.val = (64 + d'.val) by omega)
  · exact bias_at0 c t b st ht j q
  · exact sink_at1 m c t q
  · split
    · rename_i hj
      exact value_at0 m c t b st ht _ _ _ (show 640 + 1 / 4 * 64 + d.val = 640 + (d.val) by omega) (keyTok ⟨4 * st.val + 0, by omega⟩ j) (by simp only [keyTok, hj, if_true]; omega)
    · rename_i hj
      exact value_at1 m c t b st ht _ _ _ (show 640 + 1 / 4 * 64 + d.val = 640 + (d.val) by omega) (keyTok ⟨4 * st.val + 0, by omega⟩ j) (by simp only [keyTok, hj, if_false]; omega)

theorem head_at0_2 (c : Dev nD) (t : Fin cfg0.N) (b : Fin 2) (st : Fin 32) (ht : t.val = 32 * b.val + st.val) (q : Fin 128) (d : Fin 64) :
    blockOf0 m c t (ix2 q ⟨128 + d.val, by omega⟩) = kout (A0 m c) (A1 m c) b ⟨4 * st.val + 0, by omega⟩ q 2 d := by
  refine (blockOut_at2 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at0 m c t b st ht j _ _ (show 512 + 2 / 4 * 64 + d'.val = 512 + (d'.val) by omega)
  · exact query_at0_0 m c t b st ht _ q _ (show 2 * 64 + d'.val = (128 + d'.val) by omega)
  · exact bias_at0 c t b st ht j q
  · exact sink_at2 m c t q
  · split
    · rename_i hj
      exact value_at0 m c t b st ht _ _ _ (show 640 + 2 / 4 * 64 + d.val = 640 + (d.val) by omega) (keyTok ⟨4 * st.val + 0, by omega⟩ j) (by simp only [keyTok, hj, if_true]; omega)
    · rename_i hj
      exact value_at1 m c t b st ht _ _ _ (show 640 + 2 / 4 * 64 + d.val = 640 + (d.val) by omega) (keyTok ⟨4 * st.val + 0, by omega⟩ j) (by simp only [keyTok, hj, if_false]; omega)

theorem head_at0_3 (c : Dev nD) (t : Fin cfg0.N) (b : Fin 2) (st : Fin 32) (ht : t.val = 32 * b.val + st.val) (q : Fin 128) (d : Fin 64) :
    blockOf0 m c t (ix2 q ⟨192 + d.val, by omega⟩) = kout (A0 m c) (A1 m c) b ⟨4 * st.val + 0, by omega⟩ q 3 d := by
  refine (blockOut_at3 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at0 m c t b st ht j _ _ (show 512 + 3 / 4 * 64 + d'.val = 512 + (d'.val) by omega)
  · exact query_at0_0 m c t b st ht _ q _ (show 3 * 64 + d'.val = (192 + d'.val) by omega)
  · exact bias_at0 c t b st ht j q
  · exact sink_at3 m c t q
  · split
    · rename_i hj
      exact value_at0 m c t b st ht _ _ _ (show 640 + 3 / 4 * 64 + d.val = 640 + (d.val) by omega) (keyTok ⟨4 * st.val + 0, by omega⟩ j) (by simp only [keyTok, hj, if_true]; omega)
    · rename_i hj
      exact value_at1 m c t b st ht _ _ _ (show 640 + 3 / 4 * 64 + d.val = 640 + (d.val) by omega) (keyTok ⟨4 * st.val + 0, by omega⟩ j) (by simp only [keyTok, hj, if_false]; omega)

theorem head_at0_4 (c : Dev nD) (t : Fin cfg0.N) (b : Fin 2) (st : Fin 32) (ht : t.val = 32 * b.val + st.val) (q : Fin 128) (d : Fin 64) :
    blockOf0 m c t (ix2 q ⟨256 + d.val, by omega⟩) = kout (A0 m c) (A1 m c) b ⟨4 * st.val + 0, by omega⟩ q 4 d := by
  refine (blockOut_at4 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at0 m c t b st ht j _ _ (show 512 + 4 / 4 * 64 + d'.val = 512 + (64 + d'.val) by omega)
  · exact query_at0_1 m c t b st ht _ q _ (show 4 * 64 + d'.val = 256 + (d'.val) by omega)
  · exact bias_at0 c t b st ht j q
  · exact sink_at4 m c t q
  · split
    · rename_i hj
      exact value_at0 m c t b st ht _ _ _ (show 640 + 4 / 4 * 64 + d.val = 640 + (64 + d.val) by omega) (keyTok ⟨4 * st.val + 0, by omega⟩ j) (by simp only [keyTok, hj, if_true]; omega)
    · rename_i hj
      exact value_at1 m c t b st ht _ _ _ (show 640 + 4 / 4 * 64 + d.val = 640 + (64 + d.val) by omega) (keyTok ⟨4 * st.val + 0, by omega⟩ j) (by simp only [keyTok, hj, if_false]; omega)

theorem head_at0_5 (c : Dev nD) (t : Fin cfg0.N) (b : Fin 2) (st : Fin 32) (ht : t.val = 32 * b.val + st.val) (q : Fin 128) (d : Fin 64) :
    blockOf0 m c t (ix2 q ⟨320 + d.val, by omega⟩) = kout (A0 m c) (A1 m c) b ⟨4 * st.val + 0, by omega⟩ q 5 d := by
  refine (blockOut_at5 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at0 m c t b st ht j _ _ (show 512 + 5 / 4 * 64 + d'.val = 512 + (64 + d'.val) by omega)
  · exact query_at0_1 m c t b st ht _ q _ (show 5 * 64 + d'.val = 256 + (64 + d'.val) by omega)
  · exact bias_at0 c t b st ht j q
  · exact sink_at5 m c t q
  · split
    · rename_i hj
      exact value_at0 m c t b st ht _ _ _ (show 640 + 5 / 4 * 64 + d.val = 640 + (64 + d.val) by omega) (keyTok ⟨4 * st.val + 0, by omega⟩ j) (by simp only [keyTok, hj, if_true]; omega)
    · rename_i hj
      exact value_at1 m c t b st ht _ _ _ (show 640 + 5 / 4 * 64 + d.val = 640 + (64 + d.val) by omega) (keyTok ⟨4 * st.val + 0, by omega⟩ j) (by simp only [keyTok, hj, if_false]; omega)

theorem head_at0_6 (c : Dev nD) (t : Fin cfg0.N) (b : Fin 2) (st : Fin 32) (ht : t.val = 32 * b.val + st.val) (q : Fin 128) (d : Fin 64) :
    blockOf0 m c t (ix2 q ⟨384 + d.val, by omega⟩) = kout (A0 m c) (A1 m c) b ⟨4 * st.val + 0, by omega⟩ q 6 d := by
  refine (blockOut_at6 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at0 m c t b st ht j _ _ (show 512 + 6 / 4 * 64 + d'.val = 512 + (64 + d'.val) by omega)
  · exact query_at0_1 m c t b st ht _ q _ (show 6 * 64 + d'.val = 256 + (128 + d'.val) by omega)
  · exact bias_at0 c t b st ht j q
  · exact sink_at6 m c t q
  · split
    · rename_i hj
      exact value_at0 m c t b st ht _ _ _ (show 640 + 6 / 4 * 64 + d.val = 640 + (64 + d.val) by omega) (keyTok ⟨4 * st.val + 0, by omega⟩ j) (by simp only [keyTok, hj, if_true]; omega)
    · rename_i hj
      exact value_at1 m c t b st ht _ _ _ (show 640 + 6 / 4 * 64 + d.val = 640 + (64 + d.val) by omega) (keyTok ⟨4 * st.val + 0, by omega⟩ j) (by simp only [keyTok, hj, if_false]; omega)

theorem head_at0_7 (c : Dev nD) (t : Fin cfg0.N) (b : Fin 2) (st : Fin 32) (ht : t.val = 32 * b.val + st.val) (q : Fin 128) (d : Fin 64) :
    blockOf0 m c t (ix2 q ⟨448 + d.val, by omega⟩) = kout (A0 m c) (A1 m c) b ⟨4 * st.val + 0, by omega⟩ q 7 d := by
  refine (blockOut_at7 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at0 m c t b st ht j _ _ (show 512 + 7 / 4 * 64 + d'.val = 512 + (64 + d'.val) by omega)
  · exact query_at0_1 m c t b st ht _ q _ (show 7 * 64 + d'.val = 256 + (192 + d'.val) by omega)
  · exact bias_at0 c t b st ht j q
  · exact sink_at7 m c t q
  · split
    · rename_i hj
      exact value_at0 m c t b st ht _ _ _ (show 640 + 7 / 4 * 64 + d.val = 640 + (64 + d.val) by omega) (keyTok ⟨4 * st.val + 0, by omega⟩ j) (by simp only [keyTok, hj, if_true]; omega)
    · rename_i hj
      exact value_at1 m c t b st ht _ _ _ (show 640 + 7 / 4 * 64 + d.val = 640 + (64 + d.val) by omega) (keyTok ⟨4 * st.val + 0, by omega⟩ j) (by simp only [keyTok, hj, if_false]; omega)

theorem block_at0 (c : Dev nD) (t : Fin cfg0.N) (b : Fin 2) (st : Fin 32) (ht : t.val = 32 * b.val + st.val) (q : Fin 128) (h : Fin 8) (d : Fin 64) :
    blockOf0 m c t (ix2 q ⟨64 * h.val + d.val, by omega⟩) = kout (A0 m c) (A1 m c) b ⟨4 * st.val + 0, by omega⟩ q h d := by
  match h with
  | ⟨0, _⟩ =>
    rw [← show _ = kout (A0 m c) (A1 m c) b ⟨4 * st.val + 0, by omega⟩ q ⟨0, by omega⟩ d from head_at0_0 m c t b st ht q d]
    exact congrArg _ (congrArg (ix2 q) (Fin.ext (show 64 * 0 + d.val = d.val by omega)))
  | ⟨1, _⟩ =>
    rw [← show _ = kout (A0 m c) (A1 m c) b ⟨4 * st.val + 0, by omega⟩ q ⟨1, by omega⟩ d from head_at0_1 m c t b st ht q d]
    exact congrArg _ (congrArg (ix2 q) (Fin.ext (show 64 * 1 + d.val = 64 + d.val by omega)))
  | ⟨2, _⟩ =>
    rw [← show _ = kout (A0 m c) (A1 m c) b ⟨4 * st.val + 0, by omega⟩ q ⟨2, by omega⟩ d from head_at0_2 m c t b st ht q d]
    exact congrArg _ (congrArg (ix2 q) (Fin.ext (show 64 * 2 + d.val = 128 + d.val by omega)))
  | ⟨3, _⟩ =>
    rw [← show _ = kout (A0 m c) (A1 m c) b ⟨4 * st.val + 0, by omega⟩ q ⟨3, by omega⟩ d from head_at0_3 m c t b st ht q d]
    exact congrArg _ (congrArg (ix2 q) (Fin.ext (show 64 * 3 + d.val = 192 + d.val by omega)))
  | ⟨4, _⟩ =>
    rw [← show _ = kout (A0 m c) (A1 m c) b ⟨4 * st.val + 0, by omega⟩ q ⟨4, by omega⟩ d from head_at0_4 m c t b st ht q d]
    exact congrArg _ (congrArg (ix2 q) (Fin.ext (show 64 * 4 + d.val = 256 + d.val by omega)))
  | ⟨5, _⟩ =>
    rw [← show _ = kout (A0 m c) (A1 m c) b ⟨4 * st.val + 0, by omega⟩ q ⟨5, by omega⟩ d from head_at0_5 m c t b st ht q d]
    exact congrArg _ (congrArg (ix2 q) (Fin.ext (show 64 * 5 + d.val = 320 + d.val by omega)))
  | ⟨6, _⟩ =>
    rw [← show _ = kout (A0 m c) (A1 m c) b ⟨4 * st.val + 0, by omega⟩ q ⟨6, by omega⟩ d from head_at0_6 m c t b st ht q d]
    exact congrArg _ (congrArg (ix2 q) (Fin.ext (show 64 * 6 + d.val = 384 + d.val by omega)))
  | ⟨7, _⟩ =>
    rw [← show _ = kout (A0 m c) (A1 m c) b ⟨4 * st.val + 0, by omega⟩ q ⟨7, by omega⟩ d from head_at0_7 m c t b st ht q d]
    exact congrArg _ (congrArg (ix2 q) (Fin.ext (show 64 * 7 + d.val = 448 + d.val by omega)))

/-- The mask of block 1 of a step. -/
theorem bias_at1 (c : Dev nD) (t : Fin cfg0.N) (b : Fin 2) (st : Fin 32) (ht : t.val = 32 * b.val + st.val) (j : Fin 256) (q : Fin 128) :
    (k0_pay5 : FVec Ideal S256x128 .f32) (ix2 j q)
      = if j.val ≤ q.val + 128 ∧ q.val < j.val ∧ (4 * st.val + 1 = 0 → 128 ≤ j.val) then 0 else ⊥ := by
  rw [pay5_at j q]
  exact if_congr (by omega) rfl rfl

/-- Block 1 of a step's output. -/
def blockOf1 (c : Dev nD) (t : Fin cfg0.N) : FVec Ideal S128x512 .bf16 :=
  blockOut (k0_pay15 (k0_pay6 (View.ld (iblk m c 1 t) r0_0) (View.ld (iblk m c 2 t) r0_1))) (View.ld (iblk m c 0 t) r0_9) (View.ld (iblk m c 0 t) r0_10) (k0_pay5) (k0_pay8 (View.ld (iblk m c 4 t) r0_3)) (k0_pay9 (View.ld (iblk m c 4 t) r0_4)) (View.ld (iblk m c 5 t) r0_15) (View.ld (iblk m c 5 t) r0_16) (View.ld (iblk m c 5 t) r0_17) (View.ld (iblk m c 5 t) r0_18) (View.ld (iblk m c 5 t) r0_19) (View.ld (iblk m c 5 t) r0_20) (View.ld (iblk m c 5 t) r0_21) (View.ld (iblk m c 5 t) r0_22)

theorem head_at1_0 (c : Dev nD) (t : Fin cfg0.N) (b : Fin 2) (st : Fin 32) (ht : t.val = 32 * b.val + st.val) (q : Fin 128) (d : Fin 64) :
    blockOf1 m c t (ix2 q ⟨d.val, by omega⟩) = kout (A0 m c) (A1 m c) b ⟨4 * st.val + 1, by omega⟩ q 0 d := by
  refine (blockOut_at0 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at1 m c t b st ht j _ _ (show 512 + 0 / 4 * 64 + d'.val = 512 + (d'.val) by omega)
  · exact query_at1_0 m c t b st ht _ q _ (show 0 * 64 + d'.val = (d'.val) by omega)
  · exact bias_at1 c t b st ht j q
  · exact sink_at0 m c t q
  · split
    · rename_i hj
      exact value_at1 m c t b st ht _ _ _ (show 640 + 0 / 4 * 64 + d.val = 640 + (d.val) by omega) (keyTok ⟨4 * st.val + 1, by omega⟩ j) (by simp only [keyTok, hj, if_true]; omega)
    · rename_i hj
      exact value_at2 m c t b st ht _ _ _ (show 640 + 0 / 4 * 64 + d.val = 640 + (d.val) by omega) (keyTok ⟨4 * st.val + 1, by omega⟩ j) (by simp only [keyTok, hj, if_false]; omega)

theorem head_at1_1 (c : Dev nD) (t : Fin cfg0.N) (b : Fin 2) (st : Fin 32) (ht : t.val = 32 * b.val + st.val) (q : Fin 128) (d : Fin 64) :
    blockOf1 m c t (ix2 q ⟨64 + d.val, by omega⟩) = kout (A0 m c) (A1 m c) b ⟨4 * st.val + 1, by omega⟩ q 1 d := by
  refine (blockOut_at1 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at1 m c t b st ht j _ _ (show 512 + 1 / 4 * 64 + d'.val = 512 + (d'.val) by omega)
  · exact query_at1_0 m c t b st ht _ q _ (show 1 * 64 + d'.val = (64 + d'.val) by omega)
  · exact bias_at1 c t b st ht j q
  · exact sink_at1 m c t q
  · split
    · rename_i hj
      exact value_at1 m c t b st ht _ _ _ (show 640 + 1 / 4 * 64 + d.val = 640 + (d.val) by omega) (keyTok ⟨4 * st.val + 1, by omega⟩ j) (by simp only [keyTok, hj, if_true]; omega)
    · rename_i hj
      exact value_at2 m c t b st ht _ _ _ (show 640 + 1 / 4 * 64 + d.val = 640 + (d.val) by omega) (keyTok ⟨4 * st.val + 1, by omega⟩ j) (by simp only [keyTok, hj, if_false]; omega)

theorem head_at1_2 (c : Dev nD) (t : Fin cfg0.N) (b : Fin 2) (st : Fin 32) (ht : t.val = 32 * b.val + st.val) (q : Fin 128) (d : Fin 64) :
    blockOf1 m c t (ix2 q ⟨128 + d.val, by omega⟩) = kout (A0 m c) (A1 m c) b ⟨4 * st.val + 1, by omega⟩ q 2 d := by
  refine (blockOut_at2 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at1 m c t b st ht j _ _ (show 512 + 2 / 4 * 64 + d'.val = 512 + (d'.val) by omega)
  · exact query_at1_0 m c t b st ht _ q _ (show 2 * 64 + d'.val = (128 + d'.val) by omega)
  · exact bias_at1 c t b st ht j q
  · exact sink_at2 m c t q
  · split
    · rename_i hj
      exact value_at1 m c t b st ht _ _ _ (show 640 + 2 / 4 * 64 + d.val = 640 + (d.val) by omega) (keyTok ⟨4 * st.val + 1, by omega⟩ j) (by simp only [keyTok, hj, if_true]; omega)
    · rename_i hj
      exact value_at2 m c t b st ht _ _ _ (show 640 + 2 / 4 * 64 + d.val = 640 + (d.val) by omega) (keyTok ⟨4 * st.val + 1, by omega⟩ j) (by simp only [keyTok, hj, if_false]; omega)

theorem head_at1_3 (c : Dev nD) (t : Fin cfg0.N) (b : Fin 2) (st : Fin 32) (ht : t.val = 32 * b.val + st.val) (q : Fin 128) (d : Fin 64) :
    blockOf1 m c t (ix2 q ⟨192 + d.val, by omega⟩) = kout (A0 m c) (A1 m c) b ⟨4 * st.val + 1, by omega⟩ q 3 d := by
  refine (blockOut_at3 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at1 m c t b st ht j _ _ (show 512 + 3 / 4 * 64 + d'.val = 512 + (d'.val) by omega)
  · exact query_at1_0 m c t b st ht _ q _ (show 3 * 64 + d'.val = (192 + d'.val) by omega)
  · exact bias_at1 c t b st ht j q
  · exact sink_at3 m c t q
  · split
    · rename_i hj
      exact value_at1 m c t b st ht _ _ _ (show 640 + 3 / 4 * 64 + d.val = 640 + (d.val) by omega) (keyTok ⟨4 * st.val + 1, by omega⟩ j) (by simp only [keyTok, hj, if_true]; omega)
    · rename_i hj
      exact value_at2 m c t b st ht _ _ _ (show 640 + 3 / 4 * 64 + d.val = 640 + (d.val) by omega) (keyTok ⟨4 * st.val + 1, by omega⟩ j) (by simp only [keyTok, hj, if_false]; omega)

theorem head_at1_4 (c : Dev nD) (t : Fin cfg0.N) (b : Fin 2) (st : Fin 32) (ht : t.val = 32 * b.val + st.val) (q : Fin 128) (d : Fin 64) :
    blockOf1 m c t (ix2 q ⟨256 + d.val, by omega⟩) = kout (A0 m c) (A1 m c) b ⟨4 * st.val + 1, by omega⟩ q 4 d := by
  refine (blockOut_at4 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at1 m c t b st ht j _ _ (show 512 + 4 / 4 * 64 + d'.val = 512 + (64 + d'.val) by omega)
  · exact query_at1_1 m c t b st ht _ q _ (show 4 * 64 + d'.val = 256 + (d'.val) by omega)
  · exact bias_at1 c t b st ht j q
  · exact sink_at4 m c t q
  · split
    · rename_i hj
      exact value_at1 m c t b st ht _ _ _ (show 640 + 4 / 4 * 64 + d.val = 640 + (64 + d.val) by omega) (keyTok ⟨4 * st.val + 1, by omega⟩ j) (by simp only [keyTok, hj, if_true]; omega)
    · rename_i hj
      exact value_at2 m c t b st ht _ _ _ (show 640 + 4 / 4 * 64 + d.val = 640 + (64 + d.val) by omega) (keyTok ⟨4 * st.val + 1, by omega⟩ j) (by simp only [keyTok, hj, if_false]; omega)

theorem head_at1_5 (c : Dev nD) (t : Fin cfg0.N) (b : Fin 2) (st : Fin 32) (ht : t.val = 32 * b.val + st.val) (q : Fin 128) (d : Fin 64) :
    blockOf1 m c t (ix2 q ⟨320 + d.val, by omega⟩) = kout (A0 m c) (A1 m c) b ⟨4 * st.val + 1, by omega⟩ q 5 d := by
  refine (blockOut_at5 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at1 m c t b st ht j _ _ (show 512 + 5 / 4 * 64 + d'.val = 512 + (64 + d'.val) by omega)
  · exact query_at1_1 m c t b st ht _ q _ (show 5 * 64 + d'.val = 256 + (64 + d'.val) by omega)
  · exact bias_at1 c t b st ht j q
  · exact sink_at5 m c t q
  · split
    · rename_i hj
      exact value_at1 m c t b st ht _ _ _ (show 640 + 5 / 4 * 64 + d.val = 640 + (64 + d.val) by omega) (keyTok ⟨4 * st.val + 1, by omega⟩ j) (by simp only [keyTok, hj, if_true]; omega)
    · rename_i hj
      exact value_at2 m c t b st ht _ _ _ (show 640 + 5 / 4 * 64 + d.val = 640 + (64 + d.val) by omega) (keyTok ⟨4 * st.val + 1, by omega⟩ j) (by simp only [keyTok, hj, if_false]; omega)

theorem head_at1_6 (c : Dev nD) (t : Fin cfg0.N) (b : Fin 2) (st : Fin 32) (ht : t.val = 32 * b.val + st.val) (q : Fin 128) (d : Fin 64) :
    blockOf1 m c t (ix2 q ⟨384 + d.val, by omega⟩) = kout (A0 m c) (A1 m c) b ⟨4 * st.val + 1, by omega⟩ q 6 d := by
  refine (blockOut_at6 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at1 m c t b st ht j _ _ (show 512 + 6 / 4 * 64 + d'.val = 512 + (64 + d'.val) by omega)
  · exact query_at1_1 m c t b st ht _ q _ (show 6 * 64 + d'.val = 256 + (128 + d'.val) by omega)
  · exact bias_at1 c t b st ht j q
  · exact sink_at6 m c t q
  · split
    · rename_i hj
      exact value_at1 m c t b st ht _ _ _ (show 640 + 6 / 4 * 64 + d.val = 640 + (64 + d.val) by omega) (keyTok ⟨4 * st.val + 1, by omega⟩ j) (by simp only [keyTok, hj, if_true]; omega)
    · rename_i hj
      exact value_at2 m c t b st ht _ _ _ (show 640 + 6 / 4 * 64 + d.val = 640 + (64 + d.val) by omega) (keyTok ⟨4 * st.val + 1, by omega⟩ j) (by simp only [keyTok, hj, if_false]; omega)

theorem head_at1_7 (c : Dev nD) (t : Fin cfg0.N) (b : Fin 2) (st : Fin 32) (ht : t.val = 32 * b.val + st.val) (q : Fin 128) (d : Fin 64) :
    blockOf1 m c t (ix2 q ⟨448 + d.val, by omega⟩) = kout (A0 m c) (A1 m c) b ⟨4 * st.val + 1, by omega⟩ q 7 d := by
  refine (blockOut_at7 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at1 m c t b st ht j _ _ (show 512 + 7 / 4 * 64 + d'.val = 512 + (64 + d'.val) by omega)
  · exact query_at1_1 m c t b st ht _ q _ (show 7 * 64 + d'.val = 256 + (192 + d'.val) by omega)
  · exact bias_at1 c t b st ht j q
  · exact sink_at7 m c t q
  · split
    · rename_i hj
      exact value_at1 m c t b st ht _ _ _ (show 640 + 7 / 4 * 64 + d.val = 640 + (64 + d.val) by omega) (keyTok ⟨4 * st.val + 1, by omega⟩ j) (by simp only [keyTok, hj, if_true]; omega)
    · rename_i hj
      exact value_at2 m c t b st ht _ _ _ (show 640 + 7 / 4 * 64 + d.val = 640 + (64 + d.val) by omega) (keyTok ⟨4 * st.val + 1, by omega⟩ j) (by simp only [keyTok, hj, if_false]; omega)

theorem block_at1 (c : Dev nD) (t : Fin cfg0.N) (b : Fin 2) (st : Fin 32) (ht : t.val = 32 * b.val + st.val) (q : Fin 128) (h : Fin 8) (d : Fin 64) :
    blockOf1 m c t (ix2 q ⟨64 * h.val + d.val, by omega⟩) = kout (A0 m c) (A1 m c) b ⟨4 * st.val + 1, by omega⟩ q h d := by
  match h with
  | ⟨0, _⟩ =>
    rw [← show _ = kout (A0 m c) (A1 m c) b ⟨4 * st.val + 1, by omega⟩ q ⟨0, by omega⟩ d from head_at1_0 m c t b st ht q d]
    exact congrArg _ (congrArg (ix2 q) (Fin.ext (show 64 * 0 + d.val = d.val by omega)))
  | ⟨1, _⟩ =>
    rw [← show _ = kout (A0 m c) (A1 m c) b ⟨4 * st.val + 1, by omega⟩ q ⟨1, by omega⟩ d from head_at1_1 m c t b st ht q d]
    exact congrArg _ (congrArg (ix2 q) (Fin.ext (show 64 * 1 + d.val = 64 + d.val by omega)))
  | ⟨2, _⟩ =>
    rw [← show _ = kout (A0 m c) (A1 m c) b ⟨4 * st.val + 1, by omega⟩ q ⟨2, by omega⟩ d from head_at1_2 m c t b st ht q d]
    exact congrArg _ (congrArg (ix2 q) (Fin.ext (show 64 * 2 + d.val = 128 + d.val by omega)))
  | ⟨3, _⟩ =>
    rw [← show _ = kout (A0 m c) (A1 m c) b ⟨4 * st.val + 1, by omega⟩ q ⟨3, by omega⟩ d from head_at1_3 m c t b st ht q d]
    exact congrArg _ (congrArg (ix2 q) (Fin.ext (show 64 * 3 + d.val = 192 + d.val by omega)))
  | ⟨4, _⟩ =>
    rw [← show _ = kout (A0 m c) (A1 m c) b ⟨4 * st.val + 1, by omega⟩ q ⟨4, by omega⟩ d from head_at1_4 m c t b st ht q d]
    exact congrArg _ (congrArg (ix2 q) (Fin.ext (show 64 * 4 + d.val = 256 + d.val by omega)))
  | ⟨5, _⟩ =>
    rw [← show _ = kout (A0 m c) (A1 m c) b ⟨4 * st.val + 1, by omega⟩ q ⟨5, by omega⟩ d from head_at1_5 m c t b st ht q d]
    exact congrArg _ (congrArg (ix2 q) (Fin.ext (show 64 * 5 + d.val = 320 + d.val by omega)))
  | ⟨6, _⟩ =>
    rw [← show _ = kout (A0 m c) (A1 m c) b ⟨4 * st.val + 1, by omega⟩ q ⟨6, by omega⟩ d from head_at1_6 m c t b st ht q d]
    exact congrArg _ (congrArg (ix2 q) (Fin.ext (show 64 * 6 + d.val = 384 + d.val by omega)))
  | ⟨7, _⟩ =>
    rw [← show _ = kout (A0 m c) (A1 m c) b ⟨4 * st.val + 1, by omega⟩ q ⟨7, by omega⟩ d from head_at1_7 m c t b st ht q d]
    exact congrArg _ (congrArg (ix2 q) (Fin.ext (show 64 * 7 + d.val = 448 + d.val by omega)))

/-- The mask of block 2 of a step. -/
theorem bias_at2 (c : Dev nD) (t : Fin cfg0.N) (b : Fin 2) (st : Fin 32) (ht : t.val = 32 * b.val + st.val) (j : Fin 256) (q : Fin 128) :
    (k0_pay5 : FVec Ideal S256x128 .f32) (ix2 j q)
      = if j.val ≤ q.val + 128 ∧ q.val < j.val ∧ (4 * st.val + 2 = 0 → 128 ≤ j.val) then 0 else ⊥ := by
  rw [pay5_at j q]
  exact if_congr (by omega) rfl rfl

/-- Block 2 of a step's output. -/
def blockOf2 (c : Dev nD) (t : Fin cfg0.N) : FVec Ideal S128x512 .bf16 :=
  blockOut (k0_pay18 (k0_pay6 (View.ld (iblk m c 1 t) r0_0) (View.ld (iblk m c 2 t) r0_1))) (View.ld (iblk m c 0 t) r0_11) (View.ld (iblk m c 0 t) r0_12) (k0_pay5) (k0_pay9 (View.ld (iblk m c 4 t) r0_4)) (k0_pay10 (View.ld (iblk m c 4 t) r0_5)) (View.ld (iblk m c 5 t) r0_15) (View.ld (iblk m c 5 t) r0_16) (View.ld (iblk m c 5 t) r0_17) (View.ld (iblk m c 5 t) r0_18) (View.ld (iblk m c 5 t) r0_19) (View.ld (iblk m c 5 t) r0_20) (View.ld (iblk m c 5 t) r0_21) (View.ld (iblk m c 5 t) r0_22)

theorem head_at2_0 (c : Dev nD) (t : Fin cfg0.N) (b : Fin 2) (st : Fin 32) (ht : t.val = 32 * b.val + st.val) (q : Fin 128) (d : Fin 64) :
    blockOf2 m c t (ix2 q ⟨d.val, by omega⟩) = kout (A0 m c) (A1 m c) b ⟨4 * st.val + 2, by omega⟩ q 0 d := by
  refine (blockOut_at0 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at2 m c t b st ht j _ _ (show 512 + 0 / 4 * 64 + d'.val = 512 + (d'.val) by omega)
  · exact query_at2_0 m c t b st ht _ q _ (show 0 * 64 + d'.val = (d'.val) by omega)
  · exact bias_at2 c t b st ht j q
  · exact sink_at0 m c t q
  · split
    · rename_i hj
      exact value_at2 m c t b st ht _ _ _ (show 640 + 0 / 4 * 64 + d.val = 640 + (d.val) by omega) (keyTok ⟨4 * st.val + 2, by omega⟩ j) (by simp only [keyTok, hj, if_true]; omega)
    · rename_i hj
      exact value_at3 m c t b st ht _ _ _ (show 640 + 0 / 4 * 64 + d.val = 640 + (d.val) by omega) (keyTok ⟨4 * st.val + 2, by omega⟩ j) (by simp only [keyTok, hj, if_false]; omega)

theorem head_at2_1 (c : Dev nD) (t : Fin cfg0.N) (b : Fin 2) (st : Fin 32) (ht : t.val = 32 * b.val + st.val) (q : Fin 128) (d : Fin 64) :
    blockOf2 m c t (ix2 q ⟨64 + d.val, by omega⟩) = kout (A0 m c) (A1 m c) b ⟨4 * st.val + 2, by omega⟩ q 1 d := by
  refine (blockOut_at1 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at2 m c t b st ht j _ _ (show 512 + 1 / 4 * 64 + d'.val = 512 + (d'.val) by omega)
  · exact query_at2_0 m c t b st ht _ q _ (show 1 * 64 + d'.val = (64 + d'.val) by omega)
  · exact bias_at2 c t b st ht j q
  · exact sink_at1 m c t q
  · split
    · rename_i hj
      exact value_at2 m c t b st ht _ _ _ (show 640 + 1 / 4 * 64 + d.val = 640 + (d.val) by omega) (keyTok ⟨4 * st.val + 2, by omega⟩ j) (by simp only [keyTok, hj, if_true]; omega)
    · rename_i hj
      exact value_at3 m c t b st ht _ _ _ (show 640 + 1 / 4 * 64 + d.val = 640 + (d.val) by omega) (keyTok ⟨4 * st.val + 2, by omega⟩ j) (by simp only [keyTok, hj, if_false]; omega)

theorem head_at2_2 (c : Dev nD) (t : Fin cfg0.N) (b : Fin 2) (st : Fin 32) (ht : t.val = 32 * b.val + st.val) (q : Fin 128) (d : Fin 64) :
    blockOf2 m c t (ix2 q ⟨128 + d.val, by omega⟩) = kout (A0 m c) (A1 m c) b ⟨4 * st.val + 2, by omega⟩ q 2 d := by
  refine (blockOut_at2 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at2 m c t b st ht j _ _ (show 512 + 2 / 4 * 64 + d'.val = 512 + (d'.val) by omega)
  · exact query_at2_0 m c t b st ht _ q _ (show 2 * 64 + d'.val = (128 + d'.val) by omega)
  · exact bias_at2 c t b st ht j q
  · exact sink_at2 m c t q
  · split
    · rename_i hj
      exact value_at2 m c t b st ht _ _ _ (show 640 + 2 / 4 * 64 + d.val = 640 + (d.val) by omega) (keyTok ⟨4 * st.val + 2, by omega⟩ j) (by simp only [keyTok, hj, if_true]; omega)
    · rename_i hj
      exact value_at3 m c t b st ht _ _ _ (show 640 + 2 / 4 * 64 + d.val = 640 + (d.val) by omega) (keyTok ⟨4 * st.val + 2, by omega⟩ j) (by simp only [keyTok, hj, if_false]; omega)

theorem head_at2_3 (c : Dev nD) (t : Fin cfg0.N) (b : Fin 2) (st : Fin 32) (ht : t.val = 32 * b.val + st.val) (q : Fin 128) (d : Fin 64) :
    blockOf2 m c t (ix2 q ⟨192 + d.val, by omega⟩) = kout (A0 m c) (A1 m c) b ⟨4 * st.val + 2, by omega⟩ q 3 d := by
  refine (blockOut_at3 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at2 m c t b st ht j _ _ (show 512 + 3 / 4 * 64 + d'.val = 512 + (d'.val) by omega)
  · exact query_at2_0 m c t b st ht _ q _ (show 3 * 64 + d'.val = (192 + d'.val) by omega)
  · exact bias_at2 c t b st ht j q
  · exact sink_at3 m c t q
  · split
    · rename_i hj
      exact value_at2 m c t b st ht _ _ _ (show 640 + 3 / 4 * 64 + d.val = 640 + (d.val) by omega) (keyTok ⟨4 * st.val + 2, by omega⟩ j) (by simp only [keyTok, hj, if_true]; omega)
    · rename_i hj
      exact value_at3 m c t b st ht _ _ _ (show 640 + 3 / 4 * 64 + d.val = 640 + (d.val) by omega) (keyTok ⟨4 * st.val + 2, by omega⟩ j) (by simp only [keyTok, hj, if_false]; omega)

theorem head_at2_4 (c : Dev nD) (t : Fin cfg0.N) (b : Fin 2) (st : Fin 32) (ht : t.val = 32 * b.val + st.val) (q : Fin 128) (d : Fin 64) :
    blockOf2 m c t (ix2 q ⟨256 + d.val, by omega⟩) = kout (A0 m c) (A1 m c) b ⟨4 * st.val + 2, by omega⟩ q 4 d := by
  refine (blockOut_at4 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at2 m c t b st ht j _ _ (show 512 + 4 / 4 * 64 + d'.val = 512 + (64 + d'.val) by omega)
  · exact query_at2_1 m c t b st ht _ q _ (show 4 * 64 + d'.val = 256 + (d'.val) by omega)
  · exact bias_at2 c t b st ht j q
  · exact sink_at4 m c t q
  · split
    · rename_i hj
      exact value_at2 m c t b st ht _ _ _ (show 640 + 4 / 4 * 64 + d.val = 640 + (64 + d.val) by omega) (keyTok ⟨4 * st.val + 2, by omega⟩ j) (by simp only [keyTok, hj, if_true]; omega)
    · rename_i hj
      exact value_at3 m c t b st ht _ _ _ (show 640 + 4 / 4 * 64 + d.val = 640 + (64 + d.val) by omega) (keyTok ⟨4 * st.val + 2, by omega⟩ j) (by simp only [keyTok, hj, if_false]; omega)

theorem head_at2_5 (c : Dev nD) (t : Fin cfg0.N) (b : Fin 2) (st : Fin 32) (ht : t.val = 32 * b.val + st.val) (q : Fin 128) (d : Fin 64) :
    blockOf2 m c t (ix2 q ⟨320 + d.val, by omega⟩) = kout (A0 m c) (A1 m c) b ⟨4 * st.val + 2, by omega⟩ q 5 d := by
  refine (blockOut_at5 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at2 m c t b st ht j _ _ (show 512 + 5 / 4 * 64 + d'.val = 512 + (64 + d'.val) by omega)
  · exact query_at2_1 m c t b st ht _ q _ (show 5 * 64 + d'.val = 256 + (64 + d'.val) by omega)
  · exact bias_at2 c t b st ht j q
  · exact sink_at5 m c t q
  · split
    · rename_i hj
      exact value_at2 m c t b st ht _ _ _ (show 640 + 5 / 4 * 64 + d.val = 640 + (64 + d.val) by omega) (keyTok ⟨4 * st.val + 2, by omega⟩ j) (by simp only [keyTok, hj, if_true]; omega)
    · rename_i hj
      exact value_at3 m c t b st ht _ _ _ (show 640 + 5 / 4 * 64 + d.val = 640 + (64 + d.val) by omega) (keyTok ⟨4 * st.val + 2, by omega⟩ j) (by simp only [keyTok, hj, if_false]; omega)

theorem head_at2_6 (c : Dev nD) (t : Fin cfg0.N) (b : Fin 2) (st : Fin 32) (ht : t.val = 32 * b.val + st.val) (q : Fin 128) (d : Fin 64) :
    blockOf2 m c t (ix2 q ⟨384 + d.val, by omega⟩) = kout (A0 m c) (A1 m c) b ⟨4 * st.val + 2, by omega⟩ q 6 d := by
  refine (blockOut_at6 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at2 m c t b st ht j _ _ (show 512 + 6 / 4 * 64 + d'.val = 512 + (64 + d'.val) by omega)
  · exact query_at2_1 m c t b st ht _ q _ (show 6 * 64 + d'.val = 256 + (128 + d'.val) by omega)
  · exact bias_at2 c t b st ht j q
  · exact sink_at6 m c t q
  · split
    · rename_i hj
      exact value_at2 m c t b st ht _ _ _ (show 640 + 6 / 4 * 64 + d.val = 640 + (64 + d.val) by omega) (keyTok ⟨4 * st.val + 2, by omega⟩ j) (by simp only [keyTok, hj, if_true]; omega)
    · rename_i hj
      exact value_at3 m c t b st ht _ _ _ (show 640 + 6 / 4 * 64 + d.val = 640 + (64 + d.val) by omega) (keyTok ⟨4 * st.val + 2, by omega⟩ j) (by simp only [keyTok, hj, if_false]; omega)

theorem head_at2_7 (c : Dev nD) (t : Fin cfg0.N) (b : Fin 2) (st : Fin 32) (ht : t.val = 32 * b.val + st.val) (q : Fin 128) (d : Fin 64) :
    blockOf2 m c t (ix2 q ⟨448 + d.val, by omega⟩) = kout (A0 m c) (A1 m c) b ⟨4 * st.val + 2, by omega⟩ q 7 d := by
  refine (blockOut_at7 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at2 m c t b st ht j _ _ (show 512 + 7 / 4 * 64 + d'.val = 512 + (64 + d'.val) by omega)
  · exact query_at2_1 m c t b st ht _ q _ (show 7 * 64 + d'.val = 256 + (192 + d'.val) by omega)
  · exact bias_at2 c t b st ht j q
  · exact sink_at7 m c t q
  · split
    · rename_i hj
      exact value_at2 m c t b st ht _ _ _ (show 640 + 7 / 4 * 64 + d.val = 640 + (64 + d.val) by omega) (keyTok ⟨4 * st.val + 2, by omega⟩ j) (by simp only [keyTok, hj, if_true]; omega)
    · rename_i hj
      exact value_at3 m c t b st ht _ _ _ (show 640 + 7 / 4 * 64 + d.val = 640 + (64 + d.val) by omega) (keyTok ⟨4 * st.val + 2, by omega⟩ j) (by simp only [keyTok, hj, if_false]; omega)

theorem block_at2 (c : Dev nD) (t : Fin cfg0.N) (b : Fin 2) (st : Fin 32) (ht : t.val = 32 * b.val + st.val) (q : Fin 128) (h : Fin 8) (d : Fin 64) :
    blockOf2 m c t (ix2 q ⟨64 * h.val + d.val, by omega⟩) = kout (A0 m c) (A1 m c) b ⟨4 * st.val + 2, by omega⟩ q h d := by
  match h with
  | ⟨0, _⟩ =>
    rw [← show _ = kout (A0 m c) (A1 m c) b ⟨4 * st.val + 2, by omega⟩ q ⟨0, by omega⟩ d from head_at2_0 m c t b st ht q d]
    exact congrArg _ (congrArg (ix2 q) (Fin.ext (show 64 * 0 + d.val = d.val by omega)))
  | ⟨1, _⟩ =>
    rw [← show _ = kout (A0 m c) (A1 m c) b ⟨4 * st.val + 2, by omega⟩ q ⟨1, by omega⟩ d from head_at2_1 m c t b st ht q d]
    exact congrArg _ (congrArg (ix2 q) (Fin.ext (show 64 * 1 + d.val = 64 + d.val by omega)))
  | ⟨2, _⟩ =>
    rw [← show _ = kout (A0 m c) (A1 m c) b ⟨4 * st.val + 2, by omega⟩ q ⟨2, by omega⟩ d from head_at2_2 m c t b st ht q d]
    exact congrArg _ (congrArg (ix2 q) (Fin.ext (show 64 * 2 + d.val = 128 + d.val by omega)))
  | ⟨3, _⟩ =>
    rw [← show _ = kout (A0 m c) (A1 m c) b ⟨4 * st.val + 2, by omega⟩ q ⟨3, by omega⟩ d from head_at2_3 m c t b st ht q d]
    exact congrArg _ (congrArg (ix2 q) (Fin.ext (show 64 * 3 + d.val = 192 + d.val by omega)))
  | ⟨4, _⟩ =>
    rw [← show _ = kout (A0 m c) (A1 m c) b ⟨4 * st.val + 2, by omega⟩ q ⟨4, by omega⟩ d from head_at2_4 m c t b st ht q d]
    exact congrArg _ (congrArg (ix2 q) (Fin.ext (show 64 * 4 + d.val = 256 + d.val by omega)))
  | ⟨5, _⟩ =>
    rw [← show _ = kout (A0 m c) (A1 m c) b ⟨4 * st.val + 2, by omega⟩ q ⟨5, by omega⟩ d from head_at2_5 m c t b st ht q d]
    exact congrArg _ (congrArg (ix2 q) (Fin.ext (show 64 * 5 + d.val = 320 + d.val by omega)))
  | ⟨6, _⟩ =>
    rw [← show _ = kout (A0 m c) (A1 m c) b ⟨4 * st.val + 2, by omega⟩ q ⟨6, by omega⟩ d from head_at2_6 m c t b st ht q d]
    exact congrArg _ (congrArg (ix2 q) (Fin.ext (show 64 * 6 + d.val = 384 + d.val by omega)))
  | ⟨7, _⟩ =>
    rw [← show _ = kout (A0 m c) (A1 m c) b ⟨4 * st.val + 2, by omega⟩ q ⟨7, by omega⟩ d from head_at2_7 m c t b st ht q d]
    exact congrArg _ (congrArg (ix2 q) (Fin.ext (show 64 * 7 + d.val = 448 + d.val by omega)))

/-- The mask of block 3 of a step. -/
theorem bias_at3 (c : Dev nD) (t : Fin cfg0.N) (b : Fin 2) (st : Fin 32) (ht : t.val = 32 * b.val + st.val) (j : Fin 256) (q : Fin 128) :
    (k0_pay5 : FVec Ideal S256x128 .f32) (ix2 j q)
      = if j.val ≤ q.val + 128 ∧ q.val < j.val ∧ (4 * st.val + 3 = 0 → 128 ≤ j.val) then 0 else ⊥ := by
  rw [pay5_at j q]
  exact if_congr (by omega) rfl rfl

/-- Block 3 of a step's output. -/
def blockOf3 (c : Dev nD) (t : Fin cfg0.N) : FVec Ideal S128x512 .bf16 :=
  blockOut (k0_pay21 (k0_pay6 (View.ld (iblk m c 1 t) r0_0) (View.ld (iblk m c 2 t) r0_1))) (View.ld (iblk m c 0 t) r0_13) (View.ld (iblk m c 0 t) r0_14) (k0_pay5) (k0_pay10 (View.ld (iblk m c 4 t) r0_5)) (k0_pay11 (View.ld (iblk m c 4 t) r0_6)) (View.ld (iblk m c 5 t) r0_15) (View.ld (iblk m c 5 t) r0_16) (View.ld (iblk m c 5 t) r0_17) (View.ld (iblk m c 5 t) r0_18) (View.ld (iblk m c 5 t) r0_19) (View.ld (iblk m c 5 t) r0_20) (View.ld (iblk m c 5 t) r0_21) (View.ld (iblk m c 5 t) r0_22)

theorem head_at3_0 (c : Dev nD) (t : Fin cfg0.N) (b : Fin 2) (st : Fin 32) (ht : t.val = 32 * b.val + st.val) (q : Fin 128) (d : Fin 64) :
    blockOf3 m c t (ix2 q ⟨d.val, by omega⟩) = kout (A0 m c) (A1 m c) b ⟨4 * st.val + 3, by omega⟩ q 0 d := by
  refine (blockOut_at0 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at3 m c t b st ht j _ _ (show 512 + 0 / 4 * 64 + d'.val = 512 + (d'.val) by omega)
  · exact query_at3_0 m c t b st ht _ q _ (show 0 * 64 + d'.val = (d'.val) by omega)
  · exact bias_at3 c t b st ht j q
  · exact sink_at0 m c t q
  · split
    · rename_i hj
      exact value_at3 m c t b st ht _ _ _ (show 640 + 0 / 4 * 64 + d.val = 640 + (d.val) by omega) (keyTok ⟨4 * st.val + 3, by omega⟩ j) (by simp only [keyTok, hj, if_true]; omega)
    · rename_i hj
      exact value_at4 m c t b st ht _ _ _ (show 640 + 0 / 4 * 64 + d.val = 640 + (d.val) by omega) (keyTok ⟨4 * st.val + 3, by omega⟩ j) (by simp only [keyTok, hj, if_false]; omega)

theorem head_at3_1 (c : Dev nD) (t : Fin cfg0.N) (b : Fin 2) (st : Fin 32) (ht : t.val = 32 * b.val + st.val) (q : Fin 128) (d : Fin 64) :
    blockOf3 m c t (ix2 q ⟨64 + d.val, by omega⟩) = kout (A0 m c) (A1 m c) b ⟨4 * st.val + 3, by omega⟩ q 1 d := by
  refine (blockOut_at1 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at3 m c t b st ht j _ _ (show 512 + 1 / 4 * 64 + d'.val = 512 + (d'.val) by omega)
  · exact query_at3_0 m c t b st ht _ q _ (show 1 * 64 + d'.val = (64 + d'.val) by omega)
  · exact bias_at3 c t b st ht j q
  · exact sink_at1 m c t q
  · split
    · rename_i hj
      exact value_at3 m c t b st ht _ _ _ (show 640 + 1 / 4 * 64 + d.val = 640 + (d.val) by omega) (keyTok ⟨4 * st.val + 3, by omega⟩ j) (by simp only [keyTok, hj, if_true]; omega)
    · rename_i hj
      exact value_at4 m c t b st ht _ _ _ (show 640 + 1 / 4 * 64 + d.val = 640 + (d.val) by omega) (keyTok ⟨4 * st.val + 3, by omega⟩ j) (by simp only [keyTok, hj, if_false]; omega)

theorem head_at3_2 (c : Dev nD) (t : Fin cfg0.N) (b : Fin 2) (st : Fin 32) (ht : t.val = 32 * b.val + st.val) (q : Fin 128) (d : Fin 64) :
    blockOf3 m c t (ix2 q ⟨128 + d.val, by omega⟩) = kout (A0 m c) (A1 m c) b ⟨4 * st.val + 3, by omega⟩ q 2 d := by
  refine (blockOut_at2 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at3 m c t b st ht j _ _ (show 512 + 2 / 4 * 64 + d'.val = 512 + (d'.val) by omega)
  · exact query_at3_0 m c t b st ht _ q _ (show 2 * 64 + d'.val = (128 + d'.val) by omega)
  · exact bias_at3 c t b st ht j q
  · exact sink_at2 m c t q
  · split
    · rename_i hj
      exact value_at3 m c t b st ht _ _ _ (show 640 + 2 / 4 * 64 + d.val = 640 + (d.val) by omega) (keyTok ⟨4 * st.val + 3, by omega⟩ j) (by simp only [keyTok, hj, if_true]; omega)
    · rename_i hj
      exact value_at4 m c t b st ht _ _ _ (show 640 + 2 / 4 * 64 + d.val = 640 + (d.val) by omega) (keyTok ⟨4 * st.val + 3, by omega⟩ j) (by simp only [keyTok, hj, if_false]; omega)

theorem head_at3_3 (c : Dev nD) (t : Fin cfg0.N) (b : Fin 2) (st : Fin 32) (ht : t.val = 32 * b.val + st.val) (q : Fin 128) (d : Fin 64) :
    blockOf3 m c t (ix2 q ⟨192 + d.val, by omega⟩) = kout (A0 m c) (A1 m c) b ⟨4 * st.val + 3, by omega⟩ q 3 d := by
  refine (blockOut_at3 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at3 m c t b st ht j _ _ (show 512 + 3 / 4 * 64 + d'.val = 512 + (d'.val) by omega)
  · exact query_at3_0 m c t b st ht _ q _ (show 3 * 64 + d'.val = (192 + d'.val) by omega)
  · exact bias_at3 c t b st ht j q
  · exact sink_at3 m c t q
  · split
    · rename_i hj
      exact value_at3 m c t b st ht _ _ _ (show 640 + 3 / 4 * 64 + d.val = 640 + (d.val) by omega) (keyTok ⟨4 * st.val + 3, by omega⟩ j) (by simp only [keyTok, hj, if_true]; omega)
    · rename_i hj
      exact value_at4 m c t b st ht _ _ _ (show 640 + 3 / 4 * 64 + d.val = 640 + (d.val) by omega) (keyTok ⟨4 * st.val + 3, by omega⟩ j) (by simp only [keyTok, hj, if_false]; omega)

theorem head_at3_4 (c : Dev nD) (t : Fin cfg0.N) (b : Fin 2) (st : Fin 32) (ht : t.val = 32 * b.val + st.val) (q : Fin 128) (d : Fin 64) :
    blockOf3 m c t (ix2 q ⟨256 + d.val, by omega⟩) = kout (A0 m c) (A1 m c) b ⟨4 * st.val + 3, by omega⟩ q 4 d := by
  refine (blockOut_at4 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at3 m c t b st ht j _ _ (show 512 + 4 / 4 * 64 + d'.val = 512 + (64 + d'.val) by omega)
  · exact query_at3_1 m c t b st ht _ q _ (show 4 * 64 + d'.val = 256 + (d'.val) by omega)
  · exact bias_at3 c t b st ht j q
  · exact sink_at4 m c t q
  · split
    · rename_i hj
      exact value_at3 m c t b st ht _ _ _ (show 640 + 4 / 4 * 64 + d.val = 640 + (64 + d.val) by omega) (keyTok ⟨4 * st.val + 3, by omega⟩ j) (by simp only [keyTok, hj, if_true]; omega)
    · rename_i hj
      exact value_at4 m c t b st ht _ _ _ (show 640 + 4 / 4 * 64 + d.val = 640 + (64 + d.val) by omega) (keyTok ⟨4 * st.val + 3, by omega⟩ j) (by simp only [keyTok, hj, if_false]; omega)

theorem head_at3_5 (c : Dev nD) (t : Fin cfg0.N) (b : Fin 2) (st : Fin 32) (ht : t.val = 32 * b.val + st.val) (q : Fin 128) (d : Fin 64) :
    blockOf3 m c t (ix2 q ⟨320 + d.val, by omega⟩) = kout (A0 m c) (A1 m c) b ⟨4 * st.val + 3, by omega⟩ q 5 d := by
  refine (blockOut_at5 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at3 m c t b st ht j _ _ (show 512 + 5 / 4 * 64 + d'.val = 512 + (64 + d'.val) by omega)
  · exact query_at3_1 m c t b st ht _ q _ (show 5 * 64 + d'.val = 256 + (64 + d'.val) by omega)
  · exact bias_at3 c t b st ht j q
  · exact sink_at5 m c t q
  · split
    · rename_i hj
      exact value_at3 m c t b st ht _ _ _ (show 640 + 5 / 4 * 64 + d.val = 640 + (64 + d.val) by omega) (keyTok ⟨4 * st.val + 3, by omega⟩ j) (by simp only [keyTok, hj, if_true]; omega)
    · rename_i hj
      exact value_at4 m c t b st ht _ _ _ (show 640 + 5 / 4 * 64 + d.val = 640 + (64 + d.val) by omega) (keyTok ⟨4 * st.val + 3, by omega⟩ j) (by simp only [keyTok, hj, if_false]; omega)

theorem head_at3_6 (c : Dev nD) (t : Fin cfg0.N) (b : Fin 2) (st : Fin 32) (ht : t.val = 32 * b.val + st.val) (q : Fin 128) (d : Fin 64) :
    blockOf3 m c t (ix2 q ⟨384 + d.val, by omega⟩) = kout (A0 m c) (A1 m c) b ⟨4 * st.val + 3, by omega⟩ q 6 d := by
  refine (blockOut_at6 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at3 m c t b st ht j _ _ (show 512 + 6 / 4 * 64 + d'.val = 512 + (64 + d'.val) by omega)
  · exact query_at3_1 m c t b st ht _ q _ (show 6 * 64 + d'.val = 256 + (128 + d'.val) by omega)
  · exact bias_at3 c t b st ht j q
  · exact sink_at6 m c t q
  · split
    · rename_i hj
      exact value_at3 m c t b st ht _ _ _ (show 640 + 6 / 4 * 64 + d.val = 640 + (64 + d.val) by omega) (keyTok ⟨4 * st.val + 3, by omega⟩ j) (by simp only [keyTok, hj, if_true]; omega)
    · rename_i hj
      exact value_at4 m c t b st ht _ _ _ (show 640 + 6 / 4 * 64 + d.val = 640 + (64 + d.val) by omega) (keyTok ⟨4 * st.val + 3, by omega⟩ j) (by simp only [keyTok, hj, if_false]; omega)

theorem head_at3_7 (c : Dev nD) (t : Fin cfg0.N) (b : Fin 2) (st : Fin 32) (ht : t.val = 32 * b.val + st.val) (q : Fin 128) (d : Fin 64) :
    blockOf3 m c t (ix2 q ⟨448 + d.val, by omega⟩) = kout (A0 m c) (A1 m c) b ⟨4 * st.val + 3, by omega⟩ q 7 d := by
  refine (blockOut_at7 _ _ _ _ _ _ _ _ _ _ _ _ _ _ q d).trans ?_
  unfold kout
  refine congr (congrArg₂ attn (funext fun j => congrArg₂ _ (Finset.sum_congr rfl fun d' _ => congrArg₂ _ ?_ ?_) ?_) ?_) (funext fun j => ?_)
  · exact kband_at3 m c t b st ht j _ _ (show 512 + 7 / 4 * 64 + d'.val = 512 + (64 + d'.val) by omega)
  · exact query_at3_1 m c t b st ht _ q _ (show 7 * 64 + d'.val = 256 + (192 + d'.val) by omega)
  · exact bias_at3 c t b st ht j q
  · exact sink_at7 m c t q
  · split
    · rename_i hj
      exact value_at3 m c t b st ht _ _ _ (show 640 + 7 / 4 * 64 + d.val = 640 + (64 + d.val) by omega) (keyTok ⟨4 * st.val + 3, by omega⟩ j) (by simp only [keyTok, hj, if_true]; omega)
    · rename_i hj
      exact value_at4 m c t b st ht _ _ _ (show 640 + 7 / 4 * 64 + d.val = 640 + (64 + d.val) by omega) (keyTok ⟨4 * st.val + 3, by omega⟩ j) (by simp only [keyTok, hj, if_false]; omega)

theorem block_at3 (c : Dev nD) (t : Fin cfg0.N) (b : Fin 2) (st : Fin 32) (ht : t.val = 32 * b.val + st.val) (q : Fin 128) (h : Fin 8) (d : Fin 64) :
    blockOf3 m c t (ix2 q ⟨64 * h.val + d.val, by omega⟩) = kout (A0 m c) (A1 m c) b ⟨4 * st.val + 3, by omega⟩ q h d := by
  match h with
  | ⟨0, _⟩ =>
    rw [← show _ = kout (A0 m c) (A1 m c) b ⟨4 * st.val + 3, by omega⟩ q ⟨0, by omega⟩ d from head_at3_0 m c t b st ht q d]
    exact congrArg _ (congrArg (ix2 q) (Fin.ext (show 64 * 0 + d.val = d.val by omega)))
  | ⟨1, _⟩ =>
    rw [← show _ = kout (A0 m c) (A1 m c) b ⟨4 * st.val + 3, by omega⟩ q ⟨1, by omega⟩ d from head_at3_1 m c t b st ht q d]
    exact congrArg _ (congrArg (ix2 q) (Fin.ext (show 64 * 1 + d.val = 64 + d.val by omega)))
  | ⟨2, _⟩ =>
    rw [← show _ = kout (A0 m c) (A1 m c) b ⟨4 * st.val + 3, by omega⟩ q ⟨2, by omega⟩ d from head_at3_2 m c t b st ht q d]
    exact congrArg _ (congrArg (ix2 q) (Fin.ext (show 64 * 2 + d.val = 128 + d.val by omega)))
  | ⟨3, _⟩ =>
    rw [← show _ = kout (A0 m c) (A1 m c) b ⟨4 * st.val + 3, by omega⟩ q ⟨3, by omega⟩ d from head_at3_3 m c t b st ht q d]
    exact congrArg _ (congrArg (ix2 q) (Fin.ext (show 64 * 3 + d.val = 192 + d.val by omega)))
  | ⟨4, _⟩ =>
    rw [← show _ = kout (A0 m c) (A1 m c) b ⟨4 * st.val + 3, by omega⟩ q ⟨4, by omega⟩ d from head_at3_4 m c t b st ht q d]
    exact congrArg _ (congrArg (ix2 q) (Fin.ext (show 64 * 4 + d.val = 256 + d.val by omega)))
  | ⟨5, _⟩ =>
    rw [← show _ = kout (A0 m c) (A1 m c) b ⟨4 * st.val + 3, by omega⟩ q ⟨5, by omega⟩ d from head_at3_5 m c t b st ht q d]
    exact congrArg _ (congrArg (ix2 q) (Fin.ext (show 64 * 5 + d.val = 320 + d.val by omega)))
  | ⟨6, _⟩ =>
    rw [← show _ = kout (A0 m c) (A1 m c) b ⟨4 * st.val + 3, by omega⟩ q ⟨6, by omega⟩ d from head_at3_6 m c t b st ht q d]
    exact congrArg _ (congrArg (ix2 q) (Fin.ext (show 64 * 6 + d.val = 384 + d.val by omega)))
  | ⟨7, _⟩ =>
    rw [← show _ = kout (A0 m c) (A1 m c) b ⟨4 * st.val + 3, by omega⟩ q ⟨7, by omega⟩ d from head_at3_7 m c t b st ht q d]
    exact congrArg _ (congrArg (ix2 q) (Fin.ext (show 64 * 7 + d.val = 448 + d.val by omega)))

end Cert.KernelIdeal.Swa
-- ==== Proof.SwaArray.lean ====
module

public import proofs.«01_k».proof.Proof.SwaPieces

@[expose] public section

set_option maxRecDepth 16384

noncomputable section

open Idealize.ShloMosaic Idealize.ShloMosaic.TcCoe Idealize.SL.Sem
open Idealize.ShloMosaic.Pipeline (Dat)

namespace Cert.KernelIdeal.Swa

open Cert.KernelIdeal Cert.KernelIdeal.Gen Cert.KernelIdeal.Value

variable (m : (ℓ : Loc nD τ sig) → Buf (Elt Ideal) ℓ)

/-- The whole output at a token and a channel. -/
def outAt (u : FVec Ideal S2x16384x768 .f32) (sk : FVec Ideal S8 .f32) (r : Fin 32768) (l : Fin 512) : EReal :=
  kout u sk ⟨r.val / 16384, by omega⟩ ⟨r.val % 16384 / 128, by omega⟩ ⟨r.val % 128, by omega⟩ ⟨l.val / 64, by omega⟩ ⟨l.val % 64, by omega⟩

def outArr (u : FVec Ideal S2x16384x768 .f32) (sk : FVec Ideal S8 .f32) : FVec Ideal S32768x512 .bf16 := fun i => outAt u sk (i 0) (i 1)

theorem kout_congr (u : FVec Ideal S2x16384x768 .f32) (sk : FVec Ideal S8 .f32) (b b' : Fin 2) (n n' q q' : Fin 128) (h h' : Fin 8) (d d' : Fin 64)
    (hb : b.val = b'.val) (hn : n.val = n'.val) (hq : q.val = q'.val) (hh : h.val = h'.val) (hd : d.val = d'.val) :
    kout u sk b n q h d = kout u sk b' n' q' h' d' := by
  obtain rfl := Fin.ext hb
  obtain rfl := Fin.ext hn
  obtain rfl := Fin.ext hq
  obtain rfl := Fin.ext hh
  obtain rfl := Fin.ext hd
  rfl

theorem piece0 (c : Dev nD) (t : Fin cfg0.N) (q : Fin 128) (l : Fin 512) (R : Fin 32768) (L : Fin 512) (hR : R.val = 512 * t.val + 0 + q.val)
    (hL : L.val = l.val) : blockOf0 m c t (ix2 q l) = outAt (A0 m c) (A1 m c) R L := by
  have ht : t.val < 64 := lt_of_lt_of_eq t.isLt N_0
  have e := block_at0 m c t ⟨t.val / 32, by omega⟩ ⟨t.val % 32, by omega⟩ (show t.val = 32 * (t.val / 32) + t.val % 32 by omega) q
    ⟨l.val / 64, by omega⟩ ⟨l.val % 64, by omega⟩
  rw [show (⟨64 * (l.val / 64) + l.val % 64, by omega⟩ : Fin 512) = l from Fin.ext (by show 64 * (l.val / 64) + l.val % 64 = l.val; omega)] at e
  rw [e]
  unfold outAt
  refine kout_congr _ _ _ _ _ _ _ _ _ _ _ _ ?_ ?_ ?_ ?_ ?_ <;> simp only [] <;> omega

theorem piece1 (c : Dev nD) (t : Fin cfg0.N) (q : Fin 128) (l : Fin 512) (R : Fin 32768) (L : Fin 512) (hR : R.val = 512 * t.val + 128 + q.val)
    (hL : L.val = l.val) : blockOf1 m c t (ix2 q l) = outAt (A0 m c) (A1 m c) R L := by
  have ht : t.val < 64 := lt_of_lt_of_eq t.isLt N_0
  have e := block_at1 m c t ⟨t.val / 32, by omega⟩ ⟨t.val % 32, by omega⟩ (show t.val = 32 * (t.val / 32) + t.val % 32 by omega) q
    ⟨l.val / 64, by omega⟩ ⟨l.val % 64, by omega⟩
  rw [show (⟨64 * (l.val / 64) + l.val % 64, by omega⟩ : Fin 512) = l from Fin.ext (by show 64 * (l.val / 64) + l.val % 64 = l.val; omega)] at e
  rw [e]
  unfold outAt
  refine kout_congr _ _ _ _ _ _ _ _ _ _ _ _ ?_ ?_ ?_ ?_ ?_ <;> simp only [] <;> omega

theorem piece2 (c : Dev nD) (t : Fin cfg0.N) (q : Fin 128) (l : Fin 512) (R : Fin 32768) (L : Fin 512) (hR : R.val = 512 * t.val + 256 + q.val)
    (hL : L.val = l.val) : blockOf2 m c t (ix2 q l) = outAt (A0 m c) (A1 m c) R L := by
  have ht : t.val < 64 := lt_of_lt_of_eq t.isLt N_0
  have e := block_at2 m c t ⟨t.val / 32, by omega⟩ ⟨t.val % 32, by omega⟩ (show t.val = 32 * (t.val / 32) + t.val % 32 by omega) q
    ⟨l.val / 64, by omega⟩ ⟨l.val % 64, by omega⟩
  rw [show (⟨64 * (l.val / 64) + l.val % 64, by omega⟩ : Fin 512) = l from Fin.ext (by show 64 * (l.val / 64) + l.val % 64 = l.val; omega)] at e
  rw [e]
  unfold outAt
  refine kout_congr _ _ _ _ _ _ _ _ _ _ _ _ ?_ ?_ ?_ ?_ ?_ <;> simp only [] <;> omega

theorem piece3 (c : Dev nD) (t : Fin cfg0.N) (q : Fin 128) (l : Fin 512) (R : Fin 32768) (L : Fin 512) (hR : R.val = 512 * t.val + 384 + q.val)
    (hL : L.val = l.val) : blockOf3 m c t (ix2 q l) = outAt (A0 m c) (A1 m c) R L := by
  have ht : t.val < 64 := lt_of_lt_of_eq t.isLt N_0
  have e := block_at3 m c t ⟨t.val / 32, by omega⟩ ⟨t.val % 32, by omega⟩ (show t.val = 32 * (t.val / 32) + t.val % 32 by omega) q
    ⟨l.val / 64, by omega⟩ ⟨l.val % 64, by omega⟩
  rw [show (⟨64 * (l.val / 64) + l.val % 64, by omega⟩ : Fin 512) = l from Fin.ext (by show 64 * (l.val / 64) + l.val % 64 = l.val; omega)] at e
  rw [e]
  unfold outAt
  refine kout_congr _ _ _ _ _ _ _ _ _ _ _ _ ?_ ?_ ?_ ?_ ?_ <;> simp only [] <;> omega

theorem point (c : Dev nD) (t : Fin cfg0.N) (y : S512x512.Idx) (i : S32768x512.Idx) (g0 : (i 0 : ℕ) = 512 * t.val + y 0) (g1 : (i 1 : ℕ) = y 1) :
    out0_6 (F := Ideal) (grid0.coords t) (iblk m c 0 t) (iblk m c 1 t) (iblk m c 2 t) (iblk m c 3 t) (iblk m c 4 t) (iblk m c 5 t) y
      = outArr (A0 m c) (A1 m c) i := by
  rw [out_eq]
  unfold outBlocks
  canon_tiles x h
  case piece0 =>
    have e : x = ix2 (x 0 : Fin 128) (x 1 : Fin 512) := eq_ix2 x
    rw [e]
    exact piece3 m c t (x 0) (x 1) (i 0) (i 1) (by show (i 0 : ℕ) = 512 * t.val + 384 + (x 0 : ℕ); omega) (by show (i 1 : ℕ) = (x 1 : ℕ); omega)
  case piece1 =>
    have e : x = ix2 (x 0 : Fin 128) (x 1 : Fin 512) := eq_ix2 x
    rw [e]
    exact piece2 m c t (x 0) (x 1) (i 0) (i 1) (by show (i 0 : ℕ) = 512 * t.val + 256 + (x 0 : ℕ); omega) (by show (i 1 : ℕ) = (x 1 : ℕ); omega)
  case piece2 =>
    have e : x = ix2 (x 0 : Fin 128) (x 1 : Fin 512) := eq_ix2 x
    rw [e]
    exact piece1 m c t (x 0) (x 1) (i 0) (i 1) (by show (i 0 : ℕ) = 512 * t.val + 128 + (x 0 : ℕ); omega) (by show (i 1 : ℕ) = (x 1 : ℕ); omega)
  case piece3 =>
    have e : x = ix2 (x 0 : Fin 128) (x 1 : Fin 512) := eq_ix2 x
    rw [e]
    exact piece0 m c t (x 0) (x 1) (i 0) (i 1) (by show (i 0 : ℕ) = 512 * t.val + 0 + (x 0 : ℕ); omega) (by show (i 1 : ℕ) = (x 1 : ℕ); omega)

theorem final (c : Dev nD) : (dats m 0 c).arrAt 6 (cfgs 0).N = outArr (A0 m c) (A1 m c) := by
  refine (dats m 0 c).arrAt_eq_of_covers 6 _ (by decide +kernel) fun t hf y => ?_
  blk_simp
  rw [after0_6]
  refine point m c t y _ ?_ ?_
  all_goals (blk_simp [idx t] <;> try omega)

end Cert.KernelIdeal.Swa
-- ==== Proof.SwaReduce.lean ====
module

public import Idealize.ShloMosaic.Lib.Pointwise
public import Idealize.ShloMosaic.PureOps.Reduce

@[expose] public section

set_option maxRecDepth 16384

noncomputable section

open Idealize.ShloMosaic Idealize.ShloMosaic.TcCoe Idealize.SL.Sem

namespace Cert.ReferenceIdeal.Swa

/-! ## A reduction along the last of six axes, read at an index -/

section
variable {n0 n1 n2 n3 n4 n5 : Nat}

/-- The indices that lose their last coordinate to one index are that index with any last coordinate. -/
theorem lastFiber (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro w
    refine ⟨i 5, ?_⟩
    funext x; apply Fin.ext
    match x with
    | ⟨0, _⟩ => exact (congrArg Fin.val (congrFun w 0)).symm
    | ⟨1, _⟩ => exact (congrArg Fin.val (congrFun w 1)).symm
    | ⟨2, _⟩ => exact (congrArg Fin.val (congrFun w 2)).symm
    | ⟨3, _⟩ => exact (congrArg Fin.val (congrFun w 3)).symm
    | ⟨4, _⟩ => exact (congrArg Fin.val (congrFun w 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

theorem lastFold {u : Shape} (f : EReal → EReal → EReal) [Std.Commutative f] [Std.Associative f]
    (x : (⟨6, ![n0, n1, n2, n3, n4, n5]⟩ : Shape).Idx → EReal) (init : u.Idx → EReal)
    (h : (⟨6, ![n0, n1, n2, n3, n4, n5]⟩ : Shape).ReducesTo [5] ⟨5, ![n0, n1, n2, n3, n4]⟩) (hu : 0 < u.numel)
    (a : Fin n0) (b : Fin n1) (c : Fin n2) (d : Fin n3) (e : Fin n4) :
    Host.reduce f x init h hu (ix5 a b c d e)
      = (Finset.univ : Finset (Fin n5)).fold f (init (Shape.Idx.first hu)) fun k => x (ix6 a b c d e k) :=
  (Host.reduce_eq_fold f x init h hu _).trans
    (Finset.fold_filter_eq_fold_of_fiber f _ (fun k : Fin n5 => ix6 a b c d e k) (fun _ _ w => congrFun w 5) (lastFiber h a b c d e) _ x)

theorem lastSum (h : (⟨6, ![n0, n1, n2, n3, n4, n5]⟩ : Shape).ReducesTo [5] ⟨5, ![n0, n1, n2, n3, n4]⟩)
    (x : (⟨6, ![n0, n1, n2, n3, n4, n5]⟩ : Shape).Idx → EReal) (init : EReal)
    (a : Fin n0) (b : Fin n1) (c : Fin n2) (d : Fin n3) (e : Fin n4) :
    Ideal.hostReduceAdd h x init (ix5 a b c d e) = init + ∑ k : Fin n5, x (ix6 a b c d e k) :=
  congrArg (init + ·)
    (Finset.sum_filter_eq_sum_of_fiber _ (fun k : Fin n5 => ix6 a b c d e k) (fun _ _ w => congrFun w 5) (lastFiber h a b c d e) x)

theorem lastSumHost {u : Shape} (x : FVec Ideal ⟨6, ![n0, n1, n2, n3, n4, n5]⟩ .f32) (init : FVec Ideal u .f32)
    (h : (⟨6, ![n0, n1, n2, n3, n4, n5]⟩ : Shape).ReducesTo [5] ⟨5, ![n0, n1, n2, n3, n4]⟩) (hu : 0 < u.numel)
    (a : Fin n0) (b : Fin n1) (c : Fin n2) (d : Fin n3) (e : Fin n4) :
    Host.reduceAdd x init h hu (ix5 a b c d e) = init (Shape.Idx.first hu) + ∑ k : Fin n5, x (ix6 a b c d e k) :=
  lastSum h x _ a b c d e

end

theorem max_at {s : Shape} (w k : FVec Ideal s .f32) (i : s.Idx) : maximumf w k i = max (w i) (k i) := rfl

theorem addExp_at {s : Shape} (w k m : FVec Ideal s .f32) (i : s.Idx) :
    addf w (Host.exp (subf k m)) i = w i + Ideal.exp (k i - m i) := rfl

end Cert.ReferenceIdeal.Swa
-- ==== Proof.SwaRefDefs.lean ====
module

public import proofs.«01_k».proof.Proof.Gen.ReferenceIdeal.Run
public import proofs.«01_k».proof.Proof.SwaArray
public import proofs.«01_k».proof.Proof.SwaReduce

@[expose] public section

set_option maxRecDepth 16384

noncomputable section

open Idealize.ShloMosaic Idealize.ShloMosaic.TcCoe Idealize.SL.Sem

namespace Cert.ReferenceIdeal.Swa

open Cert.ReferenceIdeal Cert.ReferenceIdeal.Gen Cert.ReferenceIdeal.Value

/-! ## The reference, layer by layer -/

def refQ (u : FVec Ideal S2x16384x768 .f32) : FVec Ideal S2x128x128x2x4x64 .f32 :=
  shapeCast S2x128x128x2x4x64 (extractStridedSlice S2x16384x512 ![0, 0, 0] u slices_S2x16384x768_S2x16384x512_0_0_0) shapeCasts_S2x16384x512_S2x128x128x2x4x64

def refK (u : FVec Ideal S2x16384x768 .f32) : FVec Ideal S2x128x128x2x64 .f32 :=
  shapeCast S2x128x128x2x64 (extractStridedSlice S2x16384x128 ![0, 0, 512] u slices_S2x16384x768_S2x16384x128_0_0_512) shapeCasts_S2x16384x128_S2x128x128x2x64

def refV (u : FVec Ideal S2x16384x768 .f32) : FVec Ideal S2x128x128x2x64 .f32 :=
  shapeCast S2x128x128x2x64 (extractStridedSlice S2x16384x128 ![0, 0, 640] u slices_S2x16384x768_S2x16384x128_0_0_640) shapeCasts_S2x16384x128_S2x128x128x2x64

/-- Each block of keys or values after the block before it, the first one after zeros. -/
def refBand (a : FVec Ideal S2x128x128x2x64 .f32) : FVec Ideal S2x128x256x2x64 .f32 :=
  fn_main_v10 (F := Ideal) (fn_main_v9 (F := Ideal) (broadcastInDim S2x1x128x2x64 ![] bcast_S_S2x1x128x2x64 (constant (F := Ideal) S_ .f32 0x00000000#32))
    (extractStridedSlice S2x127x128x2x64 ![0, 0, 0, 0, 0] a slices_S2x128x128x2x64_S2x127x128x2x64_0_0_0_0_0)) a

def refScore (u : FVec Ideal S2x16384x768 .f32) : FVec Ideal S2x128x2x4x128x256 .f32 :=
  mulf (transpose S2x128x2x4x128x256 [0, 1, 2, 5, 4, 3]
      (Host.dotGeneral dot_S2x128x256x2x64_S2x128x128x2x4x64_S2x128x2x256x128x4_4_5_2_24_013_013 none (refBand (refK u)) (refQ u))
      transposes_S2x128x2x256x128x4_S2x128x2x4x128x256_0_1_2_5_4_3)
    (broadcastInDim S2x128x2x4x128x256 ![] bcast_S_S2x128x2x4x128x256 (constant S_ .f32 0x3E000000#32))

def keyPos : IVec S1x256 32 :=
  subi (broadcastInDim S1x256 ![1] bcast_S256_S1x256_1 (iotaInDim S256 32 0)) (broadcastInDim S1x256 ![] bcast_S_S1x256 (constantI S_ 32 128#32))

def queryPos : IVec S128x1 32 := broadcastInDim S128x1 ![0] bcast_S128_S128x1_0 (iotaInDim S128 32 0)

def inWindow : IVec S128x256 1 :=
  andi (cmpi .sle (broadcastInDim S128x256 ![0, 1] bcast_S1x256_S128x256_0_1 keyPos) (broadcastInDim S128x256 ![0, 1] bcast_S128x1_S128x256_0_1 queryPos))
    (cmpi .sgt (broadcastInDim S128x256 ![0, 1] bcast_S1x256_S128x256_0_1 keyPos)
      (broadcastInDim S128x256 ![0, 1] bcast_S128x1_S128x256_0_1
        (subi queryPos (broadcastInDim S128x1 ![] bcast_S_S128x1 (constantI S_ 32 128#32)))))

def firstBlock : IVec S128x1x256 1 :=
  noti (andi
    (broadcastInDim S128x1x256 ![0, 1, 2] bcast_S128x1x1_S128x1x256_0_1_2
      (cmpi .eq (broadcastInDim S128x1x1 ![0] bcast_S128_S128x1x1_0 (iotaInDim S128 32 0))
        (broadcastInDim S128x1x1 ![] bcast_S_S128x1x1 (constantI S_ 32 0#32))))
    (broadcastInDim S128x1x256 ![0, 1, 2] bcast_S1x1x256_S128x1x256_0_1_2
      (broadcastInDim S1x1x256 ![1, 2] bcast_S1x256_S1x1x256_1_2
        (cmpi .slt keyPos (broadcastInDim S1x256 ![] bcast_S_S1x256 (constantI S_ 32 0#32))))))

def refMask : IVec S2x128x2x4x128x256 1 :=
  broadcastInDim S2x128x2x4x128x256 ![0, 1, 2, 3, 4, 5] bcast_S1x128x1x1x128x256_S2x128x2x4x128x256_0_1_2_3_4_5
    (broadcastInDim S1x128x1x1x128x256 ![1, 4, 5] bcast_S128x128x256_S1x128x1x1x128x256_1_4_5
      (andi
        (broadcastInDim S128x128x256 ![0, 1, 2] bcast_S1x128x256_S128x128x256_0_1_2
          (broadcastInDim S1x128x256 ![1, 2] bcast_S128x256_S1x128x256_1_2 inWindow))
        (broadcastInDim S128x128x256 ![0, 1, 2] bcast_S128x1x256_S128x128x256_0_1_2 firstBlock)))

def refSink (sk : FVec Ideal S8 .f32) : FVec Ideal S2x128x2x4x128x1 .f32 :=
  broadcastInDim S2x128x2x4x128x1 ![0, 1, 2, 3, 4, 5] bcast_S1x1x2x4x1x1_S2x128x2x4x128x1_0_1_2_3_4_5
    (shapeCast S1x1x2x4x1x1 sk shapeCasts_S8_S1x1x2x4x1x1)

def refMasked (u : FVec Ideal S2x16384x768 .f32) : FVec Ideal S2x128x2x4x128x256 .f32 :=
  select refMask (refScore u) (broadcastInDim S2x128x2x4x128x256 ![] bcast_S_S2x128x2x4x128x256 (constant S_ .f32 0xF149F2CA#32))

def refRowMax (s : FVec Ideal S2x128x2x4x128x256 .f32) : FVec Ideal S2x128x2x4x128 .f32 :=
  Host.reduce FloatOps.maximumf s (constant S_ .f32 0xFF800000#32) reducesTo_S2x128x2x4x128x256_S2x128x2x4x128_d5 h_S_

def refRowSum (s : FVec Ideal S2x128x2x4x128x256 .f32) : FVec Ideal S2x128x2x4x128 .f32 :=
  Host.reduceAdd s (constant S_ .f32 0x00000000#32) reducesTo_S2x128x2x4x128x256_S2x128x2x4x128_d5 h_S_

def refMax (s : FVec Ideal S2x128x2x4x128x256 .f32) (k : FVec Ideal S2x128x2x4x128x1 .f32) : FVec Ideal S2x128x2x4x128x1 .f32 :=
  maximumf (broadcastInDim S2x128x2x4x128x1 ![0, 1, 2, 3, 4] bcast_S2x128x2x4x128_S2x128x2x4x128x1_0_1_2_3_4
    (refRowMax s)) k

def refExp (s : FVec Ideal S2x128x2x4x128x256 .f32) (k : FVec Ideal S2x128x2x4x128x1 .f32) : FVec Ideal S2x128x2x4x128x256 .f32 :=
  select refMask (Host.exp (subf s (broadcastInDim S2x128x2x4x128x256 ![0, 1, 2, 3, 4, 5] bcast_S2x128x2x4x128x1_S2x128x2x4x128x256_0_1_2_3_4_5 (refMax s k))))
    (broadcastInDim S2x128x2x4x128x256 ![] bcast_S_S2x128x2x4x128x256 (constant S_ .f32 0x00000000#32))

def refDen (s : FVec Ideal S2x128x2x4x128x256 .f32) (k : FVec Ideal S2x128x2x4x128x1 .f32) : FVec Ideal S2x128x2x4x128x1 .f32 :=
  addf (broadcastInDim S2x128x2x4x128x1 ![0, 1, 2, 3, 4] bcast_S2x128x2x4x128_S2x128x2x4x128x1_0_1_2_3_4
      (refRowSum (refExp s k)))
    (Host.exp (subf k (refMax s k)))

def refProb (s : FVec Ideal S2x128x2x4x128x256 .f32) (k : FVec Ideal S2x128x2x4x128x1 .f32) : FVec Ideal S2x128x2x4x128x256 .f32 :=
  Host.divf (refExp s k) (broadcastInDim S2x128x2x4x128x256 ![0, 1, 2, 3, 4, 5] bcast_S2x128x2x4x128x1_S2x128x2x4x128x256_0_1_2_3_4_5 (refDen s k))

def refHeads (v : FVec Ideal S2x128x256x2x64 .f32) (p : FVec Ideal S2x128x2x4x128x256 .f32) : FVec Ideal S2x128x128x2x4x64 .f32 :=
  transpose S2x128x128x2x4x64 [0, 1, 5, 2, 4, 3]
    (Host.dotGeneral dot_S2x128x256x2x64_S2x128x2x4x128x256_S2x128x2x64x4x128_2_5_4_34_013_012 none v p)
    transposes_S2x128x2x64x4x128_S2x128x128x2x4x64_0_1_5_2_4_3

def refOut (u : FVec Ideal S2x16384x768 .f32) (sk : FVec Ideal S8 .f32) : FVec Ideal S32768x512 .bf16 :=
  truncf .bf16 (shapeCast S32768x512 (refHeads (refBand (refV u)) (refProb (refMasked u) (refSink sk))) shapeCasts_S2x128x128x2x4x64_S32768x512) bitsLt_bf16_f32

set_option maxHeartbeats 4000000 in
theorem res_eq (m : (ℓ : Loc nD τ sig) → Buf (Elt Ideal) ℓ) (c : Dev nD) :
    res_out0 m c = refOut (m ((c.tc : Thread nD τ).loc main_arg0)) (m ((c.tc : Thread nD τ).loc main_arg1)) := rfl

end Cert.ReferenceIdeal.Swa
-- ==== Proof.SwaReference.lean ====
module

public import proofs.«01_k».proof.Proof.SwaRefDefs

@[expose] public section

set_option maxRecDepth 16384

noncomputable section

open Idealize.ShloMosaic Idealize.ShloMosaic.TcCoe Idealize.SL.Sem

namespace Cert.ReferenceIdeal.Swa

open Cert.ReferenceIdeal Cert.ReferenceIdeal.Gen Cert.ReferenceIdeal.Value

theorem start_word : ∀ (n : Fin 128) (j : Fin 256),
    ~~~(IntOp.andi (IntOp.cmpi .eq (BitVec.ofNat 32 n.val) 0#32) (IntOp.cmpi .slt (IntOp.subi (BitVec.ofNat 32 j.val) 128#32) 0#32))
      = BitVec.ofBool (decide (n.val = 0 → 128 ≤ j.val)) := by
  decide +kernel

theorem refMask_at (b : Fin 2) (n : Fin 128) (g : Fin 2) (r : Fin 4) (q : Fin 128) (j : Fin 256) :
    refMask (ix6 b n g r q j) = BitVec.ofBool (decide (j.val ≤ q.val + 128 ∧ q.val < j.val ∧ (n.val = 0 → 128 ≤ j.val))) := by
  pointwise [refMask, inWindow, firstBlock, keyPos, queryPos]
  rw [Cert.KernelIdeal.Swa.band_word j q, start_word n j, Cert.KernelIdeal.Swa.and_word]
  refine congrArg BitVec.ofBool (Bool.eq_iff_iff.2 ?_)
  simp only [Bool.and_eq_true, decide_eq_true_eq, and_assoc]

theorem refSink_at (sk : FVec Ideal S8 .f32) (b : Fin 2) (n : Fin 128) (g : Fin 2) (r : Fin 4) (q : Fin 128) :
    refSink sk (ix6 b n g r q 0) = sk (ix1 ⟨g.val * 4 + r.val, by omega⟩) := by
  pointwise [refSink]

theorem refMasked_at (u : FVec Ideal S2x16384x768 .f32) (b : Fin 2) (n : Fin 128) (g : Fin 2) (r : Fin 4) (q : Fin 128) (j : Fin 256) :
    refMasked u (ix6 b n g r q j) = Scalar.select (refMask (ix6 b n g r q j)) (refScore u (ix6 b n g r q j)) (Ideal.ofBits .f32 0xF149F2CA#32) := by
  pointwise [refMasked]

theorem refRowMax_at (s : FVec Ideal S2x128x2x4x128x256 .f32) (b : Fin 2) (n : Fin 128) (g : Fin 2) (r : Fin 4) (q : Fin 128) :
    refRowMax s (ix5 b n g r q) = Finset.univ.fold max ⊥ fun j : Fin 256 => s (ix6 b n g r q j) := by
  have e : (constant (F := Ideal) S_ .f32 0xFF800000#32) (Shape.Idx.first h_S_) = ⊥ := Cert.KernelIdeal.Swa.bits_ninf
  have w := lastFold max s (constant (F := Ideal) S_ .f32 0xFF800000#32) reducesTo_S2x128x2x4x128x256_S2x128x2x4x128_d5 h_S_ b n g r q
  rw [e] at w
  exact w

theorem refRowSum_at (s : FVec Ideal S2x128x2x4x128x256 .f32) (b : Fin 2) (n : Fin 128) (g : Fin 2) (r : Fin 4) (q : Fin 128) :
    refRowSum s (ix5 b n g r q) = ∑ j : Fin 256, s (ix6 b n g r q j) := by
  have e : (constant (F := Ideal) S_ .f32 0x00000000#32) (Shape.Idx.first h_S_) = 0 := by simp [constant, FloatOps.ofBits, Ideal.ofBits, Ideal.ieee]
  exact (lastSumHost s _ _ _ b n g r q).trans (by rw [e, zero_add])

theorem addColumn_at (w : FVec Ideal S2x128x2x4x128 .f32) (b : Fin 2) (n : Fin 128) (g : Fin 2) (r : Fin 4) (q : Fin 128) :
    broadcastInDim S2x128x2x4x128x1 ![0, 1, 2, 3, 4] bcast_S2x128x2x4x128_S2x128x2x4x128x1_0_1_2_3_4 w (ix6 b n g r q 0) = w (ix5 b n g r q) := by
  pointwise

theorem refMax_at (s : FVec Ideal S2x128x2x4x128x256 .f32) (k : FVec Ideal S2x128x2x4x128x1 .f32) (b : Fin 2) (n : Fin 128) (g : Fin 2) (r : Fin 4) (q : Fin 128) :
    refMax s k (ix6 b n g r q 0) = max (refRowMax s (ix5 b n g r q)) (k (ix6 b n g r q 0)) := by
  rw [refMax, max_at, addColumn_at]

theorem refExp_at (s : FVec Ideal S2x128x2x4x128x256 .f32) (k : FVec Ideal S2x128x2x4x128x1 .f32) (b : Fin 2) (n : Fin 128) (g : Fin 2) (r : Fin 4) (q : Fin 128) (j : Fin 256) :
    refExp s k (ix6 b n g r q j) = Scalar.select (refMask (ix6 b n g r q j)) (Ideal.exp (s (ix6 b n g r q j) - refMax s k (ix6 b n g r q 0))) 0 := by
  pointwise [refExp]

theorem refDen_at (s : FVec Ideal S2x128x2x4x128x256 .f32) (k : FVec Ideal S2x128x2x4x128x1 .f32) (b : Fin 2) (n : Fin 128) (g : Fin 2) (r : Fin 4) (q : Fin 128) :
    refDen s k (ix6 b n g r q 0) = refRowSum (refExp s k) (ix5 b n g r q) + Ideal.exp (k (ix6 b n g r q 0) - refMax s k (ix6 b n g r q 0)) := by
  rw [refDen, addExp_at, addColumn_at]

theorem refProb_at (s : FVec Ideal S2x128x2x4x128x256 .f32) (k : FVec Ideal S2x128x2x4x128x1 .f32) (b : Fin 2) (n : Fin 128) (g : Fin 2) (r : Fin 4) (q : Fin 128) (j : Fin 256) :
    refProb s k (ix6 b n g r q j) = Ideal.div (refExp s k (ix6 b n g r q j)) (refDen s k (ix6 b n g r q 0)) := by
  pointwise [refProb]

theorem refHeads_at (v : FVec Ideal S2x128x256x2x64 .f32) (p : FVec Ideal S2x128x2x4x128x256 .f32) (b : Fin 2) (n q : Fin 128) (g : Fin 2) (r : Fin 4) (d : Fin 64) :
    refHeads v p (ix6 b n q g r d) = ∑ j : Fin 256, v (ix5 b n j g d) * p (ix6 b n g r q j) := by
  pointwise [refHeads]

theorem refOut_at (u : FVec Ideal S2x16384x768 .f32) (sk : FVec Ideal S8 .f32) (R : Fin 32768) (L : Fin 512) :
    refOut u sk (ix2 R L) = refHeads (refBand (refV u)) (refProb (refMasked u) (refSink sk))
      (ix6 ⟨R.val / 16384, by omega⟩ ⟨R.val / 128 % 128, by omega⟩ ⟨R.val % 128, by omega⟩ ⟨L.val / 256, by omega⟩ ⟨L.val / 64 % 4, by omega⟩ ⟨L.val % 64, by omega⟩) := by
  pointwise [refOut]

end Cert.ReferenceIdeal.Swa
-- ==== Proof.SwaRefScore.lean ====
module

public import proofs.«01_k».proof.Proof.SwaRefDefs

@[expose] public section

set_option maxRecDepth 16384

noncomputable section

open Idealize.ShloMosaic Idealize.ShloMosaic.TcCoe Idealize.SL.Sem

namespace Cert.ReferenceIdeal.Swa

open Cert.ReferenceIdeal Cert.ReferenceIdeal.Gen Cert.ReferenceIdeal.Value

/-! ## Read at an index -/

theorem refQ_at (u : FVec Ideal S2x16384x768 .f32) (b : Fin 2) (n q : Fin 128) (g : Fin 2) (r : Fin 4) (d : Fin 64) :
    refQ u (ix6 b n q g r d) = u (ix3 b ⟨n.val * 128 + q.val, by omega⟩ ⟨g.val * 256 + r.val * 64 + d.val, by omega⟩) := by
  pointwise [refQ]

theorem refK_at (u : FVec Ideal S2x16384x768 .f32) (b : Fin 2) (n q : Fin 128) (g : Fin 2) (d : Fin 64) :
    refK u (ix5 b n q g d) = u (ix3 b ⟨n.val * 128 + q.val, by omega⟩ ⟨512 + (g.val * 64 + d.val), by omega⟩) := by
  pointwise [refK]

theorem refV_at (u : FVec Ideal S2x16384x768 .f32) (b : Fin 2) (n q : Fin 128) (g : Fin 2) (d : Fin 64) :
    refV u (ix5 b n q g d) = u (ix3 b ⟨n.val * 128 + q.val, by omega⟩ ⟨640 + (g.val * 64 + d.val), by omega⟩) := by
  pointwise [refV]

theorem refBand_at (a : FVec Ideal S2x128x128x2x64 .f32) (b : Fin 2) (n : Fin 128) (j : Fin 256) (g : Fin 2) (d : Fin 64) :
    refBand a (ix5 b n j g d) = if h : j.val < 128 then (if h' : n.val < 1 then 0 else a (ix5 b ⟨n.val - 1, by omega⟩ ⟨j.val, h⟩ g d))
      else a (ix5 b n ⟨j.val - 128, by omega⟩ g d) := by
  pointwise [refBand, fn_main_v10, fn_main_v9]

theorem refScore_at (u : FVec Ideal S2x16384x768 .f32) (b : Fin 2) (n : Fin 128) (g : Fin 2) (r : Fin 4) (q : Fin 128) (j : Fin 256) :
    refScore u (ix6 b n g r q j) = (∑ d : Fin 64, refBand (refK u) (ix5 b n j g d) * refQ u (ix6 b n q g r d)) * Ideal.ofBits .f32 0x3E000000#32 := by
  pointwise [refScore]

end Cert.ReferenceIdeal.Swa
-- ==== Proof.SwaFinal.lean ====
module

public import proofs.«01_k».proof.Proof.SwaMath
public import proofs.«01_k».proof.Proof.SwaReference
public import proofs.«01_k».proof.Proof.SwaRefScore

@[expose] public section

set_option maxRecDepth 16384

noncomputable section

open Idealize.ShloMosaic Idealize.ShloMosaic.TcCoe Idealize.SL.Sem

namespace Cert.ReferenceIdeal.Swa

open Cert.ReferenceIdeal Cert.ReferenceIdeal.Gen Cert.ReferenceIdeal.Value
open Cert.KernelIdeal.Swa (keyTok queryTok kscore kout attn smax weight attn_weight ref_weight sum_coe64 bits_eighth bits_two bits_far invLog2 select_word outAt outArr)

/-- The queries and keys are real numbers. -/
def Real640 (u : FVec Ideal S2x16384x768 .f32) : Prop :=
  ∀ (b : Fin 2) (s : Fin 16384) (l : Fin 768), l.val < 640 → u (ix3 b s l) ≠ ⊤ ∧ u (ix3 b s l) ≠ ⊥

/-- The keys a query sees. -/
def sees (n q : Fin 128) (j : Fin 256) : Prop := j.val ≤ q.val + 128 ∧ q.val < j.val ∧ (n.val = 0 → 128 ≤ j.val)

instance (n q : Fin 128) : DecidablePred (sees n q) := fun j => by unfold sees; infer_instance

/-- The score of a query and a key, a real number. -/
def rscore (u : FVec Ideal S2x16384x768 .f32) (b : Fin 2) (n q : Fin 128) (g : Fin 2) (r : Fin 4) (j : Fin 256) : ℝ :=
  (∑ d : Fin 64, (u (ix3 b (keyTok n j) ⟨512 + (g.val * 64 + d.val), by omega⟩)).toReal
    * (u (ix3 b (queryTok n q) ⟨g.val * 256 + r.val * 64 + d.val, by omega⟩)).toReal) * 0.125

theorem invLog2_eq : invLog2 = ((1 / Real.log 2 : ℝ) : EReal) := by
  unfold invLog2
  rw [bits_two, Ideal.log_coe, if_neg (by norm_num), Ideal.div_coe (Real.log_pos (by norm_num)).ne', one_mul]

variable (u : FVec Ideal S2x16384x768 .f32) (sk : FVec Ideal S8 .f32) (b : Fin 2) (n q : Fin 128) (g : Fin 2) (r : Fin 4)

/-- The kernel's scores are the real scores times log2 e. -/
theorem kscore_eq (hu : Real640 u) (j : Fin 256) :
    kscore u b n q ⟨g.val * 4 + r.val, by omega⟩ j
      = ((1 / Real.log 2 * rscore u b n q g r j : ℝ) : EReal) + if sees n q j then 0 else ⊥ := by
  unfold kscore
  refine congrArg₂ (· + ·) ?_ rfl
  have hd : ∀ d : Fin 64, u (ix3 b (keyTok n j) ⟨512 + (g.val * 4 + r.val) / 4 * 64 + d.val, by omega⟩)
      * (u (ix3 b (queryTok n q) ⟨(g.val * 4 + r.val) * 64 + d.val, by omega⟩) * (Ideal.ofBits .f32 0x3E000000#32 * invLog2))
      = (((u (ix3 b (keyTok n j) ⟨512 + (g.val * 64 + d.val), by omega⟩)).toReal
          * ((u (ix3 b (queryTok n q) ⟨g.val * 256 + r.val * 64 + d.val, by omega⟩)).toReal * (0.125 * (1 / Real.log 2))) : ℝ) : EReal) := by
    intro d
    have e1 : (⟨512 + (g.val * 4 + r.val) / 4 * 64 + d.val, by omega⟩ : Fin 768) = ⟨512 + (g.val * 64 + d.val), by omega⟩ :=
      Fin.ext (by show 512 + (g.val * 4 + r.val) / 4 * 64 + d.val = 512 + (g.val * 64 + d.val); omega)
    have e2 : (⟨(g.val * 4 + r.val) * 64 + d.val, by omega⟩ : Fin 768) = ⟨g.val * 256 + r.val * 64 + d.val, by omega⟩ :=
      Fin.ext (by show (g.val * 4 + r.val) * 64 + d.val = g.val * 256 + r.val * 64 + d.val; omega)
    have h1 := hu b (keyTok n j) ⟨512 + (g.val * 64 + d.val), by omega⟩ (by show 512 + (g.val * 64 + d.val) < 640; omega)
    have h2 := hu b (queryTok n q) ⟨g.val * 256 + r.val * 64 + d.val, by omega⟩ (by show g.val * 256 + r.val * 64 + d.val < 640; omega)
    rw [e1, e2, bits_eighth, invLog2_eq, EReal.coe_mul, EReal.coe_mul, EReal.coe_mul, EReal.coe_toReal h1.1 h1.2, EReal.coe_toReal h2.1 h2.2]
  refine (Finset.sum_congr rfl fun d _ => hd d).trans ((sum_coe64 _).trans (congrArg _ ?_))
  unfold rscore
  rw [← mul_assoc, mul_comm (1 / Real.log 2), mul_assoc, Finset.sum_mul]
  refine Finset.sum_congr rfl fun d _ => ?_
  ring

/-- Under the mask, the reference's padded block is the sequence itself. -/
theorem band_eq (a : FVec Ideal S2x128x128x2x64 .f32) (l : Fin 768) (d : Fin 64)
    (ha : ∀ (n q : Fin 128), a (ix5 b n q g d) = u (ix3 b ⟨n.val * 128 + q.val, by omega⟩ l)) (j : Fin 256) (hj : sees n q j) :
    refBand a (ix5 b n j g d) = u (ix3 b (keyTok n j) l) := by
  rw [refBand_at]
  obtain ⟨h1, h2, h3⟩ := hj
  by_cases h : j.val < 128
  · rw [dif_pos h, dif_neg (by omega), ha]
    refine congrArg (fun t => u (ix3 b t l)) (Fin.ext ?_)
    unfold keyTok
    simp only [if_pos h]
    omega
  · rw [dif_neg h, ha]
    refine congrArg (fun t => u (ix3 b t l)) (Fin.ext ?_)
    unfold keyTok
    simp only [if_neg h]
    omega

theorem score_eq (hu : Real640 u) (j : Fin 256) (hj : sees n q j) : refScore u (ix6 b n g r q j) = (rscore u b n q g r j : EReal) := by
  rw [refScore_at]
  have hd : ∀ d : Fin 64, refBand (refK u) (ix5 b n j g d) * refQ u (ix6 b n q g r d)
      = (((u (ix3 b (keyTok n j) ⟨512 + (g.val * 64 + d.val), by omega⟩)).toReal
          * (u (ix3 b (queryTok n q) ⟨g.val * 256 + r.val * 64 + d.val, by omega⟩)).toReal : ℝ) : EReal) := by
    intro d
    have h1 := hu b (keyTok n j) ⟨512 + (g.val * 64 + d.val), by omega⟩ (by show 512 + (g.val * 64 + d.val) < 640; omega)
    have h2 := hu b (queryTok n q) ⟨g.val * 256 + r.val * 64 + d.val, by omega⟩ (by show g.val * 256 + r.val * 64 + d.val < 640; omega)
    rw [band_eq u b n q g (refK u) ⟨512 + (g.val * 64 + d.val), by omega⟩ d (fun n q => refK_at u b n q g d) j hj, refQ_at,
      EReal.coe_mul, EReal.coe_toReal h1.1 h1.2, EReal.coe_toReal h2.1 h2.2]
    rfl
  rw [Finset.sum_congr rfl fun d _ => hd d, sum_coe64, bits_eighth, ← EReal.coe_mul]
  rfl

theorem masked_at (j : Fin 256) : refMasked u (ix6 b n g r q j)
    = if sees n q j then refScore u (ix6 b n g r q j) else Ideal.ofBits .f32 0xF149F2CA#32 := by
  rw [refMasked_at, refMask_at, select_word]
  simp only [decide_eq_true_eq]
  rfl

theorem exp_at (s : FVec Ideal S2x128x2x4x128x256 .f32) (k : FVec Ideal S2x128x2x4x128x1 .f32) (j : Fin 256) :
    refExp s k (ix6 b n g r q j)
      = if sees n q j then Ideal.exp (s (ix6 b n g r q j) - smax (fun i => s (ix6 b n g r q i)) (k (ix6 b n g r q 0))) else 0 := by
  rw [refExp_at, refMask_at, select_word, refMax_at, refRowMax_at]
  simp only [decide_eq_true_eq]
  rfl

theorem den_at (s : FVec Ideal S2x128x2x4x128x256 .f32) (k : FVec Ideal S2x128x2x4x128x1 .f32) :
    refDen s k (ix6 b n g r q 0)
      = (∑ j, if sees n q j then Ideal.exp (s (ix6 b n g r q j) - smax (fun i => s (ix6 b n g r q i)) (k (ix6 b n g r q 0))) else 0)
        + Ideal.exp (k (ix6 b n g r q 0) - smax (fun i => s (ix6 b n g r q i)) (k (ix6 b n g r q 0))) := by
  rw [refDen_at, refRowSum_at, refMax_at, refRowMax_at, Finset.sum_congr rfl fun j _ => exp_at b n q g r s k j]
  rfl

/-- One element of the kernel's output is that of the reference. -/
theorem head_eq (hu : Real640 u) (hk : ∀ h : Fin 8, sk (ix1 h) ≠ ⊤ ∧ sk (ix1 h) ≠ ⊥) (d : Fin 64) :
    kout u sk b n q ⟨g.val * 4 + r.val, by omega⟩ d
      = refHeads (refBand (refV u)) (refProb (refMasked u) (refSink sk)) (ix6 b n q g r d) := by
  obtain ⟨κ, hκ⟩ : ∃ κ : ℝ, sk (ix1 ⟨g.val * 4 + r.val, by omega⟩) = (κ : EReal) :=
    ⟨_, (EReal.coe_toReal (hk _).1 (hk _).2).symm⟩
  have hl : (⟨640 + (g.val * 4 + r.val) / 4 * 64 + d.val, by omega⟩ : Fin 768) = ⟨640 + (g.val * 64 + d.val), by omega⟩ :=
    Fin.ext (by show 640 + (g.val * 4 + r.val) / 4 * 64 + d.val = 640 + (g.val * 64 + d.val); omega)
  have left := attn_weight (sees n q) (rscore u b n q g r) κ
    (fun j => u (ix3 b (keyTok n j) ⟨640 + (g.val * 64 + d.val), by omega⟩)) (kscore u b n q ⟨g.val * 4 + r.val, by omega⟩)
    (sk (ix1 ⟨g.val * 4 + r.val, by omega⟩) * invLog2) (kscore_eq u b n q g r hu) (by rw [hκ, invLog2_eq, ← EReal.coe_mul, mul_comm])
  have right := ref_weight (sees n q) (rscore u b n q g r) κ
    (fun j => u (ix3 b (keyTok n j) ⟨640 + (g.val * 64 + d.val), by omega⟩))
    (fun j => refBand (refV u) (ix5 b n j g d)) (fun j => refMasked u (ix6 b n g r q j))
    (fun j => by
      rw [masked_at]; split
      · next h => rw [score_eq u b n q g r hu j h]; exact EReal.coe_ne_top _
      · exact bits_far)
    (fun j h => by rw [masked_at, if_pos h, score_eq u b n q g r hu j h])
    (fun j h => band_eq u b n q g (refV u) ⟨640 + (g.val * 64 + d.val), by omega⟩ d (fun n q => refV_at u b n q g d) j h)
  unfold kout
  simp only [hl]
  refine left.trans (right.symm.trans ?_)
  rw [refHeads_at]
  refine Finset.sum_congr rfl fun j _ => ?_
  rw [refProb_at, exp_at, den_at, refSink_at, hκ]

/-- The kernel's output array is the reference's. -/
theorem out_eq (hu : Real640 u) (hk : ∀ h : Fin 8, sk (ix1 h) ≠ ⊤ ∧ sk (ix1 h) ≠ ⊥) : outArr u sk = refOut u sk := by
  funext i
  rw [show i = ix2 (i 0 : Fin 32768) (i 1 : Fin 512) from eq_ix2 i]
  generalize (i 0 : Fin 32768) = R
  generalize (i 1 : Fin 512) = L
  refine Eq.trans ?_ (refOut_at u sk R L).symm
  rw [← head_eq u sk _ _ _ _ _ hu hk]
  show outAt u sk R L = _
  unfold outAt
  refine Cert.KernelIdeal.Swa.kout_congr _ _ _ _ _ _ _ _ _ _ _ _ ?_ ?_ ?_ ?_ ?_ <;> simp only [] <;> omega

end Cert.ReferenceIdeal.Swa
-- ==== Proof.Claims1.lean ====
module

public import proofs.«01_k».proof.Defs
public import proofs.«01_k».proof.Proof.SwaFinal
public import proofs.«01_k».proof.Proof.Gen.Kernel.Frame
public import proofs.«01_k».proof.Proof.Gen.Pre_finite
public import Idealize.ShloMosaic.Lib.Quiescent
public import Idealize.ShloMosaic.Lib.ReduceAll

@[expose] public section

set_option maxRecDepth 16384

noncomputable section

namespace Cert.Proof.SwaClaims

open Idealize.ShloMosaic Idealize.ShloMosaic.TcCoe Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

/-! ## The precondition, read back -/

theorem real_of_abs (x : EReal)
    (h : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have e : Ideal.ofBits .f32 0x7F800000#32 = ⊤ := by simp [Ideal.ofBits, Ideal.ieee]
  have h' : BitVec.ofBool (decide (max x (-x) < Ideal.ofBits .f32 0x7F800000#32)) = 1#1 := h
  rw [e] at h'
  have lt : max x (-x) < ⊤ := by
    by_contra hn
    rw [decide_eq_false hn] at h'
    exact absurd h' (by decide)
  constructor
  · rintro rfl; simp at lt
  · rintro rfl; simp at lt

instance : Subsingleton Cert.Pre_finite.S_.Idx := ⟨fun _ _ => funext fun a => a.elim0⟩

theorem pre_sides [Cert.Pre_finite.Facts] (u : FVec Ideal Cert.Pre_finite.S2x16384x768 .f32) (sk : FVec Ideal Cert.Pre_finite.S8 .f32)
    (h : Cert.Pre_finite.fn (F := Ideal) u sk = fun _ => 1#1) :
    Cert.ReferenceIdeal.Swa.Real640 u ∧ ∀ k : Fin 8, sk (ix1 k) ≠ ⊤ ∧ sk (ix1 k) ≠ ⊥ := by
  have h0 := congrFun h ix0
  dsimp only [Cert.Pre_finite.fn] at h0
  obtain ⟨ha, hb⟩ := IntOp.andi_eq_one.1 h0
  constructor
  · intro b s l hl
    have w := Host.reduce_andi_all _ _ _ _ _ ha (ix3 b s ⟨l.val, hl⟩)
    refine real_of_abs _ (Eq.trans ?_ w)
    refine congrArg (fun z : EReal => FloatOps.cmpf (F := Ideal) (φ := .f32) .olt (FloatOps.hostAbsf (F := Ideal) (φ := .f32) z) (FloatOps.ofBits (F := Ideal) .f32 0x7F800000#32)) ?_
    refine congrArg u (funext fun a => Fin.ext ?_)
    match a with
    | ⟨0, _⟩ => exact (Nat.zero_add _).symm
    | ⟨1, _⟩ => exact (Nat.zero_add _).symm
    | ⟨2, _⟩ => exact (Nat.zero_add _).symm
  · intro k
    exact real_of_abs _ (Host.reduce_andi_all _ _ _ _ _ hb (ix1 k))

/-- Where the queries, the keys and the sinks are finite, the call's result array, on the extended reals, is the reference's. -/
theorem algebraic : Cert.algebraic_KernelIdeal_ReferenceIdeal_pre_finite := by
  intro m ρ m' ρ' pre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := hagree c
  obtain ⟨hu, hk⟩ := pre_sides _ _ (pre c)
  refine (Cert.ReferenceIdeal.Swa.res_eq m' c).trans (Eq.trans ?_ (Cert.KernelIdeal.Swa.final m c).symm)
  rw [h0, h1]
  exact (Cert.ReferenceIdeal.Swa.out_eq _ _ hu hk).symm

end Cert.Proof.SwaClaims

end
-- ==== Proof.MlpKernel.lean ====
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Mlp

open Cert.Kernel2Ideal Cert.Kernel2Ideal.Gen Cert.Kernel2Ideal.Value

variable (m : (ℓ : Loc nD τ sig) → Buf (Elt Ideal) ℓ)

/-- What the first point of a run of four leaves in the residual scratch. -/
theorem first_s0 (c : Dev nD) (t : Fin cfg0.N) (h0 : t.val % 4 = 0) :
    (outsAt0 m c t.val t.isLt).2.1
      = k0_pay5 (iblk m c 0 t) (iblk m c 1 t) (iblk m c 3 t) (iblk m c 2 t) (iblk m c 4 t) := by
  rw [outsAt0_A m c t h0 (by omega)]
  frame_out
  try simp only [read_unread_whole]

/-- … in the normalised-rows scratch. -/
theorem first_s1 (c : Dev nD) (t : Fin cfg0.N) (h0 : t.val % 4 = 0) :
    (outsAt0 m c t.val t.isLt).2.2.1
      = k0_pay6 (iblk m c 0 t) (iblk m c 1 t) (iblk m c 3 t) (iblk m c 2 t) (iblk m c 4 t) (iblk m c 5 t) := by
  rw [outsAt0_A m c t h0 (by omega)]
  frame_out
  try simp only [read_unread_whole]

/-- … and in the accumulator. -/
theorem first_s2 (c : Dev nD) (t : Fin cfg0.N) (h0 : t.val % 4 = 0) :
    (outsAt0 m c t.val t.isLt).2.2.2
      = k0_pay2 (k0_pay6 (iblk m c 0 t) (iblk m c 1 t) (iblk m c 3 t) (iblk m c 2 t) (iblk m c 4 t) (iblk m c 5 t))
          (iblk m c 6 t) (k0_pay1 (F := Ideal) k0_pay7) (iblk m c 7 t) := by
  rw [outsAt0_A m c t h0 (by omega)]
  frame_out
  try simp only [read_unread_whole]

theorem mid (c : Dev nD) (t : Fin cfg0.N) (h0 : ¬ t.val % 4 = 0) (h1 : ¬ t.val % 4 = 3) :
    (outsAt0 m c t.val t.isLt).2.2.2
      = k0_pay2 (outsAt0 m c (t.val - 1) (Nat.lt_of_le_of_lt (Nat.sub_le _ _) t.isLt)).2.2.1
          (iblk m c 6 t) (outsAt0 m c (t.val - 1) (Nat.lt_of_le_of_lt (Nat.sub_le _ _) t.isLt)).2.2.2 (iblk m c 7 t) := by
  rw [outsAt0_B m c t h0 h1]
  frame_out
  try simp only [read_unread_whole]

theorem last (c : Dev nD) (t : Fin cfg0.N) (h1 : t.val % 4 = 3) :
    (outsAt0 m c t.val t.isLt).1
      = k0_pay3 (outsAt0 m c (t.val - 1) (Nat.lt_of_le_of_lt (Nat.sub_le _ _) t.isLt)).2.1
          (k0_pay2 (outsAt0 m c (t.val - 1) (Nat.lt_of_le_of_lt (Nat.sub_le _ _) t.isLt)).2.2.1
          (iblk m c 6 t) (outsAt0 m c (t.val - 1) (Nat.lt_of_le_of_lt (Nat.sub_le _ _) t.isLt)).2.2.2 (iblk m c 7 t))
          (iblk m c 8 t) := by
  rw [outsAt0_C m c t (by omega) h1]
  frame_out
  try simp only [read_unread_whole]

/-- The residual and the normalised rows are kept by the run's middle points. -/
theorem keep_s (c : Dev nD) (t : Fin cfg0.N) (h0 : ¬ t.val % 4 = 0) (h1 : ¬ t.val % 4 = 3) :
    (outsAt0 m c t.val t.isLt).2.1 = (outsAt0 m c (t.val - 1) (Nat.lt_of_le_of_lt (Nat.sub_le _ _) t.isLt)).2.1
    ∧ (outsAt0 m c t.val t.isLt).2.2.1 = (outsAt0 m c (t.val - 1) (Nat.lt_of_le_of_lt (Nat.sub_le _ _) t.isLt)).2.2.1 := by
  rw [outsAt0_B m c t h0 h1]
  exact ⟨rfl, rfl⟩

/-- One row divided by the root of its mean square (plus the small constant), times the weights. -/
def rmsRow (x g : Fin 1024 → EReal) (c : Fin 1024) : EReal :=
  x c * Ideal.rsqrt (Ideal.div (∑ k : Fin 1024, x k * x k) (Ideal.ofBits .f32 0x44800000#32) + Ideal.ofBits .f32 0x358637BD#32) * g c

/-- One hidden unit: the rectified product, squared. -/
def hiddenUnit (x : Fin 1024 → EReal) (w : Fin 1024 → EReal) : EReal :=
  max (∑ k : Fin 1024, x k * w k) 0 * max (∑ k : Fin 1024, x k * w k) 0

theorem pay5_at (x0 : FVec Ideal S1024x1024 .f32) (x1 : FVec Ideal S1024x512 .bf16) (x3 : FVec Ideal S512x1024 .bf16)
    (x2 : FVec Ideal S1024x512 .bf16) (x4 : FVec Ideal S512x1024 .bf16) (r l : Fin 1024) :
    k0_pay5 x0 x1 x3 x2 x4 (ix2 r l)
      = x0 (ix2 r l) + (∑ k : Fin 512, x1 (ix2 r k) * x3 (ix2 k l)) + ∑ k : Fin 512, x2 (ix2 r k) * x4 (ix2 k l) := by
  pointwise [k0_pay5, k0_pay4]

theorem pay6_at (x0 : FVec Ideal S1024x1024 .f32) (x1 : FVec Ideal S1024x512 .bf16) (x3 : FVec Ideal S512x1024 .bf16)
    (x2 : FVec Ideal S1024x512 .bf16) (x4 : FVec Ideal S512x1024 .bf16) (x5 : FVec Ideal S1x1024 .f32) (r l : Fin 1024) :
    (k0_pay6 x0 x1 x3 x2 x4 x5 : FVec Ideal S1024x1024 .bf16) (ix2 r l)
      = rmsRow (fun k => k0_pay5 (F := Ideal) x0 x1 x3 x2 x4 (ix2 r k)) (fun k => x5 (ix2 0 k)) l := by
  pointwise [k0_pay6, k0_pay5, rmsRow]

theorem pay2_at (xn w1 : FVec Ideal S1024x1024 .bf16) (a : FVec Ideal S1024x1024 .f32) (w2 : FVec Ideal S1024x1024 .bf16)
    (r l : Fin 1024) :
    k0_pay2 xn w1 a w2 (ix2 r l)
      = a (ix2 r l) + ∑ k : Fin 1024, hiddenUnit (fun j => xn (ix2 r j)) (fun j => w1 (ix2 j k)) * w2 (ix2 k l) := by
  pointwise [k0_pay2, hiddenUnit]

theorem pay3_at (s a : FVec Ideal S1024x1024 .f32) (g : FVec Ideal S1x1024 .f32) (r l : Fin 1024) :
    (k0_pay3 s a g : FVec Ideal S1024x1024 .f32) (ix2 r l)
      = rmsRow (fun k => s (ix2 r k) + a (ix2 r k)) (fun k => g (ix2 0 k)) l := by
  pointwise [k0_pay3, rmsRow]

theorem pay1_at (r l : Fin 1024) : k0_pay1 (F := Ideal) k0_pay7 (ix2 r l) = 0 := by
  pointwise [k0_pay1, k0_pay7]

end Cert.Kernel2Ideal.Mlp
-- ==== Proof.MlpReference.lean ====
module

public import proofs.«01_k».proof.Proof.Gen.Reference2Ideal.Run
public import proofs.«01_k».proof.Proof.MlpBlocks

@[expose] public section

set_option maxRecDepth 16384

noncomputable section

open Idealize.ShloMosaic Idealize.ShloMosaic.TcCoe Idealize.SL.Sem

namespace Cert.Reference2Ideal.Mlp

open Cert.Reference2Ideal Cert.Reference2Ideal.Gen Cert.Reference2Ideal.Value
open Cert.Kernel2Ideal.Mlp (rmsRow hiddenUnit)

/-- The residual stream after the output projection. -/
def refResid (h : FVec Ideal S2x16384x1024 .f32) (ya yb : FVec Ideal S2x16384x512 .f32) (w : FVec Ideal S1024x1024 .f32) :
    FVec Ideal S2x16384x1024 .f32 :=
  addf h (Host.dotGeneral dot_S2x16384x1024_S1024x1024_S2x16384x1024_2_0_01_1_n_n none
    (concatenate S2x16384x1024 2 [⟨S2x16384x512, ya⟩, ⟨S2x16384x512, yb⟩] concatenates_S2x16384x512_S2x16384x512_S2x16384x1024_d2) w)

/-- The root-mean-square normalisation, as the reference writes it. -/
def refNorm (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2
      (Host.rsqrt (addf (Host.divf (broadcastInDim S2x16384x1 ![0, 1] bcast_S2x16384_S2x16384x1_0_1
        (Host.reduceAdd (mulf x x) (constant S_ .f32 0x00000000#32) reducesTo_S2x16384x1024_S2x16384_d2 h_S_))
          (broadcastInDim S2x16384x1 ![] bcast_S_S2x16384x1 (constant S_ .f32 0x44800000#32)))
        (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- The rectified product with the first weight matrix. -/
def refUp (x : FVec Ideal S2x16384x1024 .f32) (w : FVec Ideal S1024x4096 .f32) : FVec Ideal S2x16384x4096 .f32 :=
  maximumf (Host.dotGeneral dot_S2x16384x1024_S1024x4096_S2x16384x4096_2_0_01_1_n_n none x w)
    (broadcastInDim S2x16384x4096 ![] bcast_S_S2x16384x4096 (constant S_ .f32 0x00000000#32))

/-- The stream after the feed-forward layer. -/
def refMlp (r : FVec Ideal S2x16384x1024 .f32) (g : FVec Ideal S1024 .f32) (w1 : FVec Ideal S1024x4096 .f32) (w2 : FVec Ideal S4096x1024 .f32) :
    FVec Ideal S2x16384x1024 .f32 :=
  addf r (Host.dotGeneral dot_S2x16384x4096_S4096x1024_S2x16384x1024_2_0_01_1_n_n none
    (mulf (refUp (refNorm r g) w1) (refUp (refNorm r g) w1)) w2)

def refOut (h : FVec Ideal S2x16384x1024 .f32) (ya yb : FVec Ideal S2x16384x512 .f32) (w : FVec Ideal S1024x1024 .f32)
    (g : FVec Ideal S1024 .f32) (w1 : FVec Ideal S1024x4096 .f32) (w2 : FVec Ideal S4096x1024 .f32) (gf : FVec Ideal S1024 .f32) :
    FVec Ideal S32768x1024 .f32 :=
  shapeCast S32768x1024 (refNorm (refMlp (refResid h ya yb w) g w1 w2) gf) shapeCasts_S2x16384x1024_S32768x1024

set_option maxHeartbeats 2000000 in
theorem res_eq (m : (ℓ : Loc nD τ sig) → Buf (Elt Ideal) ℓ) (c : Dev nD) :
    res_out0 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

theorem refResid_at (h : FVec Ideal S2x16384x1024 .f32) (ya yb : FVec Ideal S2x16384x512 .f32) (w : FVec Ideal S1024x1024 .f32)
    (b : Fin 2) (s : Fin 16384) (l : Fin 1024) :
    refResid h ya yb w (ix3 b s l)
      = h (ix3 b s l) + ((∑ k : Fin 512, ya (ix3 b s k) * w (ix2 ⟨k.val, by omega⟩ l))
          + ∑ k : Fin 512, yb (ix3 b s k) * w (ix2 ⟨512 + k.val, by omega⟩ l)) := by
  pointwise [refResid]

theorem refNorm_at (x : FVec Ideal S2x16384x1024 .f32) (g : FVec Ideal S1024 .f32) (b : Fin 2) (s : Fin 16384) (l : Fin 1024) :
    refNorm x g (ix3 b s l) = rmsRow (fun k => x (ix3 b s k)) (fun k => g (ix1 k)) l := by
  pointwise [refNorm, rmsRow]

theorem refMlp_at (r : FVec Ideal S2x16384x1024 .f32) (g : FVec Ideal S1024 .f32) (w1 : FVec Ideal S1024x4096 .f32) (w2 : FVec Ideal S4096x1024 .f32)
    (b : Fin 2) (s : Fin 16384) (l : Fin 1024) :
    refMlp r g w1 w2 (ix3 b s l)
      = r (ix3 b s l) + ∑ k : Fin 4096, hiddenUnit (fun j => refNorm r g (ix3 b s j)) (fun j => w1 (ix2 j k)) * w2 (ix2 k l) := by
  pointwise [refMlp, refUp, hiddenUnit]

theorem refOut_at (h : FVec Ideal S2x16384x1024 .f32) (ya yb : FVec Ideal S2x16384x512 .f32) (w : FVec Ideal S1024x1024 .f32)
    (g : FVec Ideal S1024 .f32) (w1 : FVec Ideal S1024x4096 .f32) (w2 : FVec Ideal S4096x1024 .f32) (gf : FVec Ideal S1024 .f32)
    (R : Fin 32768) (l : Fin 1024) :
    refOut h ya yb w g w1 w2 gf (ix2 R l)
      = refNorm (refMlp (refResid h ya yb w) g w1 w2) gf (ix3 ⟨R.val / 16384, by omega⟩ ⟨R.val % 16384, by omega⟩ l) := by
  pointwise [refOut]

section
open Cert.Kernel2Ideal.Mlp (resid normed term result_at A0 A1 A2 A3 A4 A5 A6 A7)

variable (m : (ℓ : Loc Cert.Kernel2Ideal.nD Cert.Kernel2Ideal.τ Cert.Kernel2Ideal.sig) → Buf (Elt Ideal) ℓ)
variable (c : Dev Cert.Kernel2Ideal.nD)

theorem resid_eq (b : Fin 2) (s : Fin 16384) (k : Fin 1024) :
    refResid (A0 m c) (A1 m c) (A2 m c) (A3 m c) (ix3 b s k) = resid m c b s k :=
  (refResid_at _ _ _ _ _ _ k).trans (add_assoc _ _ _).symm

theorem normed_eq (b : Fin 2) (s : Fin 16384) (k : Fin 1024) :
    refNorm (refResid (A0 m c) (A1 m c) (A2 m c) (A3 m c)) (A4 m c) (ix3 b s k) = normed m c b s k :=
  (refNorm_at _ _ b s k).trans (congrFun (congrArg₂ rmsRow (funext fun x => resid_eq m c b s x) rfl) k)

theorem mlp_eq (b : Fin 2) (s : Fin 16384) (k : Fin 1024) :
    refMlp (refResid (A0 m c) (A1 m c) (A2 m c) (A3 m c)) (A4 m c) (A5 m c) (A6 m c) (ix3 b s k)
      = resid m c b s k + ∑ j : Fin 4096, term m c b s k j := by
  refine (refMlp_at _ _ _ _ b s k).trans ?_
  refine congrArg₂ _ (resid_eq m c b s k) (Finset.sum_congr rfl fun i _ => ?_)
  unfold term
  exact congrArg₂ _ (congrArg₂ hiddenUnit (funext fun x => normed_eq m c b s x) rfl) rfl

theorem out_eq (R : Fin 32768) (l : Fin 1024) :
    refOut (A0 m c) (A1 m c) (A2 m c) (A3 m c) (A4 m c) (A5 m c) (A6 m c) (A7 m c) (ix2 R l)
      = Cert.Kernel2Ideal.Value.G9 m c (ix2 R l) := by
  refine (refOut_at _ _ _ _ _ _ _ _ R l).trans ?_
  refine (refNorm_at _ _ _ _ l).trans ?_
  refine Eq.trans ?_ (result_at m c R l ⟨R.val / 16384, by omega⟩ ⟨R.val % 16384, by omega⟩
    (by show R.val / 16384 * 16384 + R.val % 16384 = _; omega)).symm
  exact congrFun (congrArg₂ rmsRow (funext fun k => mlp_eq m c _ _ k) rfl) l

/-- The kernel's result array is the reference's function of the arguments. -/
theorem kernel_eq : Cert.Kernel2Ideal.Value.G9 m c
      = refOut (A0 m c) (A1 m c) (A2 m c) (A3 m c) (A4 m c) (A5 m c) (A6 m c) (A7 m c) :=
  funext fun j => by
    have e : j = ix2 (j 0 : Fin 32768) (j 1 : Fin 1024) := eq_ix2 j
    rw [e]
    exact (out_eq m c _ _).symm

end

end Cert.Reference2Ideal.Mlp
-- ==== Proof.Claims2.lean ====
module

public import proofs.«01_k».proof.Defs
public import proofs.«01_k».proof.Proof.MlpReference
public import proofs.«01_k».proof.Proof.Gen.Kernel2.Frame
public import Idealize.ShloMosaic.Lib.Quiescent

@[expose] public section

set_option maxRecDepth 16384

noncomputable section

namespace Cert.Proof.MlpClaims

open Idealize.ShloMosaic Idealize.ShloMosaic.TcCoe Idealize.SL.Sem

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The call's result array, on the extended reals, is the reference's. -/
theorem algebraic : Cert.algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨(h c).1.trans ?_, (h c).2⟩)
    (Cert.Reference2Ideal.Value.run (F := Ideal) m' ρ')
  refine (Cert.Reference2Ideal.Mlp.res_eq m' c).trans (Eq.trans ?_ (Cert.Reference2Ideal.Mlp.kernel_eq m c).symm)
  obtain ⟨h0, h1, h2, h3, h4, h5, h6, h7⟩ := hagree c
  rw [h0, h1, h2, h3, h4, h5, h6, h7]

end Cert.Proof.MlpClaims

end
-- ==== Proof.Mlp3Kernel.lean ====
module

public import proofs.«01_k».proof.Proof.Gen.Kernel3Ideal.Value
public import proofs.«01_k».proof.Proof.MlpKernel
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Mlp

open Cert.Kernel3Ideal Cert.Kernel3Ideal.Gen Cert.Kernel3Ideal.Value
open Cert.Kernel2Ideal.Mlp (rmsRow hiddenUnit)

variable (m : (ℓ : Loc nD τ sig) → Buf (Elt Ideal) ℓ)

/-- What the first point of a run of four leaves in the residual scratch. -/
theorem first_s0 (c : Dev nD) (t : Fin cfg0.N) (h0 : t.val % 4 = 0) :
    (outsAt0 m c t.val t.isLt).2.1
      = k0_pay5 (iblk m c 0 t) (iblk m c 1 t) (iblk m c 3 t) (iblk m c 2 t) (iblk m c 4 t) := by
  rw [outsAt0_A m c t h0 (by omega)]
  frame_out
  try simp only [read_unread_whole]

/-- … in the normalised-rows scratch. -/
theorem first_s1 (c : Dev nD) (t : Fin cfg0.N) (h0 : t.val % 4 = 0) :
    (outsAt0 m c t.val t.isLt).2.2.1
      = k0_pay6 (iblk m c 0 t) (iblk m c 1 t) (iblk m c 3 t) (iblk m c 2 t) (iblk m c 4 t) (iblk m c 5 t) := by
  rw [outsAt0_A m c t h0 (by omega)]
  frame_out
  try simp only [read_unread_whole]

/-- … and in the accumulator. -/
theorem first_s2 (c : Dev nD) (t : Fin cfg0.N) (h0 : t.val % 4 = 0) :
    (outsAt0 m c t.val t.isLt).2.2.2
      = k0_pay2 (k0_pay6 (iblk m c 0 t) (iblk m c 1 t) (iblk m c 3 t) (iblk m c 2 t) (iblk m c 4 t) (iblk m c 5 t))
          (iblk m c 6 t) (k0_pay1 (F := Ideal) k0_pay7) (iblk m c 7 t) := by
  rw [outsAt0_A m c t h0 (by omega)]
  frame_out
  try simp only [read_unread_whole]

theorem mid (c : Dev nD) (t : Fin cfg0.N) (h0 : ¬ t.val % 4 = 0) (h1 : ¬ t.val % 4 = 3) :
    (outsAt0 m c t.val t.isLt).2.2.2
      = k0_pay2 (outsAt0 m c (t.val - 1) (Nat.lt_of_le_of_lt (Nat.sub_le _ _) t.isLt)).2.2.1
          (iblk m c 6 t) (outsAt0 m c (t.val - 1) (Nat.lt_of_le_of_lt (Nat.sub_le _ _) t.isLt)).2.2.2 (iblk m c 7 t) := by
  rw [outsAt0_B m c t h0 h1]
  frame_out
  try simp only [read_unread_whole]

theorem last (c : Dev nD) (t : Fin cfg0.N) (h1 : t.val % 4 = 3) :
    (outsAt0 m c t.val t.isLt).1
      = k0_pay3 (outsAt0 m c (t.val - 1) (Nat.lt_of_le_of_lt (Nat.sub_le _ _) t.isLt)).2.1
          (k0_pay2 (outsAt0 m c (t.val - 1) (Nat.lt_of_le_of_lt (Nat.sub_le _ _) t.isLt)).2.2.1
          (iblk m c 6 t) (outsAt0 m c (t.val - 1) (Nat.lt_of_le_of_lt (Nat.sub_le _ _) t.isLt)).2.2.2 (iblk m c 7 t)) := by
  rw [outsAt0_C m c t (by omega) h1]
  frame_out
  try simp only [read_unread_whole]

/-- The residual and the normalised rows are kept by the run's middle points. -/
theorem keep_s (c : Dev nD) (t : Fin cfg0.N) (h0 : ¬ t.val % 4 = 0) (h1 : ¬ t.val % 4 = 3) :
    (outsAt0 m c t.val t.isLt).2.1 = (outsAt0 m c (t.val - 1) (Nat.lt_of_le_of_lt (Nat.sub_le _ _) t.isLt)).2.1
    ∧ (outsAt0 m c t.val t.isLt).2.2.1 = (outsAt0 m c (t.val - 1) (Nat.lt_of_le_of_lt (Nat.sub_le _ _) t.isLt)).2.2.1 := by
  rw [outsAt0_B m c t h0 h1]
  exact ⟨rfl, rfl⟩

theorem pay5_at (x0 : FVec Ideal S1024x1024 .f32) (x1 : FVec Ideal S1024x512 .bf16) (x3 : FVec Ideal S512x1024 .bf16)
    (x2 : FVec Ideal S1024x512 .bf16) (x4 : FVec Ideal S512x1024 .bf16) (r l : Fin 1024) :
    k0_pay5 x0 x1 x3 x2 x4 (ix2 r l)
      = x0 (ix2 r l) + (∑ k : Fin 512, x1 (ix2 r k) * x3 (ix2 k l)) + ∑ k : Fin 512, x2 (ix2 r k) * x4 (ix2 k l) := by
  pointwise [k0_pay5, k0_pay4]

theorem pay6_at (x0 : FVec Ideal S1024x1024 .f32) (x1 : FVec Ideal S1024x512 .bf16) (x3 : FVec Ideal S512x1024 .bf16)
    (x2 : FVec Ideal S1024x512 .bf16) (x4 : FVec Ideal S512x1024 .bf16) (x5 : FVec Ideal S1x1024 .f32) (r l : Fin 1024) :
    (k0_pay6 x0 x1 x3 x2 x4 x5 : FVec Ideal S1024x1024 .bf16) (ix2 r l)
      = rmsRow (fun k => k0_pay5 (F := Ideal) x0 x1 x3 x2 x4 (ix2 r k)) (fun k => x5 (ix2 0 k)) l := by
  pointwise [k0_pay6, k0_pay5, rmsRow]

theorem pay2_at (xn w1 : FVec Ideal S1024x1024 .bf16) (a : FVec Ideal S1024x1024 .f32) (w2 : FVec Ideal S1024x1024 .bf16)
    (r l : Fin 1024) :
    k0_pay2 xn w1 a w2 (ix2 r l)
      = a (ix2 r l) + ∑ k : Fin 1024, hiddenUnit (fun j => xn (ix2 r j)) (fun j => w1 (ix2 j k)) * w2 (ix2 k l) := by
  pointwise [k0_pay2, hiddenUnit]

theorem pay3_at (s a : FVec Ideal S1024x1024 .f32) (r l : Fin 1024) :
    (k0_pay3 s a : FVec Ideal S1024x1024 .f32) (ix2 r l) = s (ix2 r l) + a (ix2 r l) := by
  pointwise [k0_pay3]

theorem pay1_at (r l : Fin 1024) : k0_pay1 (F := Ideal) k0_pay7 (ix2 r l) = 0 := by
  pointwise [k0_pay1, k0_pay7]

end Cert.Kernel3Ideal.Mlp
-- ==== Proof.Mlp3Blocks.lean ====
module

public import proofs.«01_k».proof.Proof.Mlp3Kernel

@[expose] public section

set_option maxRecDepth 16384

noncomputable section

open Idealize.ShloMosaic Idealize.ShloMosaic.TcCoe Idealize.SL.Sem
open Idealize.ShloMosaic.Pipeline (Dat)

namespace Cert.Kernel3Ideal.Mlp

open Cert.Kernel3Ideal Cert.Kernel3Ideal.Gen Cert.Kernel3Ideal.Value
open Cert.Kernel2Ideal.Mlp (rmsRow hiddenUnit)

variable (m : (ℓ : Loc nD τ sig) → Buf (Elt Ideal) ℓ)

/-- Every window's block index at a grid point. -/
theorem idx : ∀ t : Fin cfg0.N,
    win0_0.index t = ![t.val / 4, 0] ∧ win0_1.index t = ![t.val / 4, 0] ∧ win0_2.index t = ![t.val / 4, 0]
    ∧ win0_3.index t = ![0, 0] ∧ win0_4.index t = ![0, 0] ∧ win0_5.index t = ![0, 0]
    ∧ win0_6.index t = ![0, t.val % 4] ∧ win0_7.index t = ![t.val % 4, 0] ∧ win0_8.index t = ![0, 0] :=
  (by decide +kernel : ∀ t : Fin grid0.N, _)

abbrev A0 (c : Dev nD) : FVec Ideal S2x16384x1024 .f32 := m ((c : Thread nD τ).loc main_arg0)
abbrev A1 (c : Dev nD) : FVec Ideal S2x16384x512 .f32 := m ((c : Thread nD τ).loc main_arg1)
abbrev A2 (c : Dev nD) : FVec Ideal S2x16384x512 .f32 := m ((c : Thread nD τ).loc main_arg2)
abbrev A3 (c : Dev nD) : FVec Ideal S1024x1024 .f32 := m ((c : Thread nD τ).loc main_arg3)
abbrev A4 (c : Dev nD) : FVec Ideal S1024 .f32 := m ((c : Thread nD τ).loc main_arg4)
abbrev A5 (c : Dev nD) : FVec Ideal S1024x4096 .f32 := m ((c : Thread nD τ).loc main_arg5)
abbrev A6 (c : Dev nD) : FVec Ideal S4096x1024 .f32 := m ((c : Thread nD τ).loc main_arg6)
abbrev A7 (c : Dev nD) : FVec Ideal S1024 .f32 := m ((c : Thread nD τ).loc main_arg7)

theorem blk0 (c : Dev nD) (t : Fin cfg0.N) (r l : Fin 1024) (b : Fin 2) (s : Fin 16384)
    (h : b.val * 16384 + s.val = 1024 * (t.val / 4) + r.val) :
    iblk m c 0 t (ix2 r l) = A0 m c (ix3 b s l) := by
  blk_simp [iblk]
  entry_read
  pointwise
  blk_ext [idx t]

theorem blk6 (c : Dev nD) (t : Fin cfg0.N) (r l : Fin 1024) (l' : Fin 4096) (h : l'.val = 1024 * (t.val % 4) + l.val) :
    iblk m c 6 t (ix2 r l) = A5 m c (ix2 r l') := by
  blk_simp [iblk]
  entry_read
  pointwise
  blk_ext [idx t]

theorem blk4 (c : Dev nD) (t : Fin cfg0.N) (r : Fin 512) (l : Fin 1024) (r' : Fin 1024) (h : r'.val = 512 + r.val) :
    iblk m c 4 t (ix2 r l) = A3 m c (ix2 r' l) := by
  blk_simp [iblk]
  entry_read
  pointwise
  blk_ext [idx t]

theorem blk1 (c : Dev nD) (t : Fin cfg0.N) (r : Fin 1024) (l : Fin 512) (b : Fin 2) (s : Fin 16384)
    (h : b.val * 16384 + s.val = 1024 * (t.val / 4) + r.val) :
    iblk m c 1 t (ix2 r l) = A1 m c (ix3 b s l) := by
  blk_simp [iblk]
  entry_read
  pointwise
  blk_ext [idx t]

theorem blk2 (c : Dev nD) (t : Fin cfg0.N) (r : Fin 1024) (l : Fin 512) (b : Fin 2) (s : Fin 16384)
    (h : b.val * 16384 + s.val = 1024 * (t.val / 4) + r.val) :
    iblk m c 2 t (ix2 r l) = A2 m c (ix3 b s l) := by
  blk_simp [iblk]
  entry_read
  pointwise
  blk_ext [idx t]

theorem blk3 (c : Dev nD) (t : Fin cfg0.N) (r : Fin 512) (l : Fin 1024) (r' : Fin 1024) (h : r'.val = r.val) :
    iblk m c 3 t (ix2 r l) = A3 m c (ix2 r' l) := by
  blk_simp [iblk]
  entry_read
  pointwise
  blk_ext [idx t]

theorem blk5 (c : Dev nD) (t : Fin cfg0.N) (l : Fin 1024) : iblk m c 5 t (ix2 0 l) = A4 m c (ix1 l) := by
  blk_simp [iblk]
  entry_read
  pointwise
  blk_ext [idx t]

theorem blk7 (c : Dev nD) (t : Fin cfg0.N) (r l : Fin 1024) (r' : Fin 4096) (h : r'.val = 1024 * (t.val % 4) + r.val) :
    iblk m c 7 t (ix2 r l) = A6 m c (ix2 r' l) := by
  blk_simp [iblk]
  entry_read
  pointwise
  blk_ext [idx t]

/-! ## The rows, over the arguments -/

/-- The residual row: the layer's input plus the two mixers' halves of the output projection. -/
def resid (c : Dev nD) (b : Fin 2) (s : Fin 16384) (l : Fin 1024) : EReal :=
  A0 m c (ix3 b s l) + (∑ k : Fin 512, A1 m c (ix3 b s k) * A3 m c (ix2 ⟨k.val, by omega⟩ l))
    + ∑ k : Fin 512, A2 m c (ix3 b s k) * A3 m c (ix2 ⟨512 + k.val, by omega⟩ l)

/-- The row normalised. -/
def normed (c : Dev nD) (b : Fin 2) (s : Fin 16384) : Fin 1024 → EReal :=
  rmsRow (resid m c b s) (fun k => A4 m c (ix1 k))

/-- One term of the product with the second weight matrix. -/
def term (c : Dev nD) (b : Fin 2) (s : Fin 16384) (l : Fin 1024) (k : Fin 4096) : EReal :=
  hiddenUnit (normed m c b s) (fun j => A5 m c (ix2 j k)) * A6 m c (ix2 k l)

/-- The four tiles of the sum over the hidden units, added in the order of the grid. -/
def tile (c : Dev nD) (b : Fin 2) (s : Fin 16384) (l : Fin 1024) (j : Fin 4) : EReal :=
  ∑ k : Fin 1024, term m c b s l ⟨j.val * 1024 + k.val, by omega⟩

theorem resid_at (c : Dev nD) (t : Fin cfg0.N) (r l : Fin 1024) (b : Fin 2) (s : Fin 16384)
    (h : b.val * 16384 + s.val = 1024 * (t.val / 4) + r.val) :
    k0_pay5 (F := Ideal) (iblk m c 0 t) (iblk m c 1 t) (iblk m c 3 t) (iblk m c 2 t) (iblk m c 4 t) (ix2 r l) = resid m c b s l := by
  refine (pay5_at _ _ _ _ _ r l).trans ?_
  unfold resid
  refine congrArg₂ _ (congrArg₂ _ (blk0 m c t r l b s h) (Finset.sum_congr rfl fun k _ => ?_)) (Finset.sum_congr rfl fun k _ => ?_)
  · exact congrArg₂ _ (blk1 m c t r k b s h) (blk3 m c t k l _ rfl)
  · exact congrArg₂ _ (blk2 m c t r k b s h) (blk4 m c t k l _ rfl)

theorem normed_at (c : Dev nD) (t : Fin cfg0.N) (r l : Fin 1024) (b : Fin 2) (s : Fin 16384)
    (h : b.val * 16384 + s.val = 1024 * (t.val / 4) + r.val) :
    (k0_pay6 (iblk m c 0 t) (iblk m c 1 t) (iblk m c 3 t) (iblk m c 2 t) (iblk m c 4 t) (iblk m c 5 t) : FVec Ideal S1024x1024 .bf16)
      (ix2 r l) = normed m c b s l := by
  refine (pay6_at _ _ _ _ _ _ r l).trans ?_
  unfold normed
  exact congrFun (congrArg₂ rmsRow (funext fun k => resid_at m c t r k b s h) (funext fun k => blk5 m c t k)) l

/-- One point's step: the accumulator plus the tile's sum. -/
theorem step_at (c : Dev nD) (t : Fin cfg0.N) (xn : FVec Ideal S1024x1024 .bf16) (a : FVec Ideal S1024x1024 .f32) (r l : Fin 1024)
    (b : Fin 2) (s : Fin 16384) (hx : ∀ k, xn (ix2 r k) = normed m c b s k) (j : Fin 4) (hj : t.val % 4 = j.val) :
    k0_pay2 (F := Ideal) xn (iblk m c 6 t) a (iblk m c 7 t) (ix2 r l) = a (ix2 r l) + tile m c b s l j := by
  refine (pay2_at _ _ _ _ r l).trans (congrArg₂ _ rfl ?_)
  unfold tile term
  refine Finset.sum_congr rfl fun k _ => congrArg₂ _ (congrArg₂ hiddenUnit (funext hx) (funext fun i => ?_)) ?_
  · exact blk6 m c t i k _ (by rw [hj]; show j.val * 1024 + k.val = _; omega)
  · exact blk7 m c t k l _ (by rw [hj]; show j.val * 1024 + k.val = _; omega)

/-- What the carried scratch holds after the points of a run, row by row. -/
theorem after0 (c : Dev nD) (n : ℕ) (hn : n < cfg0.N) (h0 : n % 4 = 0) (r : Fin 1024) (b : Fin 2) (s : Fin 16384)
    (h : b.val * 16384 + s.val = 1024 * (n / 4) + r.val) (l : Fin 1024) :
    (outsAt0 m c n hn).2.1 (ix2 r l) = resid m c b s l ∧ (outsAt0 m c n hn).2.2.1 (ix2 r l) = normed m c b s l
      ∧ (outsAt0 m c n hn).2.2.2 (ix2 r l) = 0 + tile m c b s l 0 := by
  refine ⟨?_, ?_, ?_⟩
  · exact (congrFun (first_s0 m c ⟨n, hn⟩ h0) _).trans (resid_at m c ⟨n, hn⟩ r l b s h)
  · exact (congrFun (first_s1 m c ⟨n, hn⟩ h0) _).trans (normed_at m c ⟨n, hn⟩ r l b s h)
  · refine (congrFun (first_s2 m c ⟨n, hn⟩ h0) _).trans ?_
    refine (step_at m c ⟨n, hn⟩ _ _ r l b s (fun k => normed_at m c ⟨n, hn⟩ r k b s h) 0 h0).trans ?_
    exact congrArg₂ _ (pay1_at r l) rfl

theorem after_mid (c : Dev nD) (n : ℕ) (hn : n + 1 < cfg0.N) (j : Fin 4) (hj : (n + 1) % 4 = j.val) (hj0 : j.val ≠ 0) (hj3 : j.val ≠ 3)
    (r : Fin 1024) (b : Fin 2) (s : Fin 16384) (v : Fin 1024 → EReal)
    (ih : ∀ l, (outsAt0 m c n (Nat.lt_of_succ_lt hn)).2.1 (ix2 r l) = resid m c b s l
      ∧ (outsAt0 m c n (Nat.lt_of_succ_lt hn)).2.2.1 (ix2 r l) = normed m c b s l
      ∧ (outsAt0 m c n (Nat.lt_of_succ_lt hn)).2.2.2 (ix2 r l) = v l) (l : Fin 1024) :
    (outsAt0 m c (n + 1) hn).2.1 (ix2 r l) = resid m c b s l ∧ (outsAt0 m c (n + 1) hn).2.2.1 (ix2 r l) = normed m c b s l
      ∧ (outsAt0 m c (n + 1) hn).2.2.2 (ix2 r l) = v l + tile m c b s l j := by
  have k := keep_s m c ⟨n + 1, hn⟩ (by show ¬ (n + 1) % 4 = 0; omega) (by show ¬ (n + 1) % 4 = 3; omega)
  refine ⟨?_, ?_, ?_⟩
  · exact (congrFun k.1 _).trans (ih l).1
  · exact (congrFun k.2 _).trans (ih l).2.1
  · refine (congrFun (mid m c ⟨n + 1, hn⟩ (by show ¬ (n + 1) % 4 = 0; omega) (by show ¬ (n + 1) % 4 = 3; omega)) _).trans ?_
    refine (step_at m c ⟨n + 1, hn⟩ _ _ r l b s (fun k => (ih k).2.1) j hj).trans ?_
    exact congrArg₂ _ (ih l).2.2 rfl

theorem after_last (c : Dev nD) (n : ℕ) (hn : n + 1 < cfg0.N) (hj : (n + 1) % 4 = 3)
    (r : Fin 1024) (b : Fin 2) (s : Fin 16384) (v : Fin 1024 → EReal)
    (ih : ∀ l, (outsAt0 m c n (Nat.lt_of_succ_lt hn)).2.1 (ix2 r l) = resid m c b s l
      ∧ (outsAt0 m c n (Nat.lt_of_succ_lt hn)).2.2.1 (ix2 r l) = normed m c b s l
      ∧ (outsAt0 m c n (Nat.lt_of_succ_lt hn)).2.2.2 (ix2 r l) = v l) (l : Fin 1024) :
    (outsAt0 m c (n + 1) hn).1 (ix2 r l)
      = resid m c b s l + (v l + tile m c b s l 3) := by
  refine (congrFun (last m c ⟨n + 1, hn⟩ hj) _).trans ((pay3_at _ _ r l).trans ?_)
  refine congrArg₂ _ (ih l).1 ?_
  refine (step_at m c ⟨n + 1, hn⟩ _ _ r l b s (fun k => (ih k).2.1) 3 hj).trans ?_
  exact congrArg₂ _ (ih l).2.2 rfl

/-- The whole row, as the four points leave it. -/
theorem row_at (c : Dev nD) (q : ℕ) (hq : 4 * q + 3 < cfg0.N) (r : Fin 1024) (b : Fin 2) (s : Fin 16384)
    (h : b.val * 16384 + s.val = 1024 * q + r.val) (l : Fin 1024) :
    (outsAt0 m c (4 * q + 3) hq).1 (ix2 r l)
      = resid m c b s l + (0 + tile m c b s l 0 + tile m c b s l 1 + tile m c b s l 2 + tile m c b s l 3) := by
  have e0 := after0 m c (4 * q) (by omega) (by omega) r b s (by omega)
  have e1 := after_mid m c (4 * q) (by omega) 1 (by show _ = 1; omega) (by decide) (by decide) r b s _ e0
  have e2 := after_mid m c (4 * q + 1) (by omega) 2 (by show _ = 2; omega) (by decide) (by decide) r b s _ e1
  exact after_last m c (4 * q + 2) hq (by omega) r b s _ e2 l

/-- The four tiles are the whole sum over the hidden units. -/
theorem tiles (c : Dev nD) (b : Fin 2) (s : Fin 16384) (l : Fin 1024) :
    0 + tile m c b s l 0 + tile m c b s l 1 + tile m c b s l 2 + tile m c b s l 3 = ∑ k : Fin 4096, term m c b s l k := by
  rw [zero_add]
  have e := (Fin.sum_univ_four fun j => tile m c b s l j).symm
  rw [e]
  have h := Fin.sum_univ_univ_mul_add 4 1024 fun n => if hn : n < 4096 then term m c b s l ⟨n, hn⟩ else 0
  refine Eq.trans (Finset.sum_congr rfl fun j _ => Finset.sum_congr rfl fun k _ => ?_) (h.trans (Finset.sum_congr rfl fun k _ => ?_))
  · rw [dif_pos (show j.val * 1024 + k.val < 4096 by omega)]
  · exact dif_pos k.isLt

/-- The kernel's result at a row and a column. -/
theorem result_at (c : Dev nD) (R : Fin 32768) (l : Fin 1024) (b : Fin 2) (s : Fin 16384) (h : b.val * 16384 + s.val = R.val) :
    G9 m c (ix2 R l)
      = resid m c b s l + ∑ j : Fin 4096, term m c b s l j := by
  have hN : cfg0.N = 128 := N_0
  have hp : pt9Of (ix2 R l) = 4 * (R.val / 1024) + 3 := by
    show 4 * (1 * (R.val / 1024 - 0) + 1 * (l.val / 1024 - 0)) + 3 = _
    omega
  have hb : 4 * (R.val / 1024) + 3 < cfg0.N := by omega
  have e : G9 m c (ix2 R l) = (outsAt0 m c (4 * (R.val / 1024) + 3) hb).1 (ix2 ⟨R.val % 1024, by omega⟩ l) := by
    unfold G9
    rw [dif_pos (by rw [hp]; exact hb), outsAt0_sweep]
    refine congr (congrArg Prod.fst (fold0_congr m c _ _ _ _ hp)) ?_
    funext a
    match a with
    | ⟨0, _⟩ => rfl
    | ⟨1, _⟩ => exact Fin.ext (Nat.mod_eq_of_lt l.isLt)
  rw [e]
  refine (row_at m c (R.val / 1024) hb ⟨R.val % 1024, by omega⟩ b s (by show _ = 1024 * (R.val / 1024) + R.val % 1024; omega) l).trans ?_
  exact congrArg₂ _ rfl (tiles m c b s l)

end Cert.Kernel3Ideal.Mlp
-- ==== Proof.Mlp3Reference.lean ====
module

public import proofs.«01_k».proof.Proof.Gen.Reference3Ideal.Run
public import proofs.«01_k».proof.Proof.Mlp3Blocks

@[expose] public section

set_option maxRecDepth 16384

noncomputable section

open Idealize.ShloMosaic Idealize.ShloMosaic.TcCoe Idealize.SL.Sem

namespace Cert.Reference3Ideal.Mlp

open Cert.Reference3Ideal Cert.Reference3Ideal.Gen Cert.Reference3Ideal.Value
open Cert.Kernel2Ideal.Mlp (rmsRow hiddenUnit)

/-- The residual stream after the output projection. -/
def refResid (h : FVec Ideal S2x16384x1024 .f32) (ya yb : FVec Ideal S2x16384x512 .f32) (w : FVec Ideal S1024x1024 .f32) :
    FVec Ideal S2x16384x1024 .f32 :=
  addf h (Host.dotGeneral dot_S2x16384x1024_S1024x1024_S2x16384x1024_2_0_01_1_n_n none
    (concatenate S2x16384x1024 2 [⟨S2x16384x512, ya⟩, ⟨S2x16384x512, yb⟩] concatenates_S2x16384x512_S2x16384x512_S2x16384x1024_d2) w)

/-- The root-mean-square normalisation, as the reference writes it. -/
def refNorm (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2
      (Host.rsqrt (addf (Host.divf (broadcastInDim S2x16384x1 ![0, 1] bcast_S2x16384_S2x16384x1_0_1
        (Host.reduceAdd (mulf x x) (constant S_ .f32 0x00000000#32) reducesTo_S2x16384x1024_S2x16384_d2 h_S_))
          (broadcastInDim S2x16384x1 ![] bcast_S_S2x16384x1 (constant S_ .f32 0x44800000#32)))
        (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- The rectified product with the first weight matrix. -/
def refUp (x : FVec Ideal S2x16384x1024 .f32) (w : FVec Ideal S1024x4096 .f32) : FVec Ideal S2x16384x4096 .f32 :=
  maximumf (Host.dotGeneral dot_S2x16384x1024_S1024x4096_S2x16384x4096_2_0_01_1_n_n none x w)
    (broadcastInDim S2x16384x4096 ![] bcast_S_S2x16384x4096 (constant S_ .f32 0x00000000#32))

/-- The stream after the feed-forward layer. -/
def refMlp (r : FVec Ideal S2x16384x1024 .f32) (g : FVec Ideal S1024 .f32) (w1 : FVec Ideal S1024x4096 .f32) (w2 : FVec Ideal S4096x1024 .f32) :
    FVec Ideal S2x16384x1024 .f32 :=
  addf r (Host.dotGeneral dot_S2x16384x4096_S4096x1024_S2x16384x1024_2_0_01_1_n_n none
    (mulf (refUp (refNorm r g) w1) (refUp (refNorm r g) w1)) w2)

def refOut (h : FVec Ideal S2x16384x1024 .f32) (ya yb : FVec Ideal S2x16384x512 .f32) (w : FVec Ideal S1024x1024 .f32)
    (g : FVec Ideal S1024 .f32) (w1 : FVec Ideal S1024x4096 .f32) (w2 : FVec Ideal S4096x1024 .f32) :
    FVec Ideal S32768x1024 .f32 :=
  shapeCast S32768x1024 (refMlp (refResid h ya yb w) g w1 w2) shapeCasts_S2x16384x1024_S32768x1024

set_option maxHeartbeats 2000000 in
theorem res_eq (m : (ℓ : Loc nD τ sig) → Buf (Elt Ideal) ℓ) (c : Dev nD) :
    res_out0 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

theorem refResid_at (h : FVec Ideal S2x16384x1024 .f32) (ya yb : FVec Ideal S2x16384x512 .f32) (w : FVec Ideal S1024x1024 .f32)
    (b : Fin 2) (s : Fin 16384) (l : Fin 1024) :
    refResid h ya yb w (ix3 b s l)
      = h (ix3 b s l) + ((∑ k : Fin 512, ya (ix3 b s k) * w (ix2 ⟨k.val, by omega⟩ l))
          + ∑ k : Fin 512, yb (ix3 b s k) * w (ix2 ⟨512 + k.val, by omega⟩ l)) := by
  pointwise [refResid]

theorem refNorm_at (x : FVec Ideal S2x16384x1024 .f32) (g : FVec Ideal S1024 .f32) (b : Fin 2) (s : Fin 16384) (l : Fin 1024) :
    refNorm x g (ix3 b s l) = rmsRow (fun k => x (ix3 b s k)) (fun k => g (ix1 k)) l := by
  pointwise [refNorm, rmsRow]

theorem refMlp_at (r : FVec Ideal S2x16384x1024 .f32) (g : FVec Ideal S1024 .f32) (w1 : FVec Ideal S1024x4096 .f32) (w2 : FVec Ideal S4096x1024 .f32)
    (b : Fin 2) (s : Fin 16384) (l : Fin 1024) :
    refMlp r g w1 w2 (ix3 b s l)
      = r (ix3 b s l) + ∑ k : Fin 4096, hiddenUnit (fun j => refNorm r g (ix3 b s j)) (fun j => w1 (ix2 j k)) * w2 (ix2 k l) := by
  pointwise [refMlp, refUp, hiddenUnit]

theorem refOut_at (h : FVec Ideal S2x16384x1024 .f32) (ya yb : FVec Ideal S2x16384x512 .f32) (w : FVec Ideal S1024x1024 .f32)
    (g : FVec Ideal S1024 .f32) (w1 : FVec Ideal S1024x4096 .f32) (w2 : FVec Ideal S4096x1024 .f32)
    (R : Fin 32768) (l : Fin 1024) :
    refOut h ya yb w g w1 w2 (ix2 R l)
      = refMlp (refResid h ya yb w) g w1 w2 (ix3 ⟨R.val / 16384, by omega⟩ ⟨R.val % 16384, by omega⟩ l) := by
  pointwise [refOut]

section
open Cert.Kernel3Ideal.Mlp (resid normed term result_at A0 A1 A2 A3 A4 A5 A6)

variable (m : (ℓ : Loc Cert.Kernel3Ideal.nD Cert.Kernel3Ideal.τ Cert.Kernel3Ideal.sig) → Buf (Elt Ideal) ℓ)
variable (c : Dev Cert.Kernel3Ideal.nD)

theorem resid_eq (b : Fin 2) (s : Fin 16384) (k : Fin 1024) :
    refResid (A0 m c) (A1 m c) (A2 m c) (A3 m c) (ix3 b s k) = resid m c b s k :=
  (refResid_at _ _ _ _ _ _ k).trans (add_assoc _ _ _).symm

theorem normed_eq (b : Fin 2) (s : Fin 16384) (k : Fin 1024) :
    refNorm (refResid (A0 m c) (A1 m c) (A2 m c) (A3 m c)) (A4 m c) (ix3 b s k) = normed m c b s k :=
  (refNorm_at _ _ b s k).trans (congrFun (congrArg₂ rmsRow (funext fun x => resid_eq m c b s x) rfl) k)

theorem mlp_eq (b : Fin 2) (s : Fin 16384) (k : Fin 1024) :
    refMlp (refResid (A0 m c) (A1 m c) (A2 m c) (A3 m c)) (A4 m c) (A5 m c) (A6 m c) (ix3 b s k)
      = resid m c b s k + ∑ j : Fin 4096, term m c b s k j := by
  refine (refMlp_at _ _ _ _ b s k).trans ?_
  refine congrArg₂ _ (resid_eq m c b s k) (Finset.sum_congr rfl fun i _ => ?_)
  unfold term
  exact congrArg₂ _ (congrArg₂ hiddenUnit (funext fun x => normed_eq m c b s x) rfl) rfl

theorem out_eq (R : Fin 32768) (l : Fin 1024) :
    refOut (A0 m c) (A1 m c) (A2 m c) (A3 m c) (A4 m c) (A5 m c) (A6 m c) (ix2 R l)
      = Cert.Kernel3Ideal.Value.G9 m c (ix2 R l) := by
  refine (refOut_at _ _ _ _ _ _ _ R l).trans ?_
  refine Eq.trans ?_ (result_at m c R l ⟨R.val / 16384, by omega⟩ ⟨R.val % 16384, by omega⟩
    (by show R.val / 16384 * 16384 + R.val % 16384 = _; omega)).symm
  exact mlp_eq m c _ _ l

/-- The kernel's result array is the reference's function of the arguments. -/
theorem kernel_eq : Cert.Kernel3Ideal.Value.G9 m c
      = refOut (A0 m c) (A1 m c) (A2 m c) (A3 m c) (A4 m c) (A5 m c) (A6 m c) :=
  funext fun j => by
    have e : j = ix2 (j 0 : Fin 32768) (j 1 : Fin 1024) := eq_ix2 j
    rw [e]
    exact (out_eq m c _ _).symm

end

end Cert.Reference3Ideal.Mlp
-- ==== Proof.Claims3.lean ====
module

public import proofs.«01_k».proof.Defs
public import proofs.«01_k».proof.Proof.Mlp3Reference
public import proofs.«01_k».proof.Proof.Gen.Kernel3.Frame
public import Idealize.ShloMosaic.Lib.Quiescent

@[expose] public section

set_option maxRecDepth 16384

noncomputable section

namespace Cert.Proof.Mlp3Claims

open Idealize.ShloMosaic Idealize.ShloMosaic.TcCoe Idealize.SL.Sem

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The call's result array, on the extended reals, is the reference's. -/
theorem algebraic : Cert.algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨(h c).1.trans ?_, (h c).2⟩)
    (Cert.Reference3Ideal.Value.run (F := Ideal) m' ρ')
  refine (Cert.Reference3Ideal.Mlp.res_eq m' c).trans (Eq.trans ?_ (Cert.Reference3Ideal.Mlp.kernel_eq m c).symm)
  obtain ⟨h0, h1, h2, h3, h4, h5, h6, h7⟩ := hagree c
  rw [h0, h1, h2, h3, h4, h5, h6]

end Cert.Proof.Mlp3Claims

end
-- ==== Proof.OddKernel.lean ====
module

public import proofs.«01_k».proof.Proof.Gen.Kernel4Ideal.Value
public import proofs.«01_k».proof.Proof.MlpKernel
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Odd

open Cert.Kernel4Ideal Cert.Kernel4Ideal.Gen Cert.Kernel4Ideal.Value
open Cert.Kernel2Ideal.Mlp (rmsRow)

variable (m : (ℓ : Loc nD τ sig) → Buf (Elt Ideal) ℓ)

/-! ## The payloads at an index -/

theorem pay1_at (x : FVec Ideal S512x1024 .f32) (g : FVec Ideal S1x1024 .f32) (r : Fin 512) (l : Fin 1024) :
    (k0_pay1 x g : FVec Ideal S512x1024 .bf16) (ix2 r l) = rmsRow (fun k => x (ix2 r k)) (fun k => g (ix2 0 k)) l := by
  unfold rmsRow
  pointwise [k0_pay1]

theorem pay2_at (x : FVec Ideal S512x1024 .f32) (g : FVec Ideal S1x1024 .f32) (w : FVec Ideal S512x1024 .bf16) (e r : Fin 512) :
    (k0_pay2 x g w : FVec Ideal S512x512 .f32) (ix2 e r)
      = ∑ k : Fin 1024, w (ix2 e k) * (k0_pay1 x g : FVec Ideal S512x1024 .bf16) (ix2 r k) := by
  pointwise [k0_pay2]

theorem pay8_at (v : FVec Ideal S512x1024 .bf16) (w : FVec Ideal S1024x128 .bf16) (r : Fin 512) (l : Fin 128) :
    (k0_pay8 v w : FVec Ideal S512x128 .bf16) (ix2 r l) = ∑ k : Fin 1024, v (ix2 r k) * w (ix2 k l) := by
  pointwise [k0_pay8]

theorem pay9_at (v : FVec Ideal S512x1024 .bf16) (w : FVec Ideal S128x1024 .bf16) (e : Fin 128) (r : Fin 512) :
    (k0_pay9 v w : FVec Ideal S128x512 .f32) (ix2 e r) = ∑ k : Fin 1024, w (ix2 e k) * v (ix2 r k) := by
  pointwise [k0_pay9]

theorem pay14_at (v : FVec Ideal S512x1024 .bf16) (w : FVec Ideal S1024x512 .bf16) (r l : Fin 512) :
    (k0_pay14 v w : FVec Ideal S512x512 .f32) (ix2 r l) = ∑ k : Fin 1024, v (ix2 r k) * w (ix2 k l) := by
  pointwise [k0_pay14]

/-- Every window's block index at a grid point. -/
theorem idx : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0, 0] ∧ win0_7.index t = ![t.val, 0]
    ∧ win0_8.index t = ![t.val, 0, 0] ∧ win0_9.index t = ![t.val, 0] ∧ win0_10.index t = ![t.val, 0] :=
  (by decide +kernel : ∀ t : Fin grid0.N, _)

abbrev A0 (c : Dev nD) : FVec Ideal S2x16384x1024 .f32 := m ((c : Thread nD τ).loc main_arg0)
abbrev A1 (c : Dev nD) : FVec Ideal S1024 .f32 := m ((c : Thread nD τ).loc main_arg1)
abbrev A2 (c : Dev nD) : FVec Ideal S1024x1280 .f32 := m ((c : Thread nD τ).loc main_arg2)

/-- The factor on the query weights: one eighth over the logarithm of two. -/
def qscale : EReal := Ideal.ofBits .f32 0x3E000000#32 * Ideal.div 1 (Ideal.log (Ideal.ofBits .f32 0x40000000#32))

theorem blk0 (c : Dev nD) (t : Fin cfg0.N) (r : Fin 512) (l : Fin 1024) (b : Fin 2) (s : Fin 16384)
    (h : b.val * 16384 + s.val = 512 * t.val + r.val) :
    iblk m c 0 t (ix2 r l) = A0 m c (ix3 b s l) := by
  blk_simp [iblk]
  entry_read
  pointwise
  blk_ext [idx t]

theorem blk1 (c : Dev nD) (t : Fin cfg0.N) (l : Fin 1024) : iblk m c 1 t (ix2 0 l) = A1 m c (ix1 l) := by
  blk_simp [iblk]
  entry_read
  pointwise
  blk_ext [idx t]

theorem blk2 (c : Dev nD) (t : Fin cfg0.N) (e : Fin 512) (k : Fin 1024) :
    iblk m c 2 t (ix2 e k) = A2 m c (ix2 k ⟨e.val, by omega⟩) * qscale := by
  unfold qscale
  blk_simp [iblk]
  entry_read
  pointwise
  refine congrArg₂ _ ?_ rfl
  blk_ext [idx t]

theorem blk3 (c : Dev nD) (t : Fin cfg0.N) (k : Fin 1024) (l : Fin 128) :
    iblk m c 3 t (ix2 k l) = A2 m c (ix2 k ⟨512 + l.val, by omega⟩) := by
  blk_simp [iblk]
  entry_read
  pointwise
  blk_ext [idx t]

theorem blk4 (c : Dev nD) (t : Fin cfg0.N) (e : Fin 128) (k : Fin 1024) :
    iblk m c 4 t (ix2 e k) = A2 m c (ix2 k ⟨640 + e.val, by omega⟩) := by
  blk_simp [iblk]
  entry_read
  pointwise
  blk_ext [idx t]

theorem blk5 (c : Dev nD) (t : Fin cfg0.N) (k : Fin 1024) (l : Fin 512) :
    iblk m c 5 t (ix2 k l) = A2 m c (ix2 k ⟨768 + l.val, by omega⟩) := by
  blk_simp [iblk]
  entry_read
  pointwise
  blk_ext [idx t]

/-! ## What a grid point leaves in each output, through the payloads' tiles -/

/-- The projection of a token on a channel. -/
def proj (x : FVec Ideal S2x16384x1024 .f32) (g : FVec Ideal S1024 .f32) (w : FVec Ideal S1024x1280 .f32) (R : Fin 32768) (l : Fin 1280) : EReal :=
  ∑ k : Fin 1024, rmsRow (fun j => x (ix3 ⟨R.val / 16384, by omega⟩ ⟨R.val % 16384, by omega⟩ j)) (fun j => g (ix1 j)) k * w (ix2 k l)

theorem norm_at (c : Dev nD) (t : Fin cfg0.N) (r : Fin 512) (l : Fin 1024) (R : Fin 32768) (h : R.val = 512 * t.val + r.val) :
    (k0_pay1 (iblk m c 0 t) (iblk m c 1 t) : FVec Ideal S512x1024 .bf16) (ix2 r l)
      = rmsRow (fun j => A0 m c (ix3 ⟨R.val / 16384, by omega⟩ ⟨R.val % 16384, by omega⟩ j)) (fun j => A1 m c (ix1 j)) l := by
  refine (pay1_at _ _ r l).trans ?_
  exact congrFun (congrArg₂ rmsRow (funext fun k => blk0 m c t r k _ _ (by show R.val / 16384 * 16384 + R.val % 16384 = _; omega)) (funext fun k => blk1 m c t k)) l

theorem k_at (c : Dev nD) (t : Fin cfg0.N) (r : Fin 512) (l : Fin 128) (R : Fin 32768) (h : R.val = 512 * t.val + r.val) :
    (k0_pay8 (k0_pay1 (iblk m c 0 t) (iblk m c 1 t)) (iblk m c 3 t) : FVec Ideal S512x128 .bf16) (ix2 r l)
      = proj (A0 m c) (A1 m c) (A2 m c) R ⟨512 + l.val, by omega⟩ := by
  refine (pay8_at _ _ r l).trans (Finset.sum_congr rfl fun k _ => ?_)
  exact congrArg₂ _ (norm_at m c t r k R h) (blk3 m c t k l)

theorem s_at (c : Dev nD) (t : Fin cfg0.N) (r l : Fin 512) (R : Fin 32768) (h : R.val = 512 * t.val + r.val) :
    (k0_pay14 (k0_pay1 (iblk m c 0 t) (iblk m c 1 t)) (iblk m c 5 t) : FVec Ideal S512x512 .f32) (ix2 r l)
      = proj (A0 m c) (A1 m c) (A2 m c) R ⟨768 + l.val, by omega⟩ := by
  refine (pay14_at _ _ r l).trans (Finset.sum_congr rfl fun k _ => ?_)
  exact congrArg₂ _ (norm_at m c t r k R h) (blk5 m c t k l)

theorem v_at (c : Dev nD) (t : Fin cfg0.N) (e : Fin 128) (r : Fin 512) (R : Fin 32768) (h : R.val = 512 * t.val + r.val) :
    (k0_pay9 (k0_pay1 (iblk m c 0 t) (iblk m c 1 t)) (iblk m c 4 t) : FVec Ideal S128x512 .f32) (ix2 e r)
      = proj (A0 m c) (A1 m c) (A2 m c) R ⟨640 + e.val, by omega⟩ := by
  refine (pay9_at _ _ e r).trans (Finset.sum_congr rfl fun k _ => ?_)
  exact (mul_comm _ _).trans (congrArg₂ _ (norm_at m c t r k R h) (blk4 m c t e k))

theorem q_at (c : Dev nD) (t : Fin cfg0.N) (e r : Fin 512) (R : Fin 32768) (h : R.val = 512 * t.val + r.val) :
    (k0_pay2 (iblk m c 0 t) (iblk m c 1 t) (iblk m c 2 t) : FVec Ideal S512x512 .f32) (ix2 e r)
      = ∑ k : Fin 1024, rmsRow (fun j => A0 m c (ix3 ⟨R.val / 16384, by omega⟩ ⟨R.val % 16384, by omega⟩ j)) (fun j => A1 m c (ix1 j)) k
          * A2 m c (ix2 k ⟨e.val, by omega⟩) * qscale := by
  refine (pay2_at _ _ _ e r).trans (Finset.sum_congr rfl fun k _ => ?_)
  refine (mul_comm _ _).trans ((congrArg₂ _ (norm_at m c t r k R h) (blk2 m c t e k)).trans (mul_assoc _ _ _).symm)

/-! ## The outputs -/

theorem pay3_at (x : FVec Ideal S512x1024 .f32) (g : FVec Ideal S1x1024 .f32) (w : FVec Ideal S512x1024 .bf16) (z : Fin 1) (e : Fin 512) (q : Fin 128) :
    (k0_pay3 x g w : FVec Ideal S1x512x128 .bf16) (ix3 z e q) = (k0_pay2 x g w : FVec Ideal S512x512 .f32) (ix2 e ⟨128 * 0 + q.val, by omega⟩) := by
  pointwise [k0_pay3]

theorem pay4_at (x : FVec Ideal S512x1024 .f32) (g : FVec Ideal S1x1024 .f32) (w : FVec Ideal S512x1024 .bf16) (z : Fin 1) (e : Fin 512) (q : Fin 128) :
    (k0_pay4 x g w : FVec Ideal S1x512x128 .bf16) (ix3 z e q) = (k0_pay2 x g w : FVec Ideal S512x512 .f32) (ix2 e ⟨128 * 1 + q.val, by omega⟩) := by
  pointwise [k0_pay4]

theorem pay5_at (x : FVec Ideal S512x1024 .f32) (g : FVec Ideal S1x1024 .f32) (w : FVec Ideal S512x1024 .bf16) (z : Fin 1) (e : Fin 512) (q : Fin 128) :
    (k0_pay5 x g w : FVec Ideal S1x512x128 .bf16) (ix3 z e q) = (k0_pay2 x g w : FVec Ideal S512x512 .f32) (ix2 e ⟨128 * 2 + q.val, by omega⟩) := by
  pointwise [k0_pay5]

theorem pay7_at (x : FVec Ideal S512x1024 .f32) (g : FVec Ideal S1x1024 .f32) (w : FVec Ideal S512x1024 .bf16) (z : Fin 1) (e : Fin 512) (q : Fin 128) :
    (k0_pay7 (k0_pay6 x g w) : FVec Ideal S1x512x128 .bf16) (ix3 z e q) = (k0_pay2 x g w : FVec Ideal S512x512 .f32) (ix2 e ⟨128 * 3 + q.val, by omega⟩) := by
  pointwise [k0_pay7, k0_pay6]

theorem pay10_at (v : FVec Ideal S512x1024 .bf16) (w : FVec Ideal S128x1024 .bf16) (z : Fin 1) (e q : Fin 128) :
    (k0_pay10 v w : FVec Ideal S1x128x128 .bf16) (ix3 z e q) = (k0_pay9 v w : FVec Ideal S128x512 .f32) (ix2 e ⟨128 * 0 + q.val, by omega⟩) := by
  pointwise [k0_pay10]

theorem pay11_at (v : FVec Ideal S512x1024 .bf16) (w : FVec Ideal S128x1024 .bf16) (z : Fin 1) (e q : Fin 128) :
    (k0_pay11 v w : FVec Ideal S1x128x128 .bf16) (ix3 z e q) = (k0_pay9 v w : FVec Ideal S128x512 .f32) (ix2 e ⟨128 * 1 + q.val, by omega⟩) := by
  pointwise [k0_pay11]

theorem pay12_at (v : FVec Ideal S512x1024 .bf16) (w : FVec Ideal S128x1024 .bf16) (z : Fin 1) (e q : Fin 128) :
    (k0_pay12 v w : FVec Ideal S1x128x128 .bf16) (ix3 z e q) = (k0_pay9 v w : FVec Ideal S128x512 .f32) (ix2 e ⟨128 * 2 + q.val, by omega⟩) := by
  pointwise [k0_pay12]

theorem pay13_at (v : FVec Ideal S512x1024 .bf16) (w : FVec Ideal S128x1024 .bf16) (z : Fin 1) (e q : Fin 128) :
    (k0_pay13 v w : FVec Ideal S1x128x128 .bf16) (ix3 z e q) = (k0_pay9 v w : FVec Ideal S128x512 .f32) (ix2 e ⟨128 * 3 + q.val, by omega⟩) := by
  pointwise [k0_pay13]

def qAt (x : FVec Ideal S2x16384x1024 .f32) (g : FVec Ideal S1024 .f32) (w : FVec Ideal S1024x1280 .f32) (R : Fin 32768) (e : Fin 512) : EReal :=
  ∑ k : Fin 1024, rmsRow (fun j => x (ix3 ⟨R.val / 16384, by omega⟩ ⟨R.val % 16384, by omega⟩ j)) (fun j => g (ix1 j)) k
    * w (ix2 k ⟨e.val, by omega⟩) * qscale

/-- The queries, transposed within blocks of 128 tokens. -/
def qArr (x : FVec Ideal S2x16384x1024 .f32) (g : FVec Ideal S1024 .f32) (w : FVec Ideal S1024x1280 .f32) : FVec Ideal S256x512x128 .bf16 := fun i =>
  qAt x g w ⟨128 * (i 0).val + (i 2).val, by have h0 : (i 0).val < 256 := (i 0).isLt; have h2 : (i 2).val < 128 := (i 2).isLt; omega⟩ (i 1)

def kArr (x : FVec Ideal S2x16384x1024 .f32) (g : FVec Ideal S1024 .f32) (w : FVec Ideal S1024x1280 .f32) : FVec Ideal S32768x128 .bf16 := fun i =>
  proj x g w (i 0) ⟨512 + (i 1).val, by have h : (i 1).val < 128 := (i 1).isLt; omega⟩

/-- The values, transposed within blocks of 128 tokens. -/
def vArr (x : FVec Ideal S2x16384x1024 .f32) (g : FVec Ideal S1024 .f32) (w : FVec Ideal S1024x1280 .f32) : FVec Ideal S256x128x128 .bf16 := fun i =>
  proj x g w ⟨128 * (i 0).val + (i 2).val, by have h0 : (i 0).val < 256 := (i 0).isLt; have h2 : (i 2).val < 128 := (i 2).isLt; omega⟩
    ⟨640 + (i 1).val, by have h : (i 1).val < 128 := (i 1).isLt; omega⟩

def sArr (x : FVec Ideal S2x16384x1024 .f32) (g : FVec Ideal S1024 .f32) (w : FVec Ideal S1024x1280 .f32) : FVec Ideal S32768x512 .f32 := fun i =>
  proj x g w (i 0) ⟨768 + (i 1).val, by have h : (i 1).val < 512 := (i 1).isLt; omega⟩

/-- The state-space channels in chunks of 32 tokens. -/
def cArr (x : FVec Ideal S2x16384x1024 .f32) (g : FVec Ideal S1024 .f32) (w : FVec Ideal S1024x1280 .f32) : FVec Ideal S1024x16384 .bf16 := fun i =>
  proj x g w ⟨32 * (i 0).val + (i 1).val / 128 % 32, by have h : (i 0).val < 1024 := (i 0).isLt; omega⟩
    ⟨768 + ((i 1).val / 4096 * 128 + (i 1).val % 128), by have h : (i 1).val < 16384 := (i 1).isLt; omega⟩

theorem q_piece (c : Dev nD) (t : Fin cfg0.N) (J : Nat) (hJ : J < 4) (P : FVec Ideal S1x512x128 .bf16)
    (hP : ∀ (z : Fin 1) (e : Fin 512) (q : Fin 128), P (ix3 z e q)
      = (k0_pay2 (iblk m c 0 t) (iblk m c 1 t) (iblk m c 2 t) : FVec Ideal S512x512 .f32) (ix2 e ⟨128 * J + q.val, by omega⟩))
    (y : S4x512x128.Idx) (x : S1x512x128.Idx) (i : S256x512x128.Idx) (g0 : (i 0 : ℕ) = 4 * t.val + y 0) (g1 : (i 1 : ℕ) = y 1) (g2 : (i 2 : ℕ) = y 2)
    (h0 : (y 0 : ℕ) = J + x 0) (h1 : (y 1 : ℕ) = x 1) (h2 : (y 2 : ℕ) = x 2) :
    P x = qArr (A0 m c) (A1 m c) (A2 m c) i := by
  have e : x = ix3 (x 0 : Fin 1) (x 1 : Fin 512) (x 2 : Fin 128) := eq_ix3 x
  have hx : (x 0).val < 1 := (x 0).isLt
  have e1 : (x 1 : Fin 512) = i 1 := Fin.ext ((h1.symm.trans g1.symm))
  have hi : (i 0).val < 256 := (i 0).isLt
  have hi2 : (i 2).val < 128 := (i 2).isLt
  rw [e]
  refine (hP _ _ _).trans ((q_at m c t _ _ ⟨128 * (i 0).val + (i 2).val, by omega⟩ ?_).trans ?_)
  · show 128 * (i 0).val + (i 2).val = 512 * t.val + (128 * J + (x 2).val)
    omega
  · unfold qArr qAt
    rw [e1]

theorem v_piece (c : Dev nD) (t : Fin cfg0.N) (J : Nat) (hJ : J < 4) (P : FVec Ideal S1x128x128 .bf16)
    (hP : ∀ (z : Fin 1) (e q : Fin 128), P (ix3 z e q)
      = (k0_pay9 (k0_pay1 (iblk m c 0 t) (iblk m c 1 t)) (iblk m c 4 t) : FVec Ideal S128x512 .f32) (ix2 e ⟨128 * J + q.val, by omega⟩))
    (y : S4x128x128.Idx) (x : S1x128x128.Idx) (i : S256x128x128.Idx) (g0 : (i 0 : ℕ) = 4 * t.val + y 0) (g1 : (i 1 : ℕ) = y 1) (g2 : (i 2 : ℕ) = y 2)
    (h0 : (y 0 : ℕ) = J + x 0) (h1 : (y 1 : ℕ) = x 1) (h2 : (y 2 : ℕ) = x 2) :
    P x = vArr (A0 m c) (A1 m c) (A2 m c) i := by
  have e : x = ix3 (x 0 : Fin 1) (x 1 : Fin 128) (x 2 : Fin 128) := eq_ix3 x
  have hx : (x 0).val < 1 := (x 0).isLt
  have e1 : (x 1 : Fin 128) = i 1 := Fin.ext ((h1.symm.trans g1.symm))
  have hi : (i 0).val < 256 := (i 0).isLt
  have hi2 : (i 2).val < 128 := (i 2).isLt
  rw [e]
  refine (hP _ _ _).trans ((v_at m c t _ _ ⟨128 * (i 0).val + (i 2).val, by omega⟩ ?_).trans ?_)
  · show 128 * (i 0).val + (i 2).val = 512 * t.val + (128 * J + (x 2).val)
    omega
  · unfold vArr
    rw [e1]

theorem point6 (c : Dev nD) (t : Fin cfg0.N) (y : S4x512x128.Idx) (i : S256x512x128.Idx) (g0 : (i 0 : ℕ) = 4 * t.val + y 0) (g1 : (i 1 : ℕ) = y 1) (g2 : (i 2 : ℕ) = y 2) :
    (outsAt0 m c t).1 y = qArr (A0 m c) (A1 m c) (A2 m c) i := by
  unfold outsAt0
  frame_out
  canon_tiles x h
  case piece0 => exact q_piece m c t 3 (by decide) _ (fun z e q => pay7_at _ _ _ z e q) y x i g0 g1 g2 h0 h1 h2
  case piece1 => exact q_piece m c t 2 (by decide) _ (fun z e q => pay5_at _ _ _ z e q) y x i g0 g1 g2 h0 h1 h2
  case piece2 => exact q_piece m c t 1 (by decide) _ (fun z e q => pay4_at _ _ _ z e q) y x i g0 g1 g2 h0 h1 h2
  case piece3 => exact q_piece m c t 0 (by decide) _ (fun z e q => pay3_at _ _ _ z e q) y x i g0 g1 g2 (by omega) h1 h2

theorem point8 (c : Dev nD) (t : Fin cfg0.N) (y : S4x128x128.Idx) (i : S256x128x128.Idx) (g0 : (i 0 : ℕ) = 4 * t.val + y 0) (g1 : (i 1 : ℕ) = y 1) (g2 : (i 2 : ℕ) = y 2) :
    (outsAt0 m c t).2.2.1 y = vArr (A0 m c) (A1 m c) (A2 m c) i := by
  unfold outsAt0
  frame_out
  canon_tiles x h
  case piece0 => exact v_piece m c t 3 (by decide) _ (fun z e q => pay13_at _ _ z e q) y x i g0 g1 g2 h0 h1 h2
  case piece1 => exact v_piece m c t 2 (by decide) _ (fun z e q => pay12_at _ _ z e q) y x i g0 g1 g2 h0 h1 h2
  case piece2 => exact v_piece m c t 1 (by decide) _ (fun z e q => pay11_at _ _ z e q) y x i g0 g1 g2 h0 h1 h2
  case piece3 => exact v_piece m c t 0 (by decide) _ (fun z e q => pay10_at _ _ z e q) y x i g0 g1 g2 (by omega) h1 h2

theorem point7 (c : Dev nD) (t : Fin cfg0.N) (y : S512x128.Idx) (i : S32768x128.Idx) (g0 : (i 0 : ℕ) = 512 * t.val + y 0) (g1 : (i 1 : ℕ) = y 1) :
    (outsAt0 m c t).2.1 y = kArr (A0 m c) (A1 m c) (A2 m c) i := by
  have h : (outsAt0 m c t).2.1 = k0_pay8 (k0_pay1 (iblk m c 0 t) (iblk m c 1 t)) (iblk m c 3 t) := by
    unfold outsAt0
    frame_out
    try simp only [read_unread_whole]
  have e : y = ix2 (y 0 : Fin 512) (y 1 : Fin 128) := eq_ix2 y
  have e1 : (y 1 : Fin 128) = i 1 := Fin.ext g1.symm
  rw [h, e]
  refine (k_at m c t _ _ (i 0) g0).trans ?_
  unfold kArr
  rw [e1]

theorem point9 (c : Dev nD) (t : Fin cfg0.N) (y : S512x512.Idx) (i : S32768x512.Idx) (g0 : (i 0 : ℕ) = 512 * t.val + y 0) (g1 : (i 1 : ℕ) = y 1) :
    (outsAt0 m c t).2.2.2.1 y = sArr (A0 m c) (A1 m c) (A2 m c) i := by
  have h : (outsAt0 m c t).2.2.2.1 = k0_pay14 (k0_pay1 (iblk m c 0 t) (iblk m c 1 t)) (iblk m c 5 t) := by
    unfold outsAt0
    frame_out
    try simp only [read_unread_whole]
  have e : y = ix2 (y 0 : Fin 512) (y 1 : Fin 512) := eq_ix2 y
  have e1 : (y 1 : Fin 512) = i 1 := Fin.ext g1.symm
  rw [h, e]
  refine (s_at m c t _ _ (i 0) g0).trans ?_
  unfold sArr
  rw [e1]

theorem final6 (c : Dev nD) : (dats m 0 c).arrAt 6 (cfgs 0).N = qArr (A0 m c) (A1 m c) (A2 m c) := by
  refine (dats m 0 c).arrAt_eq_of_covers 6 _ (by decide +kernel) fun t hf y => ?_
  blk_simp
  rw [after0_6]
  refine point6 m c t y _ ?_ ?_ ?_
  all_goals (blk_simp [idx t] <;> try omega)

theorem final7 (c : Dev nD) : (dats m 0 c).arrAt 7 (cfgs 0).N = kArr (A0 m c) (A1 m c) (A2 m c) := by
  refine (dats m 0 c).arrAt_eq_of_covers 7 _ (by decide +kernel) fun t hf y => ?_
  blk_simp
  rw [after0_7]
  refine point7 m c t y _ ?_ ?_
  all_goals (blk_simp [idx t] <;> try omega)

theorem final8 (c : Dev nD) : (dats m 0 c).arrAt 8 (cfgs 0).N = vArr (A0 m c) (A1 m c) (A2 m c) := by
  refine (dats m 0 c).arrAt_eq_of_covers 8 _ (by decide +kernel) fun t hf y => ?_
  blk_simp
  rw [after0_8]
  refine point8 m c t y _ ?_ ?_ ?_
  all_goals (blk_simp [idx t] <;> try omega)

theorem final9 (c : Dev nD) : (dats m 0 c).arrAt 9 (cfgs 0).N = sArr (A0 m c) (A1 m c) (A2 m c) := by
  refine (dats m 0 c).arrAt_eq_of_covers 9 _ (by decide +kernel) fun t hf y => ?_
  blk_simp
  rw [after0_9]
  refine point9 m c t y _ ?_ ?_
  all_goals (blk_simp [idx t] <;> try omega)

end Cert.Kernel4Ideal.Odd
-- ==== Proof.ProjMath.lean ====
module

public import proofs.«01_k».proof.Proof.SwaMath

@[expose] public section

noncomputable section

open Idealize.ShloMosaic

namespace Cert.Proj

open Cert.KernelIdeal.Swa (bits_eighth bits_two)

theorem sum_mul_real {n : Nat} {c : ℝ} (hc : 0 ≤ c) (f : Fin n → EReal) : (∑ j, f j) * (c : EReal) = ∑ j, f j * (c : EReal) := by
  have hc' : (0 : EReal) ≤ (c : EReal) := EReal.coe_nonneg.2 hc
  induction (Finset.univ : Finset (Fin n)) using Finset.induction_on with
  | empty => simp
  | insert x s hx ih =>
    rw [Finset.sum_insert hx, Finset.sum_insert hx, EReal.right_distrib_of_nonneg_of_ne_top hc' (EReal.coe_ne_top c), ih]

/-- A sum scaled by one eighth and divided by the logarithm of two is the sum of the terms so scaled. -/
theorem scaled_sum {n : Nat} (f : Fin n → EReal) :
    Ideal.div ((∑ k, f k) * Ideal.ofBits .f32 0x3E000000#32) (Ideal.log (Ideal.ofBits .f32 0x40000000#32))
      = ∑ k, f k * (Ideal.ofBits .f32 0x3E000000#32 * Ideal.div 1 (Ideal.log (Ideal.ofBits .f32 0x40000000#32))) := by
  have hl : (0 : ℝ) < Real.log 2 := Real.log_pos (by norm_num)
  rw [bits_two, bits_eighth, Ideal.log_coe, if_neg (by norm_num), Ideal.div_coe hl.ne', Ideal.div_coe hl.ne', one_mul, mul_assoc, ← EReal.coe_mul]
  exact sum_mul_real (mul_nonneg (by norm_num) (one_div_nonneg.2 hl.le)) f

end Cert.Proj
-- ==== Proof.OddReference.lean ====
module

public import proofs.«01_k».proof.Proof.Gen.Reference4Ideal.Run
public import proofs.«01_k».proof.Proof.OddKernel
public import proofs.«01_k».proof.Proof.ProjMath

@[expose] public section

set_option maxRecDepth 16384

noncomputable section

open Idealize.ShloMosaic Idealize.ShloMosaic.TcCoe Idealize.SL.Sem

namespace Cert.Reference4Ideal.Odd

open Cert.Reference4Ideal Cert.Reference4Ideal.Gen Cert.Reference4Ideal.Value
open Cert.Kernel2Ideal.Mlp (rmsRow)
open Cert.Kernel4Ideal.Odd (proj qscale qAt qArr kArr vArr sArr cArr)

/-- The root-mean-square normalisation, as the reference writes it. -/
def refNorm (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2
      (Host.rsqrt (addf (Host.divf (broadcastInDim S2x16384x1 ![0, 1] bcast_S2x16384_S2x16384x1_0_1
        (Host.reduceAdd (mulf x x) (constant S_ .f32 0x00000000#32) reducesTo_S2x16384x1024_S2x16384_d2 h_S_))
          (broadcastInDim S2x16384x1 ![] bcast_S_S2x16384x1 (constant S_ .f32 0x44800000#32)))
        (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- The projection of every token. -/
def refProj (x : FVec Ideal S2x16384x1024 .f32) (g : FVec Ideal S1024 .f32) (w : FVec Ideal S1024x1280 .f32) : FVec Ideal S32768x1280 .f32 :=
  shapeCast S32768x1280 (Host.dotGeneral dot_S2x16384x1024_S1024x1280_S2x16384x1280_2_0_01_1_n_n none (refNorm x g) w) shapeCasts_S2x16384x1280_S32768x1280

def refQ (u : FVec Ideal S32768x1280 .f32) : FVec Ideal S256x512x128 .bf16 :=
  truncf .bf16 (transpose S256x512x128 [0, 2, 1] (shapeCast S256x128x512 (Host.divf (mulf (extractStridedSlice S32768x512 ![0, 0] u slices_S32768x1280_S32768x512_0_0) (broadcastInDim S32768x512 ![] bcast_S_S32768x512 (constant S_ .f32 0x3E000000#32))) (broadcastInDim S32768x512 ![] bcast_S_S32768x512 (Host.log (constant S_ .f32 0x40000000#32)))) shapeCasts_S32768x512_S256x128x512) transposes_S256x128x512_S256x512x128_0_2_1) bitsLt_bf16_f32

def refK (u : FVec Ideal S32768x1280 .f32) : FVec Ideal S32768x128 .bf16 :=
  truncf .bf16 (extractStridedSlice S32768x128 ![0, 512] u slices_S32768x1280_S32768x128_0_512) bitsLt_bf16_f32

def refV (u : FVec Ideal S32768x1280 .f32) : FVec Ideal S256x128x128 .bf16 :=
  truncf .bf16 (transpose S256x128x128 [0, 2, 1] (shapeCast S256x128x128 (extractStridedSlice S32768x128 ![0, 640] u slices_S32768x1280_S32768x128_0_640) shapeCasts_S32768x128_S256x128x128) transposes_S256x128x128_S256x128x128_0_2_1) bitsLt_bf16_f32

def refS (u : FVec Ideal S32768x1280 .f32) : FVec Ideal S32768x512 .f32 :=
  extractStridedSlice S32768x512 ![0, 768] u slices_S32768x1280_S32768x512_0_768

def refC (u : FVec Ideal S32768x1280 .f32) : FVec Ideal S1024x16384 .bf16 :=
  truncf .bf16 (shapeCast S1024x16384 (transpose S1024x4x32x128 [0, 2, 1, 3] (shapeCast S1024x32x4x128 (extractStridedSlice S32768x512 ![0, 768] u slices_S32768x1280_S32768x512_0_768) shapeCasts_S32768x512_S1024x32x4x128) transposes_S1024x32x4x128_S1024x4x32x128_0_2_1_3) shapeCasts_S1024x4x32x128_S1024x16384) bitsLt_bf16_f32

theorem refNorm_at (x : FVec Ideal S2x16384x1024 .f32) (g : FVec Ideal S1024 .f32) (b : Fin 2) (s : Fin 16384) (l : Fin 1024) :
    refNorm x g (ix3 b s l) = rmsRow (fun k => x (ix3 b s k)) (fun k => g (ix1 k)) l := by
  pointwise [refNorm, rmsRow]

theorem refProj_at (x : FVec Ideal S2x16384x1024 .f32) (g : FVec Ideal S1024 .f32) (w : FVec Ideal S1024x1280 .f32) (R : Fin 32768) (l : Fin 1280) :
    refProj x g w (ix2 R l) = proj x g w R l := by
  have h : refProj x g w (ix2 R l)
      = ∑ k : Fin 1024, refNorm x g (ix3 ⟨R.val / 16384, by omega⟩ ⟨R.val % 16384, by omega⟩ k) * w (ix2 k l) := by
    pointwise [refProj]
  refine h.trans ?_
  unfold proj
  exact Finset.sum_congr rfl fun k _ => congrArg (· * _) (refNorm_at _ _ _ _ _)

theorem refQ_at (u : FVec Ideal S32768x1280 .f32) (b : Fin 256) (e : Fin 512) (q : Fin 128) :
    refQ u (ix3 b e q) = Ideal.div (u (ix2 ⟨128 * b.val + q.val, by omega⟩ ⟨e.val, by omega⟩) * Ideal.ofBits .f32 0x3E000000#32)
      (Ideal.log (Ideal.ofBits .f32 0x40000000#32)) := by
  pointwise [refQ]
  simp only [Nat.mul_comm]

theorem refK_at (u : FVec Ideal S32768x1280 .f32) (R : Fin 32768) (l : Fin 128) :
    refK u (ix2 R l) = u (ix2 R ⟨512 + l.val, by omega⟩) := by
  pointwise [refK]

theorem refV_at (u : FVec Ideal S32768x1280 .f32) (b : Fin 256) (e q : Fin 128) :
    refV u (ix3 b e q) = u (ix2 ⟨128 * b.val + q.val, by omega⟩ ⟨640 + e.val, by omega⟩) := by
  pointwise [refV]
  simp only [Nat.mul_comm]

theorem refS_at (u : FVec Ideal S32768x1280 .f32) (R : Fin 32768) (l : Fin 512) :
    refS u (ix2 R l) = u (ix2 R ⟨768 + l.val, by omega⟩) := by
  pointwise [refS]

theorem refC_at (u : FVec Ideal S32768x1280 .f32) (r : Fin 1024) (l : Fin 16384) :
    refC u (ix2 r l) = u (ix2 ⟨32 * r.val + l.val / 128 % 32, by omega⟩ ⟨768 + (l.val / 4096 * 128 + l.val % 128), by omega⟩) := by
  pointwise [refC]
  simp only [Nat.mul_comm]

/-! ## The results -/

variable (x : FVec Ideal S2x16384x1024 .f32) (g : FVec Ideal S1024 .f32) (w : FVec Ideal S1024x1280 .f32)

theorem q_eq : refQ (refProj x g w) = qArr x g w :=
  funext fun j => by
    have e : j = ix3 (j 0 : Fin 256) (j 1 : Fin 512) (j 2 : Fin 128) := eq_ix3 j
    refine (congrArg (refQ (refProj x g w)) e).trans ((refQ_at _ _ _ _).trans ?_)
    rw [refProj_at]
    exact Cert.Proj.scaled_sum _

theorem k_eq : refK (refProj x g w) = kArr x g w :=
  funext fun j => by
    have e : j = ix2 (j 0 : Fin 32768) (j 1 : Fin 128) := eq_ix2 j
    exact (congrArg (refK (refProj x g w)) e).trans ((refK_at _ _ _).trans (refProj_at _ _ _ _ _))

theorem v_eq : refV (refProj x g w) = vArr x g w :=
  funext fun j => by
    have e : j = ix3 (j 0 : Fin 256) (j 1 : Fin 128) (j 2 : Fin 128) := eq_ix3 j
    exact (congrArg (refV (refProj x g w)) e).trans ((refV_at _ _ _ _).trans (refProj_at _ _ _ _ _))

theorem s_eq : refS (refProj x g w) = sArr x g w :=
  funext fun j => by
    have e : j = ix2 (j 0 : Fin 32768) (j 1 : Fin 512) := eq_ix2 j
    exact (congrArg (refS (refProj x g w)) e).trans ((refS_at _ _ _).trans (refProj_at _ _ _ _ _))

theorem c_eq : refC (refProj x g w) = cArr x g w :=
  funext fun j => by
    have e : j = ix2 (j 0 : Fin 1024) (j 1 : Fin 16384) := eq_ix2 j
    exact (congrArg (refC (refProj x g w)) e).trans ((refC_at _ _ _).trans (refProj_at _ _ _ _ _))

end Cert.Reference4Ideal.Odd
-- ==== Proof.OddChunks.lean ====
module

public import proofs.«01_k».proof.Proof.OddKernel

@[expose] public section

set_option maxRecDepth 16384

noncomputable section

open Idealize.ShloMosaic Idealize.ShloMosaic.TcCoe Idealize.SL.Sem
open Idealize.ShloMosaic.Pipeline (Dat)

namespace Cert.Kernel4Ideal.Odd

open Cert.Kernel4Ideal Cert.Kernel4Ideal.Gen Cert.Kernel4Ideal.Value
open Cert.Kernel2Ideal.Mlp (rmsRow)

variable (m : (ℓ : Loc nD τ sig) → Buf (Elt Ideal) ℓ)

theorem pay15_at (v : FVec Ideal S512x1024 .bf16) (w : FVec Ideal S1024x512 .bf16) (z : Fin 1) (r : Fin 512) (d : Fin 128) :
    (k0_pay15 v w : FVec Ideal S1x512x128 .f32) (ix3 z r d) = (k0_pay14 v w : FVec Ideal S512x512 .f32) (ix2 r ⟨128 * 0 + d.val, by omega⟩) := by
  pointwise [k0_pay15]

theorem pay16_at (v : FVec Ideal S512x1024 .bf16) (w : FVec Ideal S1024x512 .bf16) (z : Fin 1) (r : Fin 512) (d : Fin 128) :
    (k0_pay16 v w : FVec Ideal S1x512x128 .f32) (ix3 z r d) = (k0_pay14 v w : FVec Ideal S512x512 .f32) (ix2 r ⟨128 * 1 + d.val, by omega⟩) := by
  pointwise [k0_pay16]

theorem pay17_at (v : FVec Ideal S512x1024 .bf16) (w : FVec Ideal S1024x512 .bf16) (z : Fin 1) (r : Fin 512) (d : Fin 128) :
    (k0_pay17 v w : FVec Ideal S1x512x128 .f32) (ix3 z r d) = (k0_pay14 v w : FVec Ideal S512x512 .f32) (ix2 r ⟨128 * 2 + d.val, by omega⟩) := by
  pointwise [k0_pay17]

theorem pay18_at (v : FVec Ideal S512x1024 .bf16) (w : FVec Ideal S1024x512 .bf16) (z : Fin 1) (r : Fin 512) (d : Fin 128) :
    (k0_pay18 v w : FVec Ideal S1x512x128 .f32) (ix3 z r d) = (k0_pay14 v w : FVec Ideal S512x512 .f32) (ix2 r ⟨128 * 3 + d.val, by omega⟩) := by
  pointwise [k0_pay18]

theorem squeeze_at (v : FVec Ideal S1x16x128 .f32) (i : Fin 16) (d : Fin 128) :
    (truncf .bf16 (shapeCast S16x128 v shapeCasts_S1x16x128_S16x128) bitsLt_bf16_f32 : FVec Ideal S16x128 .bf16) (ix2 i d) = v (ix3 0 i d) := by
  pointwise

/-- Every 32nd row of a slab just stored, from row `J` on. -/
theorem strided_at (v : View sig .tc .vmem S4x512x128 .f32) (a J : Nat) (hJ : J < 32)
    (inb : ∀ k, (![a, 0, 0] : Fin 3 → Nat) k + (![1, 512, 128] : Fin 3 → Nat) k ≤ S4x512x128.size k)
    (P : FVec Ideal S1x512x128 .f32) (L : List (View.Piece (Elt Ideal) S4x512x128 .f32))
    (inbB) (i : Fin 16) (d : Fin 128) :
    v.readCov (⟨Rect.unit ![a, 0, 0] ![1, 512, 128] inb, P⟩ :: L)
        ({ off := ![a, J, 0], size := ![1, 16, 128], stride := ![1, 32, 1], inb := inbB } : LoadRect S4x512x128) (ix3 (0 : Fin 1) i d)
      = P (ix3 0 ⟨J + 32 * i.val, by omega⟩ d) := by
  rw [View.readCov_eq_canon']
  have e : ({ off := ![a, J, 0], size := ![1, 16, 128], stride := ![1, 32, 1], inb := inbB } : LoadRect S4x512x128).idx (ix3 (0 : Fin 1) i d)
      = (Rect.unit (s := S4x512x128) ![a, 0, 0] ![1, 512, 128] inb).emb (ix3 (0 : Fin 1) (⟨J + 32 * i.val, by omega⟩ : Fin 512) d) := by
    funext k
    refine Fin.ext ?_
    match k with
    | ⟨0, _⟩ => show a + 1 * 0 = a + 1 * 0; rfl
    | ⟨1, _⟩ => show J + 32 * i.val = 0 + 1 * (J + 32 * i.val); omega
    | ⟨2, _⟩ => show 0 + 1 * d.val = 0 + 1 * d.val; rfl
  show View.canon _ _ = _
  rw [e]
  exact View.canon_cons_emb _ _ _ _

theorem c_piece (c : Dev nD) (t : Fin cfg0.N) (v : View sig .tc .vmem S4x512x128 .f32) (a : Nat) (ha : a < 4) (J : Nat) (hJ : J < 32)
    (inb : ∀ k, (![a, 0, 0] : Fin 3 → Nat) k + (![1, 512, 128] : Fin 3 → Nat) k ≤ S4x512x128.size k)
    (P : FVec Ideal S1x512x128 .f32)
    (hP : ∀ (z : Fin 1) (r : Fin 512) (d : Fin 128), P (ix3 z r d)
      = (k0_pay14 (k0_pay1 (iblk m c 0 t) (iblk m c 1 t)) (iblk m c 5 t) : FVec Ideal S512x512 .f32) (ix2 r ⟨128 * a + d.val, by omega⟩))
    (L : List (View.Piece (Elt Ideal) S4x512x128 .f32)) (inbB)
    (y : S16x16384.Idx) (x : S16x128.Idx) (i : S1024x16384.Idx) (g0 : (i 0 : ℕ) = 16 * t.val + y 0) (g1 : (i 1 : ℕ) = y 1)
    (h0 : (y 0 : ℕ) = x 0) (h1 : (y 1 : ℕ) = 4096 * a + 128 * J + x 1) :
    (truncf .bf16 (shapeCast S16x128 (v.readCov (⟨Rect.unit ![a, 0, 0] ![1, 512, 128] inb, P⟩ :: L)
        ({ off := ![a, J, 0], size := ![1, 16, 128], stride := ![1, 32, 1], inb := inbB } : LoadRect S4x512x128) : FVec Ideal S1x16x128 .f32)
        shapeCasts_S1x16x128_S16x128) bitsLt_bf16_f32 : FVec Ideal S16x128 .bf16) x
      = cArr (A0 m c) (A1 m c) (A2 m c) i := by
  have e : x = ix2 (x 0 : Fin 16) (x 1 : Fin 128) := eq_ix2 x
  have hx0 : (x 0).val < 16 := (x 0).isLt
  have hx1 : (x 1).val < 128 := (x 1).isLt
  have hi0 : (i 0).val < 1024 := (i 0).isLt
  have hi1 : (i 1).val < 16384 := (i 1).isLt
  rw [e]
  refine (squeeze_at _ _ _).trans ((strided_at v a J hJ inb P L inbB _ _).trans ((hP _ _ _).trans
    ((s_at m c t _ _ ⟨32 * (i 0).val + (i 1).val / 128 % 32, by omega⟩ ?_).trans ?_)))
  · show 32 * (i 0).val + (i 1).val / 128 % 32 = 512 * t.val + (J + 32 * (x 0).val)
    omega
  · unfold cArr
    refine congrArg _ (Fin.ext ?_)
    show 768 + (128 * a + (x 1).val) = 768 + ((i 1).val / 4096 * 128 + (i 1).val % 128)
    omega

set_option maxHeartbeats 4000000 in
theorem point10 (c : Dev nD) (t : Fin cfg0.N) (y : S16x16384.Idx) (i : S1024x16384.Idx) (g0 : (i 0 : ℕ) = 16 * t.val + y 0) (g1 : (i 1 : ℕ) = y 1) :
    (outsAt0 m c t).2.2.2.2 y = cArr (A0 m c) (A1 m c) (A2 m c) i := by
  unfold outsAt0
  frame_open
  simp (disch := decide) only [↓ View.readCov_skip, ↓ View.readCov_cons_toLoadRect, ↓ View.readCov_fill]
  frame_out
  canon_tiles x h
  case piece0 | piece4 | piece8 | piece12 | piece16 | piece20 | piece24 | piece28 | piece32 | piece36 | piece40 | piece44 | piece48 | piece52 | piece56 | piece60 | piece64 | piece68 | piece72 | piece76 | piece80 | piece84 | piece88 | piece92 | piece96 | piece100 | piece104 | piece108 | piece112 | piece116 | piece120 | piece124 => exact c_piece m c t _ 3 (by decide) _ (by decide) _ _ (fun z r d => pay18_at _ _ z r d) _ _ y x i g0 g1 h0 (by omega)
  case piece1 | piece5 | piece9 | piece13 | piece17 | piece21 | piece25 | piece29 | piece33 | piece37 | piece41 | piece45 | piece49 | piece53 | piece57 | piece61 | piece65 | piece69 | piece73 | piece77 | piece81 | piece85 | piece89 | piece93 | piece97 | piece101 | piece105 | piece109 | piece113 | piece117 | piece121 | piece125 => exact c_piece m c t _ 2 (by decide) _ (by decide) _ _ (fun z r d => pay17_at _ _ z r d) _ _ y x i g0 g1 h0 (by omega)
  case piece2 | piece6 | piece10 | piece14 | piece18 | piece22 | piece26 | piece30 | piece34 | piece38 | piece42 | piece46 | piece50 | piece54 | piece58 | piece62 | piece66 | piece70 | piece74 | piece78 | piece82 | piece86 | piece90 | piece94 | piece98 | piece102 | piece106 | piece110 | piece114 | piece118 | piece122 | piece126 => exact c_piece m c t _ 1 (by decide) _ (by decide) _ _ (fun z r d => pay16_at _ _ z r d) _ _ y x i g0 g1 h0 (by omega)
  case piece3 | piece7 | piece11 | piece15 | piece19 | piece23 | piece27 | piece31 | piece35 | piece39 | piece43 | piece47 | piece51 | piece55 | piece59 | piece63 | piece67 | piece71 | piece75 | piece79 | piece83 | piece87 | piece91 | piece95 | piece99 | piece103 | piece107 | piece111 | piece115 | piece119 | piece123 | piece127 => exact c_piece m c t _ 0 (by decide) _ (by decide) _ _ (fun z r d => pay15_at _ _ z r d) _ _ y x i g0 g1 h0 (by omega)

theorem final10 (c : Dev nD) : (dats m 0 c).arrAt 10 (cfgs 0).N = cArr (A0 m c) (A1 m c) (A2 m c) := by
  refine (dats m 0 c).arrAt_eq_of_covers 10 _ (by decide +kernel) fun t hf y => ?_
  blk_simp
  rw [after0_10]
  refine point10 m c t y _ ?_ ?_
  all_goals (blk_simp [idx t] <;> try omega)

end Cert.Kernel4Ideal.Odd
-- ==== Proof.Claims4.lean ====
module

public import proofs.«01_k».proof.Defs
public import proofs.«01_k».proof.Proof.OddReference
public import proofs.«01_k».proof.Proof.OddChunks
public import proofs.«01_k».proof.Proof.Gen.Kernel4.Frame
public import Idealize.ShloMosaic.Lib.Quiescent

@[expose] public section

set_option maxRecDepth 16384

noncomputable section

namespace Cert.Proof.OddClaims

open Idealize.ShloMosaic Idealize.ShloMosaic.TcCoe Idealize.SL.Sem

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2.2.2.2.2, Idealize.ShloMosaic.sem_eq_zero_of_no_sems (by decide) r.2⟩)
    (Cert.Reference4Ideal.Value.run (F := Ideal) m ρ)

/-- The call's five results, on the extended reals, are the reference's. -/
theorem algebraic : Cert.algebraic_Kernel4Ideal_Reference4Ideal := by
  intro m ρ m' ρ' _ hagree
  refine ⟨_, _, _, _, _, Cert.Kernel4Ideal.Value.run_blocks (F := Ideal) m ρ, ?_⟩
  refine (θ_run Cert.Reference4Ideal.defs _ _).mono
    (fun _ h c => ⟨(h c).1.trans ?_, (h c).2.1.trans ?_, (h c).2.2.1.trans ?_, (h c).2.2.2.1.trans ?_, (h c).2.2.2.2.1.trans ?_, (h c).2.2.2.2.2⟩)
    (Cert.Reference4Ideal.Value.run (F := Ideal) m' ρ')
  all_goals obtain ⟨h0, h1, h2⟩ := hagree c
  · refine (Cert.Reference4Ideal.Odd.q_eq (m' ((c.tc : Thread _ _).loc Cert.Reference4Ideal.main_arg0)) (m' ((c.tc : Thread _ _).loc Cert.Reference4Ideal.main_arg1)) (m' ((c.tc : Thread _ _).loc Cert.Reference4Ideal.main_arg2))).trans (Eq.trans ?_ (Cert.Kernel4Ideal.Odd.final6 m c).symm)
    rw [h0, h1, h2]
  · refine (Cert.Reference4Ideal.Odd.k_eq (m' ((c.tc : Thread _ _).loc Cert.Reference4Ideal.main_arg0)) (m' ((c.tc : Thread _ _).loc Cert.Reference4Ideal.main_arg1)) (m' ((c.tc : Thread _ _).loc Cert.Reference4Ideal.main_arg2))).trans (Eq.trans ?_ (Cert.Kernel4Ideal.Odd.final7 m c).symm)
    rw [h0, h1, h2]
  · refine (Cert.Reference4Ideal.Odd.v_eq (m' ((c.tc : Thread _ _).loc Cert.Reference4Ideal.main_arg0)) (m' ((c.tc : Thread _ _).loc Cert.Reference4Ideal.main_arg1)) (m' ((c.tc : Thread _ _).loc Cert.Reference4Ideal.main_arg2))).trans (Eq.trans ?_ (Cert.Kernel4Ideal.Odd.final8 m c).symm)
    rw [h0, h1, h2]
  · refine (Cert.Reference4Ideal.Odd.s_eq (m' ((c.tc : Thread _ _).loc Cert.Reference4Ideal.main_arg0)) (m' ((c.tc : Thread _ _).loc Cert.Reference4Ideal.main_arg1)) (m' ((c.tc : Thread _ _).loc Cert.Reference4Ideal.main_arg2))).trans (Eq.trans ?_ (Cert.Kernel4Ideal.Odd.final9 m c).symm)
    rw [h0, h1, h2]
  · refine (Cert.Reference4Ideal.Odd.c_eq (m' ((c.tc : Thread _ _).loc Cert.Reference4Ideal.main_arg0)) (m' ((c.tc : Thread _ _).loc Cert.Reference4Ideal.main_arg1)) (m' ((c.tc : Thread _ _).loc Cert.Reference4Ideal.main_arg2))).trans (Eq.trans ?_ (Cert.Kernel4Ideal.Odd.final10 m c).symm)
    rw [h0, h1, h2]

end Cert.Proof.OddClaims

end
-- ==== Proof.EvenEntry.lean ====
module

public import proofs.«01_k».proof.Proof.Gen.Kernel5Ideal.Value
public import proofs.«01_k».proof.Proof.MlpKernel
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Even

open Cert.Kernel5Ideal Cert.Kernel5Ideal.Gen Cert.Kernel5Ideal.Value
open Cert.Kernel2Ideal.Mlp (rmsRow)

variable (m : (ℓ : Loc nD τ sig) → Buf (Elt Ideal) ℓ)

/-! ## The payloads at an index -/

theorem pay5_at (x : FVec Ideal S512x1024 .f32) (g : FVec Ideal S1x1024 .f32) (r : Fin 512) (l : Fin 1024) :
    (k0_pay5 x g : FVec Ideal S512x1024 .bf16) (ix2 r l) = rmsRow (fun k => x (ix2 r k)) (fun k => g (ix2 0 k)) l := by
  unfold rmsRow
  pointwise [k0_pay5]

theorem pay6_at (x : FVec Ideal S512x1024 .f32) (g : FVec Ideal S1x1024 .f32) (w : FVec Ideal S1024x1664 .bf16) (r : Fin 512) (l : Fin 1664) :
    (k0_pay6 x g w : FVec Ideal S512x1664 .f32) (ix2 r l)
      = ∑ k : Fin 1024, (k0_pay5 x g : FVec Ideal S512x1024 .bf16) (ix2 r k) * w (ix2 k l) := by
  pointwise [k0_pay6]

theorem pay7_at (x : FVec Ideal S512x1024 .f32) (g : FVec Ideal S1x1024 .f32) (w : FVec Ideal S512x1024 .bf16) (e r : Fin 512) :
    (k0_pay7 x g w : FVec Ideal S512x512 .f32) (ix2 e r)
      = ∑ k : Fin 1024, w (ix2 e k) * (k0_pay5 x g : FVec Ideal S512x1024 .bf16) (ix2 r k) := by
  pointwise [k0_pay7]

theorem pay13_at (v : FVec Ideal S512x1024 .bf16) (w : FVec Ideal S1024x256 .bf16) (r : Fin 512) (l : Fin 256) :
    (k0_pay13 v w : FVec Ideal S512x256 .f32) (ix2 r l) = ∑ k : Fin 1024, v (ix2 r k) * w (ix2 k l) := by
  pointwise [k0_pay13]

theorem pay112_at (v : FVec Ideal S512x1024 .bf16) (w : FVec Ideal S1024x256 .bf16) (b : FVec Ideal S512x256 .bf16) (r : Fin 512) (l : Fin 256) :
    (k0_pay112 v w b : FVec Ideal S512x256 .bf16) (ix2 r l) = (∑ k : Fin 1024, v (ix2 r k) * w (ix2 k l)) + b (ix2 r l) := by
  pointwise [k0_pay112]

theorem pay114_at (v : FVec Ideal S512x1024 .bf16) (w : FVec Ideal S1024x256 .bf16) (r : Fin 512) (l : Fin 256) :
    (k0_pay114 v (k0_pay113 w) (constant S512x256 .f32 0x00000000#32) : FVec Ideal S512x256 .bf16) (ix2 r l) = ∑ k : Fin 1024, v (ix2 r k) * w (ix2 k l) := by
  pointwise [k0_pay114, k0_pay113]

theorem pay115_at (v : FVec Ideal S512x1024 .bf16) (w : FVec Ideal S256x1024 .bf16) (e : Fin 256) (r : Fin 512) :
    (k0_pay115 v w : FVec Ideal S256x512 .f32) (ix2 e r) = ∑ k : Fin 1024, w (ix2 e k) * v (ix2 r k) := by
  pointwise [k0_pay115]

theorem pay120_at (v : FVec Ideal S512x1024 .bf16) (w : FVec Ideal S32x1024 .bf16) (e : Fin 32) (r : Fin 512) :
    (k0_pay120 v w : FVec Ideal S32x512 .f32) (ix2 e r) = ∑ k : Fin 1024, w (ix2 e k) * v (ix2 r k) := by
  pointwise [k0_pay120]

/-- Every window's block index at a grid point. -/
theorem idx : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val, 0] ∧ win0_11.index t = ![t.val, 0, 0]
    ∧ win0_12.index t = ![t.val, 0] ∧ win0_13.index t = ![t.val, 0] ∧ win0_14.index t = ![t.val, 0]
    ∧ win0_15.index t = ![t.val, 0, 0] ∧ win0_16.index t = ![t.val, 0, 0] :=
  (by decide +kernel : ∀ t : Fin grid0.N, _)

abbrev A0 (c : Dev nD) : FVec Ideal S2x16384x1024 .f32 := m ((c : Thread nD τ).loc main_arg0)
abbrev A1 (c : Dev nD) : FVec Ideal S1024 .f32 := m ((c : Thread nD τ).loc main_arg1)
abbrev A2 (c : Dev nD) : FVec Ideal S1024x2848 .f32 := m ((c : Thread nD τ).loc main_arg2)

/-- The factor on the query weights: one eighth over the logarithm of two. -/
def qscale : EReal := Ideal.ofBits .f32 0x3E000000#32 * Ideal.div 1 (Ideal.log (Ideal.ofBits .f32 0x40000000#32))

/-! ## The call's operands at an index -/

set_option maxHeartbeats 4000000 in
theorem entry0 (c : Dev nD) (R : Fin 32768) (l : Fin 1024) (b : Fin 2) (s : Fin 16384) (h : b.val * 16384 + s.val = R.val) :
    V m c main_v0 (ix2 R l) = A0 m c (ix3 b s l) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  pointwise
  exact congrArg _ (congrArg₂ (fun a b => ix3 a b l) (Fin.ext (by show R.val / 16384 = b.val; omega)) (Fin.ext (by show R.val % 16384 = s.val; omega)))

set_option maxHeartbeats 4000000 in
theorem entry53 (c : Dev nD) (l : Fin 1024) :
    V m c main_v53 (ix2 0 l) = A1 m c (ix1 l) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  pointwise

set_option maxHeartbeats 4000000 in
theorem entry45 (c : Dev nD) (e : Fin 512) (k : Fin 1024) :
    V m c main_v45 (ix2 e k) = A2 m c (ix2 k ⟨1544 + e.val, by omega⟩) * qscale := by
  unfold qscale
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  pointwise

set_option maxHeartbeats 4000000 in
theorem entry43 (c : Dev nD) (k : Fin 1024) (l : Fin 1664) :
    V m c main_v43 (ix2 k l) = if h : l.val < 1544 then A2 m c (ix2 k ⟨l.val, by omega⟩) else 0 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  pointwise

set_option maxHeartbeats 4000000 in
theorem entry46 (c : Dev nD) (k : Fin 1024) (l : Fin 256) :
    V m c main_v46 (ix2 k l) = A2 m c (ix2 k ⟨2056 + l.val, by omega⟩) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  pointwise
  split_ifs with h
  · rfl
  all_goals exact congrArg _ (congrArg (ix2 k) (Fin.ext (by show 2184 + (l.val - 128) = 2056 + l.val; omega)))

set_option maxHeartbeats 4000000 in
theorem entry48 (c : Dev nD) (k : Fin 1024) (l : Fin 256) :
    V m c main_v48 (ix2 k l) = if h : l.val % 128 < 64 then A2 m c (ix2 k ⟨2568 + (l.val / 128 * 64 + l.val % 128), by omega⟩) else 0 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  pointwise

set_option maxHeartbeats 4000000 in
theorem entry50 (c : Dev nD) (e : Fin 256) (k : Fin 1024) :
    V m c main_v50 (ix2 e k) = A2 m c (ix2 k ⟨if e.val < 128 then 2440 + e.val else 2568 + e.val, by split_ifs <;> omega⟩) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  pointwise
  split_ifs with h
  · rfl
  all_goals exact congrArg _ (congrArg (ix2 k) (Fin.ext (by show 2696 + (e.val - 128) = 2568 + e.val; omega)))

set_option maxHeartbeats 4000000 in
theorem entry52 (c : Dev nD) (e : Fin 32) (k : Fin 1024) :
    V m c main_v52 (ix2 e k) = if h : e.val % 16 < 12 then A2 m c (ix2 k ⟨2824 + (e.val / 16 * 12 + e.val % 4 * 3 + e.val % 16 / 4), by omega⟩) else 0 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  pointwise
  split_ifs with h
  · exact congrArg _ (congrArg (ix2 k) (Fin.ext (by show 2824 + (e.val / 16 * 12 + e.val % 16 % 4 * 3 + e.val % 16 / 4) = 2824 + (e.val / 16 * 12 + e.val % 4 * 3 + e.val % 16 / 4); omega)))
  · rfl

set_option maxHeartbeats 4000000 in
theorem entry47 (c : Dev nD) (k : Fin 1024) (l : Fin 256) :
    V m c main_v47 (ix2 k l) = if h : l.val % 128 < 64 then A2 m c (ix2 k ⟨2312 + (l.val / 128 * 64 + l.val % 128), by omega⟩) else 0 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  pointwise

/-- A table with a mark where the row's number and the column's agree. -/
theorem mark (A B : IVec S512x256 32) (p q : FVec Ideal S512x256 .f32) (r : Fin 512) (l : Fin 256)
    (hA : A (ix2 r l) = BitVec.ofNat 32 (l.val % 128)) (hB : B (ix2 r l) = BitVec.ofNat 32 (r.val / 64))
    (hp : p (ix2 r l) = (1 : EReal)) (hq : q (ix2 r l) = (0 : EReal)) :
    @Eq EReal ((truncf .bf16 (select (cmpi CmpIPredicate.eq A (addi (broadcastInDim S512x256 ![] bcast_S_S512x256 (constantI S_ 32 64#32)) B)) p q) bitsLt_bf16_f32 : FVec Ideal S512x256 .bf16) (ix2 r l))
      (if l.val % 128 = 64 + r.val / 64 then 1 else 0) := by
  have h : @Eq EReal ((truncf .bf16 (select (cmpi CmpIPredicate.eq A (addi (broadcastInDim S512x256 ![] bcast_S_S512x256 (constantI S_ 32 64#32)) B)) p q) bitsLt_bf16_f32 : FVec Ideal S512x256 .bf16) (ix2 r l))
      (if A (ix2 r l) = 64#32 + B (ix2 r l) then p (ix2 r l) else q (ix2 r l)) := by
    pointwise
    by_cases e : A (ix2 r l) = 64#32 + B (ix2 r l)
    · rw [if_pos e, e]
      simp [Scalar.select, IntOp.cmpi, IntOp.addi]
    · rw [if_neg e]
      have e' : (A (ix2 r l) == 64#32 + B (ix2 r l)) = false := beq_false_of_ne e
      simp [Scalar.select, IntOp.cmpi, IntOp.addi, e']
  rw [h, hA, hB, hp, hq]
  refine if_congr ?_ rfl rfl
  rw [← BitVec.toNat_inj]
  simp only [BitVec.toNat_add, BitVec.toNat_ofNat]
  omega

set_option maxHeartbeats 4000000 in
theorem entry37 (c : Dev nD) (r : Fin 512) (l : Fin 256) :
    @Eq EReal (V m c main_v37 (ix2 r l)) (if l.val % 128 = 64 + r.val / 64 then 1 else 0) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  simp only [StableHlo.TRef.ofBuf, StableHlo.TRef.toBuf, cast_eq]
  refine mark _ _ _ _ r l ?_ ?_ ?_ ?_
  · pointwise
    revert l
    decide +kernel
  · pointwise
    revert r
    decide +kernel
  · pointwise
  · pointwise

/-! ## The operands' blocks -/

theorem blk0 (c : Dev nD) (t : Fin cfg0.N) (r : Fin 512) (l : Fin 1024) (b : Fin 2) (s : Fin 16384)
    (h : b.val * 16384 + s.val = 512 * t.val + r.val) :
    iblk m c 0 t (ix2 r l) = A0 m c (ix3 b s l) := by
  blk_simp [iblk]
  refine (?_ : _ = V m c main_v0 (ix2 (⟨512 * t.val + r.val, by omega⟩ : Fin 32768) l)).trans (entry0 m c _ l b s h)
  blk_ext [idx t]

theorem blk1 (c : Dev nD) (t : Fin cfg0.N) (l : Fin 1024) :
    iblk m c 1 t (ix2 0 l) = A1 m c (ix1 l) := by
  blk_simp [iblk]
  refine (?_ : _ = V m c main_v53 (ix2 0 l)).trans (entry53 m c l)
  blk_ext [idx t]

theorem blk2 (c : Dev nD) (t : Fin cfg0.N) (k : Fin 1024) (l : Fin 1664) :
    iblk m c 2 t (ix2 k l) = if h : l.val < 1544 then A2 m c (ix2 k ⟨l.val, by omega⟩) else 0 := by
  blk_simp [iblk]
  refine (?_ : _ = V m c main_v43 (ix2 k l)).trans (entry43 m c k l)
  blk_ext [idx t]

theorem blk3 (c : Dev nD) (t : Fin cfg0.N) (e : Fin 512) (k : Fin 1024) :
    iblk m c 3 t (ix2 e k) = A2 m c (ix2 k ⟨1544 + e.val, by omega⟩) * qscale := by
  blk_simp [iblk]
  refine (?_ : _ = V m c main_v45 (ix2 e k)).trans (entry45 m c e k)
  blk_ext [idx t]

theorem blk4 (c : Dev nD) (t : Fin cfg0.N) (k : Fin 1024) (l : Fin 256) :
    iblk m c 4 t (ix2 k l) = A2 m c (ix2 k ⟨2056 + l.val, by omega⟩) := by
  blk_simp [iblk]
  refine (?_ : _ = V m c main_v46 (ix2 k l)).trans (entry46 m c k l)
  blk_ext [idx t]

theorem blk5 (c : Dev nD) (t : Fin cfg0.N) (k : Fin 1024) (l : Fin 256) :
    iblk m c 5 t (ix2 k l) = if h : l.val % 128 < 64 then A2 m c (ix2 k ⟨2312 + (l.val / 128 * 64 + l.val % 128), by omega⟩) else 0 := by
  blk_simp [iblk]
  refine (?_ : _ = V m c main_v47 (ix2 k l)).trans (entry47 m c k l)
  blk_ext [idx t]

theorem blk6 (c : Dev nD) (t : Fin cfg0.N) (k : Fin 1024) (l : Fin 256) :
    iblk m c 6 t (ix2 k l) = if h : l.val % 128 < 64 then A2 m c (ix2 k ⟨2568 + (l.val / 128 * 64 + l.val % 128), by omega⟩) else 0 := by
  blk_simp [iblk]
  refine (?_ : _ = V m c main_v48 (ix2 k l)).trans (entry48 m c k l)
  blk_ext [idx t]

theorem blk7 (c : Dev nD) (t : Fin cfg0.N) (e : Fin 256) (k : Fin 1024) :
    iblk m c 7 t (ix2 e k) = A2 m c (ix2 k ⟨if e.val < 128 then 2440 + e.val else 2568 + e.val, by split_ifs <;> omega⟩) := by
  blk_simp [iblk]
  refine (?_ : _ = V m c main_v50 (ix2 e k)).trans (entry50 m c e k)
  blk_ext [idx t]

theorem blk8 (c : Dev nD) (t : Fin cfg0.N) (e : Fin 32) (k : Fin 1024) :
    iblk m c 8 t (ix2 e k) = if h : e.val % 16 < 12 then A2 m c (ix2 k ⟨2824 + (e.val / 16 * 12 + e.val % 4 * 3 + e.val % 16 / 4), by omega⟩) else 0 := by
  blk_simp [iblk]
  refine (?_ : _ = V m c main_v52 (ix2 e k)).trans (entry52 m c e k)
  blk_ext [idx t]

theorem blk9 (c : Dev nD) (t : Fin cfg0.N) (r : Fin 512) (l : Fin 256) :
    @Eq EReal (iblk m c 9 t (ix2 r l)) (if l.val % 128 = 64 + r.val / 64 then 1 else 0) := by
  blk_simp [iblk]
  refine (?_ : _ = V m c main_v37 (ix2 r l)).trans (entry37 m c r l)
  blk_ext [idx t]

end Cert.Kernel5Ideal.Even
-- ==== Proof.EvenKernel.lean ====
module

public import proofs.«01_k».proof.Proof.EvenEntry

@[expose] public section

set_option maxRecDepth 16384

noncomputable section

open Idealize.ShloMosaic Idealize.ShloMosaic.TcCoe Idealize.SL.Sem
open Idealize.ShloMosaic.Pipeline (Dat)

namespace Cert.Kernel5Ideal.Even

open Cert.Kernel5Ideal Cert.Kernel5Ideal.Gen Cert.Kernel5Ideal.Value
open Cert.Kernel2Ideal.Mlp (rmsRow)

variable (m : (ℓ : Loc nD τ sig) → Buf (Elt Ideal) ℓ)

/-! ## The projection, and the products of one block -/

/-- The projection of a token on a channel. -/
def proj (x : FVec Ideal S2x16384x1024 .f32) (g : FVec Ideal S1024 .f32) (w : FVec Ideal S1024x2848 .f32) (R : Fin 32768) (l : Fin 2848) : EReal :=
  ∑ k : Fin 1024, rmsRow (fun j => x (ix3 ⟨R.val / 16384, by omega⟩ ⟨R.val % 16384, by omega⟩ j)) (fun j => g (ix1 j)) k * w (ix2 k l)

/-- A product with weights that are 0 outside a part. -/
theorem sum_pad {P : Prop} [Decidable P] (f : Fin 1024 → EReal) (b : P → Fin 1024 → EReal) :
    (∑ k : Fin 1024, f k * (if h : P then b h k else 0)) = if h : P then ∑ k : Fin 1024, f k * b h k else 0 := by
  split_ifs with h
  · rfl
  · exact Finset.sum_eq_zero fun k _ => mul_zero _

theorem norm_at (c : Dev nD) (t : Fin cfg0.N) (r : Fin 512) (l : Fin 1024) (R : Fin 32768) (h : R.val = 512 * t.val + r.val) :
    (k0_pay5 (iblk m c 0 t) (iblk m c 1 t) : FVec Ideal S512x1024 .bf16) (ix2 r l)
      = rmsRow (fun j => A0 m c (ix3 ⟨R.val / 16384, by omega⟩ ⟨R.val % 16384, by omega⟩ j)) (fun j => A1 m c (ix1 j)) l := by
  refine (pay5_at _ _ r l).trans ?_
  exact congrFun (congrArg₂ rmsRow (funext fun k => blk0 m c t r k _ _ (by show R.val / 16384 * 16384 + R.val % 16384 = _; omega)) (funext fun k => blk1 m c t k)) l

theorem s_at (c : Dev nD) (t : Fin cfg0.N) (r : Fin 512) (l : Fin 1664) (R : Fin 32768) (h : R.val = 512 * t.val + r.val) :
    (k0_pay6 (iblk m c 0 t) (iblk m c 1 t) (iblk m c 2 t) : FVec Ideal S512x1664 .f32) (ix2 r l)
      = if h : l.val < 1544 then proj (A0 m c) (A1 m c) (A2 m c) R ⟨l.val, by omega⟩ else 0 := by
  refine (pay6_at _ _ _ r l).trans ?_
  refine Eq.trans (Finset.sum_congr rfl fun k _ => ?_) (sum_pad _ (fun (h : l.val < 1544) k => A2 m c (ix2 k ⟨l.val, by omega⟩)))
  exact congrArg₂ _ (norm_at m c t r k R h) (blk2 m c t k l)

theorem q_at (c : Dev nD) (t : Fin cfg0.N) (e r : Fin 512) (R : Fin 32768) (h : R.val = 512 * t.val + r.val) :
    (k0_pay7 (iblk m c 0 t) (iblk m c 1 t) (iblk m c 3 t) : FVec Ideal S512x512 .f32) (ix2 e r)
      = ∑ k : Fin 1024, rmsRow (fun j => A0 m c (ix3 ⟨R.val / 16384, by omega⟩ ⟨R.val % 16384, by omega⟩ j)) (fun j => A1 m c (ix1 j)) k
          * A2 m c (ix2 k ⟨1544 + e.val, by omega⟩) * qscale := by
  refine (pay7_at _ _ _ e r).trans (Finset.sum_congr rfl fun k _ => ?_)
  refine (mul_comm _ _).trans ((congrArg₂ _ (norm_at m c t r k R h) (blk3 m c t e k)).trans (mul_assoc _ _ _).symm)

theorem c_at (c : Dev nD) (t : Fin cfg0.N) (r : Fin 512) (l : Fin 256) (R : Fin 32768) (h : R.val = 512 * t.val + r.val) :
    (k0_pay13 (k0_pay5 (iblk m c 0 t) (iblk m c 1 t)) (iblk m c 4 t) : FVec Ideal S512x256 .f32) (ix2 r l)
      = proj (A0 m c) (A1 m c) (A2 m c) R ⟨2056 + l.val, by omega⟩ := by
  refine (pay13_at _ _ r l).trans (Finset.sum_congr rfl fun k _ => ?_)
  exact congrArg₂ _ (norm_at m c t r k R h) (blk4 m c t k l)

theorem k_at (c : Dev nD) (t : Fin cfg0.N) (r : Fin 512) (l : Fin 256) (R : Fin 32768) (h : R.val = 512 * t.val + r.val) :
    (k0_pay112 (k0_pay5 (iblk m c 0 t) (iblk m c 1 t)) (iblk m c 5 t) (iblk m c 9 t) : FVec Ideal S512x256 .bf16) (ix2 r l)
      = (if h : l.val % 128 < 64 then proj (A0 m c) (A1 m c) (A2 m c) R ⟨2312 + (l.val / 128 * 64 + l.val % 128), by omega⟩ else 0)
        + if l.val % 128 = 64 + R.val % 512 / 64 then 1 else 0 := by
  refine (pay112_at _ _ _ r l).trans (congrArg₂ (fun a b : EReal => a + b) ?_ ((blk9 m c t r l).trans ?_))
  · refine Eq.trans (Finset.sum_congr rfl fun k _ => ?_) (sum_pad _ (fun (h : l.val % 128 < 64) k => A2 m c (ix2 k ⟨2312 + (l.val / 128 * 64 + l.val % 128), by omega⟩)))
    exact congrArg₂ _ (norm_at m c t r k R h) (blk5 m c t k l)
  · rw [show R.val % 512 = r.val by omega]

theorem w_at (c : Dev nD) (t : Fin cfg0.N) (r : Fin 512) (l : Fin 256) (R : Fin 32768) (h : R.val = 512 * t.val + r.val) :
    (k0_pay114 (k0_pay5 (iblk m c 0 t) (iblk m c 1 t)) (k0_pay113 (iblk m c 6 t)) (constant S512x256 .f32 0x00000000#32) : FVec Ideal S512x256 .bf16) (ix2 r l)
      = if h : l.val % 128 < 64 then proj (A0 m c) (A1 m c) (A2 m c) R ⟨2568 + (l.val / 128 * 64 + l.val % 128), by omega⟩ else 0 := by
  refine (pay114_at _ _ r l).trans ?_
  refine Eq.trans (Finset.sum_congr rfl fun k _ => ?_) (sum_pad _ (fun (h : l.val % 128 < 64) k => A2 m c (ix2 k ⟨2568 + (l.val / 128 * 64 + l.val % 128), by omega⟩)))
  exact congrArg₂ _ (norm_at m c t r k R h) (blk6 m c t k l)

theorem v_at (c : Dev nD) (t : Fin cfg0.N) (e : Fin 256) (r : Fin 512) (R : Fin 32768) (h : R.val = 512 * t.val + r.val) :
    (k0_pay115 (k0_pay5 (iblk m c 0 t) (iblk m c 1 t)) (iblk m c 7 t) : FVec Ideal S256x512 .f32) (ix2 e r)
      = proj (A0 m c) (A1 m c) (A2 m c) R ⟨if e.val < 128 then 2440 + e.val else 2568 + e.val, by split_ifs <;> omega⟩ := by
  refine (pay115_at _ _ e r).trans (Finset.sum_congr rfl fun k _ => ?_)
  exact (mul_comm _ _).trans (congrArg₂ _ (norm_at m c t r k R h) (blk7 m c t e k))

theorem g_at (c : Dev nD) (t : Fin cfg0.N) (e : Fin 32) (r : Fin 512) (R : Fin 32768) (h : R.val = 512 * t.val + r.val) :
    (k0_pay120 (k0_pay5 (iblk m c 0 t) (iblk m c 1 t)) (iblk m c 8 t) : FVec Ideal S32x512 .f32) (ix2 e r)
      = if h : e.val % 16 < 12 then proj (A0 m c) (A1 m c) (A2 m c) R ⟨2824 + (e.val / 16 * 12 + e.val % 4 * 3 + e.val % 16 / 4), by omega⟩ else 0 := by
  refine (pay120_at _ _ e r).trans ?_
  refine Eq.trans (Finset.sum_congr rfl fun k _ => ?_) (sum_pad _ (fun (h : e.val % 16 < 12) k => A2 m c (ix2 k ⟨2824 + (e.val / 16 * 12 + e.val % 4 * 3 + e.val % 16 / 4), by omega⟩)))
  exact (mul_comm _ _).trans (congrArg₂ _ (norm_at m c t r k R h) (blk8 m c t e k))

/-! ## The arrays that the call leaves -/

/-- The state-space mixer's channels, padded with zeros. -/
def sArr (x : FVec Ideal S2x16384x1024 .f32) (g : FVec Ideal S1024 .f32) (w : FVec Ideal S1024x2848 .f32) : FVec Ideal S32768x1664 .f32 := fun i =>
  if h : (i 1).val < 1544 then proj x g w (i 0) ⟨(i 1).val, by omega⟩ else 0

/-- The queries, transposed within blocks of 128 tokens. -/
def qArr (x : FVec Ideal S2x16384x1024 .f32) (g : FVec Ideal S1024 .f32) (w : FVec Ideal S1024x2848 .f32) : FVec Ideal S256x512x128 .bf16 := fun i =>
  ∑ k : Fin 1024, rmsRow (fun j => x (ix3 ⟨(128 * (i 0).val + (i 2).val) / 16384, by have h0 : (i 0).val < 256 := (i 0).isLt; have h2 : (i 2).val < 128 := (i 2).isLt; omega⟩
      ⟨(128 * (i 0).val + (i 2).val) % 16384, by omega⟩ j)) (fun j => g (ix1 j)) k
    * w (ix2 k ⟨1544 + (i 1).val, by have h1 : (i 1).val < 512 := (i 1).isLt; omega⟩) * qscale

/-- The compression's keys and values, in pieces of 16 tokens. -/
def cArr (x : FVec Ideal S2x16384x1024 .f32) (g : FVec Ideal S1024 .f32) (w : FVec Ideal S1024x2848 .f32) : FVec Ideal S2048x4096 .f32 := fun i =>
  proj x g w ⟨16 * (i 0).val + (i 1).val / 64 % 16, by have h : (i 0).val < 2048 := (i 0).isLt; omega⟩
    ⟨2056 + ((i 1).val / 1024 * 64 + (i 1).val % 64), by have h : (i 1).val < 4096 := (i 1).isLt; omega⟩

/-- The keys of the selected blocks, each group padded with a mark of its token's block of 64 within 512, and with zeros. -/
def kArr (x : FVec Ideal S2x16384x1024 .f32) (g : FVec Ideal S1024 .f32) (w : FVec Ideal S1024x2848 .f32) : FVec Ideal S32768x256 .bf16 := fun i =>
  if h : (i 1).val % 128 < 64 then proj x g w (i 0) ⟨2312 + ((i 1).val / 128 * 64 + (i 1).val % 128), by have h1 : (i 1).val < 256 := (i 1).isLt; omega⟩
  else if (i 1).val % 128 = 64 + (i 0).val % 512 / 64 then (1 : EReal) else (0 : EReal)

/-- The window's keys, each group padded with zeros. -/
def wArr (x : FVec Ideal S2x16384x1024 .f32) (g : FVec Ideal S1024 .f32) (w : FVec Ideal S1024x2848 .f32) : FVec Ideal S32768x256 .bf16 := fun i =>
  if h : (i 1).val % 128 < 64 then proj x g w (i 0) ⟨2568 + ((i 1).val / 128 * 64 + (i 1).val % 128), by have h1 : (i 1).val < 256 := (i 1).isLt; omega⟩ else 0

/-- The values, transposed within blocks of 128 tokens. -/
def vArr (x : FVec Ideal S2x16384x1024 .f32) (g : FVec Ideal S1024 .f32) (w : FVec Ideal S1024x2848 .f32) : FVec Ideal S256x256x128 .bf16 := fun i =>
  proj x g w ⟨128 * (i 0).val + (i 2).val, by have h0 : (i 0).val < 256 := (i 0).isLt; have h2 : (i 2).val < 128 := (i 2).isLt; omega⟩
    ⟨if (i 1).val < 128 then 2440 + (i 1).val else 2568 + (i 1).val, by have h : (i 1).val < 256 := (i 1).isLt; split_ifs <;> omega⟩

/-- The gates, by group, branch and head, padded with zeros and transposed within blocks of 128 tokens. -/
def gArr (x : FVec Ideal S2x16384x1024 .f32) (g : FVec Ideal S1024 .f32) (w : FVec Ideal S1024x2848 .f32) : FVec Ideal S256x32x128 .f32 := fun i =>
  if h : (i 1).val % 16 < 12 then proj x g w ⟨128 * (i 0).val + (i 2).val, by have h0 : (i 0).val < 256 := (i 0).isLt; have h2 : (i 2).val < 128 := (i 2).isLt; omega⟩
    ⟨2824 + ((i 1).val / 16 * 12 + (i 1).val % 4 * 3 + (i 1).val % 16 / 4), by have h : (i 1).val < 32 := (i 1).isLt; omega⟩ else 0

/-! ## The tiles of the transposed outputs -/

theorem pay8_at (x : FVec Ideal S512x1024 .f32) (g : FVec Ideal S1x1024 .f32) (w : FVec Ideal S512x1024 .bf16) (z : Fin 1) (e : Fin 512) (q : Fin 128) :
    (k0_pay8 x g w : FVec Ideal S1x512x128 .bf16) (ix3 z e q) = (k0_pay7 x g w : FVec Ideal S512x512 .f32) (ix2 e ⟨128 * 0 + q.val, by omega⟩) := by
  pointwise [k0_pay8]

theorem pay9_at (x : FVec Ideal S512x1024 .f32) (g : FVec Ideal S1x1024 .f32) (w : FVec Ideal S512x1024 .bf16) (z : Fin 1) (e : Fin 512) (q : Fin 128) :
    (k0_pay9 x g w : FVec Ideal S1x512x128 .bf16) (ix3 z e q) = (k0_pay7 x g w : FVec Ideal S512x512 .f32) (ix2 e ⟨128 * 1 + q.val, by omega⟩) := by
  pointwise [k0_pay9]

theorem pay11_at (x : FVec Ideal S512x1024 .f32) (g : FVec Ideal S1x1024 .f32) (w : FVec Ideal S512x1024 .bf16) (z : Fin 1) (e : Fin 512) (q : Fin 128) :
    (k0_pay11 (k0_pay10 x g w) : FVec Ideal S1x512x128 .bf16) (ix3 z e q) = (k0_pay7 x g w : FVec Ideal S512x512 .f32) (ix2 e ⟨128 * 2 + q.val, by omega⟩) := by
  pointwise [k0_pay11, k0_pay10]

theorem pay12_at (x : FVec Ideal S512x1024 .f32) (g : FVec Ideal S1x1024 .f32) (w : FVec Ideal S512x1024 .bf16) (z : Fin 1) (e : Fin 512) (q : Fin 128) :
    (k0_pay12 (k0_pay7 x g w) : FVec Ideal S1x512x128 .bf16) (ix3 z e q) = (k0_pay7 x g w : FVec Ideal S512x512 .f32) (ix2 e ⟨128 * 3 + q.val, by omega⟩) := by
  pointwise [k0_pay12]

theorem pay116_at (v : FVec Ideal S512x1024 .bf16) (w : FVec Ideal S256x1024 .bf16) (z : Fin 1) (e : Fin 256) (q : Fin 128) :
    (k0_pay116 v w : FVec Ideal S1x256x128 .bf16) (ix3 z e q) = (k0_pay115 v w : FVec Ideal S256x512 .f32) (ix2 e ⟨128 * 0 + q.val, by omega⟩) := by
  pointwise [k0_pay116]

theorem pay117_at (v : FVec Ideal S512x1024 .bf16) (w : FVec Ideal S256x1024 .bf16) (z : Fin 1) (e : Fin 256) (q : Fin 128) :
    (k0_pay117 v w : FVec Ideal S1x256x128 .bf16) (ix3 z e q) = (k0_pay115 v w : FVec Ideal S256x512 .f32) (ix2 e ⟨128 * 1 + q.val, by omega⟩) := by
  pointwise [k0_pay117]

theorem pay118_at (v : FVec Ideal S512x1024 .bf16) (w : FVec Ideal S256x1024 .bf16) (z : Fin 1) (e : Fin 256) (q : Fin 128) :
    (k0_pay118 v w : FVec Ideal S1x256x128 .bf16) (ix3 z e q) = (k0_pay115 v w : FVec Ideal S256x512 .f32) (ix2 e ⟨128 * 2 + q.val, by omega⟩) := by
  pointwise [k0_pay118]

theorem pay119_at (v : FVec Ideal S512x1024 .bf16) (w : FVec Ideal S256x1024 .bf16) (z : Fin 1) (e : Fin 256) (q : Fin 128) :
    (k0_pay119 v w : FVec Ideal S1x256x128 .bf16) (ix3 z e q) = (k0_pay115 v w : FVec Ideal S256x512 .f32) (ix2 e ⟨128 * 3 + q.val, by omega⟩) := by
  pointwise [k0_pay119]

theorem pay1_at (v : FVec Ideal S512x1024 .bf16) (w : FVec Ideal S32x1024 .bf16) (z : Fin 1) (e : Fin 32) (q : Fin 128) :
    (k0_pay1 (k0_pay121 v w) : FVec Ideal S1x32x128 .f32) (ix3 z e q) = (k0_pay120 v w : FVec Ideal S32x512 .f32) (ix2 e ⟨128 * 0 + q.val, by omega⟩) := by
  pointwise [k0_pay1, k0_pay121]

theorem pay2_at (v : FVec Ideal S512x1024 .bf16) (w : FVec Ideal S32x1024 .bf16) (z : Fin 1) (e : Fin 32) (q : Fin 128) :
    (k0_pay2 (k0_pay120 v w) : FVec Ideal S1x32x128 .f32) (ix3 z e q) = (k0_pay120 v w : FVec Ideal S32x512 .f32) (ix2 e ⟨128 * 1 + q.val, by omega⟩) := by
  pointwise [k0_pay2]

theorem pay3_at (v : FVec Ideal S512x1024 .bf16) (w : FVec Ideal S32x1024 .bf16) (z : Fin 1) (e : Fin 32) (q : Fin 128) :
    (k0_pay3 (k0_pay120 v w) : FVec Ideal S1x32x128 .f32) (ix3 z e q) = (k0_pay120 v w : FVec Ideal S32x512 .f32) (ix2 e ⟨128 * 2 + q.val, by omega⟩) := by
  pointwise [k0_pay3]

theorem pay4_at (v : FVec Ideal S512x1024 .bf16) (w : FVec Ideal S32x1024 .bf16) (z : Fin 1) (e : Fin 32) (q : Fin 128) :
    (k0_pay4 (k0_pay120 v w) : FVec Ideal S1x32x128 .f32) (ix3 z e q) = (k0_pay120 v w : FVec Ideal S32x512 .f32) (ix2 e ⟨128 * 3 + q.val, by omega⟩) := by
  pointwise [k0_pay4]

theorem q_piece (c : Dev nD) (t : Fin cfg0.N) (J : Nat) (hJ : J < 4) (P : FVec Ideal S1x512x128 .bf16)
    (hP : ∀ (z : Fin 1) (e : Fin 512) (q : Fin 128), P (ix3 z e q)
      = (k0_pay7 (iblk m c 0 t) (iblk m c 1 t) (iblk m c 3 t) : FVec Ideal S512x512 .f32) (ix2 e ⟨128 * J + q.val, by omega⟩))
    (y : S4x512x128.Idx) (x : S1x512x128.Idx) (i : S256x512x128.Idx) (g0 : (i 0 : ℕ) = 4 * t.val + y 0) (g1 : (i 1 : ℕ) = y 1) (g2 : (i 2 : ℕ) = y 2)
    (h0 : (y 0 : ℕ) = J + x 0) (h1 : (y 1 : ℕ) = x 1) (h2 : (y 2 : ℕ) = x 2) :
    P x = qArr (A0 m c) (A1 m c) (A2 m c) i := by
  have e : x = ix3 (x 0 : Fin 1) (x 1 : Fin 512) (x 2 : Fin 128) := eq_ix3 x
  have hx : (x 0).val < 1 := (x 0).isLt
  have e1 : (x 1 : Fin 512) = i 1 := Fin.ext ((h1.symm.trans g1.symm))
  have hi : (i 0).val < 256 := (i 0).isLt
  have hi2 : (i 2).val < 128 := (i 2).isLt
  rw [e]
  refine (hP _ _ _).trans ((q_at m c t _ _ ⟨128 * (i 0).val + (i 2).val, by omega⟩ ?_).trans ?_)
  · show 128 * (i 0).val + (i 2).val = 512 * t.val + (128 * J + (x 2).val)
    omega
  · unfold qArr
    rw [e1]

theorem v_piece (c : Dev nD) (t : Fin cfg0.N) (J : Nat) (hJ : J < 4) (P : FVec Ideal S1x256x128 .bf16)
    (hP : ∀ (z : Fin 1) (e : Fin 256) (q : Fin 128), P (ix3 z e q)
      = (k0_pay115 (k0_pay5 (iblk m c 0 t) (iblk m c 1 t)) (iblk m c 7 t) : FVec Ideal S256x512 .f32) (ix2 e ⟨128 * J + q.val, by omega⟩))
    (y : S4x256x128.Idx) (x : S1x256x128.Idx) (i : S256x256x128.Idx) (g0 : (i 0 : ℕ) = 4 * t.val + y 0) (g1 : (i 1 : ℕ) = y 1) (g2 : (i 2 : ℕ) = y 2)
    (h0 : (y 0 : ℕ) = J + x 0) (h1 : (y 1 : ℕ) = x 1) (h2 : (y 2 : ℕ) = x 2) :
    P x = vArr (A0 m c) (A1 m c) (A2 m c) i := by
  have e : x = ix3 (x 0 : Fin 1) (x 1 : Fin 256) (x 2 : Fin 128) := eq_ix3 x
  have hx : (x 0).val < 1 := (x 0).isLt
  have e1 : (x 1 : Fin 256) = i 1 := Fin.ext ((h1.symm.trans g1.symm))
  have hi : (i 0).val < 256 := (i 0).isLt
  have hi2 : (i 2).val < 128 := (i 2).isLt
  rw [e]
  refine (hP _ _ _).trans ((v_at m c t _ _ ⟨128 * (i 0).val + (i 2).val, by omega⟩ ?_).trans ?_)
  · show 128 * (i 0).val + (i 2).val = 512 * t.val + (128 * J + (x 2).val)
    omega
  · unfold vArr
    rw [e1]

theorem g_piece (c : Dev nD) (t : Fin cfg0.N) (J : Nat) (hJ : J < 4) (P : FVec Ideal S1x32x128 .f32)
    (hP : ∀ (z : Fin 1) (e : Fin 32) (q : Fin 128), P (ix3 z e q)
      = (k0_pay120 (k0_pay5 (iblk m c 0 t) (iblk m c 1 t)) (iblk m c 8 t) : FVec Ideal S32x512 .f32) (ix2 e ⟨128 * J + q.val, by omega⟩))
    (y : S4x32x128.Idx) (x : S1x32x128.Idx) (i : S256x32x128.Idx) (g0 : (i 0 : ℕ) = 4 * t.val + y 0) (g1 : (i 1 : ℕ) = y 1) (g2 : (i 2 : ℕ) = y 2)
    (h0 : (y 0 : ℕ) = J + x 0) (h1 : (y 1 : ℕ) = x 1) (h2 : (y 2 : ℕ) = x 2) :
    P x = gArr (A0 m c) (A1 m c) (A2 m c) i := by
  have e : x = ix3 (x 0 : Fin 1) (x 1 : Fin 32) (x 2 : Fin 128) := eq_ix3 x
  have hx : (x 0).val < 1 := (x 0).isLt
  have e1 : (x 1 : Fin 32) = i 1 := Fin.ext ((h1.symm.trans g1.symm))
  have hi : (i 0).val < 256 := (i 0).isLt
  have hi2 : (i 2).val < 128 := (i 2).isLt
  rw [e]
  refine (hP _ _ _).trans ((g_at m c t _ _ ⟨128 * (i 0).val + (i 2).val, by omega⟩ ?_).trans ?_)
  · show 128 * (i 0).val + (i 2).val = 512 * t.val + (128 * J + (x 2).val)
    omega
  · unfold gArr
    rw [e1]

theorem point11 (c : Dev nD) (t : Fin cfg0.N) (y : S4x512x128.Idx) (i : S256x512x128.Idx) (g0 : (i 0 : ℕ) = 4 * t.val + y 0) (g1 : (i 1 : ℕ) = y 1) (g2 : (i 2 : ℕ) = y 2) :
    (outsAt0 m c t).2.1 y = qArr (A0 m c) (A1 m c) (A2 m c) i := by
  unfold outsAt0
  frame_out
  canon_tiles x h
  case piece0 => exact q_piece m c t 3 (by decide) _ (fun z e q => pay12_at _ _ _ z e q) y x i g0 g1 g2 h0 h1 h2
  case piece1 => exact q_piece m c t 2 (by decide) _ (fun z e q => pay11_at _ _ _ z e q) y x i g0 g1 g2 h0 h1 h2
  case piece2 => exact q_piece m c t 1 (by decide) _ (fun z e q => pay9_at _ _ _ z e q) y x i g0 g1 g2 h0 h1 h2
  case piece3 => exact q_piece m c t 0 (by decide) _ (fun z e q => pay8_at _ _ _ z e q) y x i g0 g1 g2 (by omega) h1 h2

theorem point15 (c : Dev nD) (t : Fin cfg0.N) (y : S4x256x128.Idx) (i : S256x256x128.Idx) (g0 : (i 0 : ℕ) = 4 * t.val + y 0) (g1 : (i 1 : ℕ) = y 1) (g2 : (i 2 : ℕ) = y 2) :
    (outsAt0 m c t).2.2.2.2.2.1 y = vArr (A0 m c) (A1 m c) (A2 m c) i := by
  unfold outsAt0
  frame_out
  canon_tiles x h
  case piece0 => exact v_piece m c t 3 (by decide) _ (fun z e q => pay119_at _ _ z e q) y x i g0 g1 g2 h0 h1 h2
  case piece1 => exact v_piece m c t 2 (by decide) _ (fun z e q => pay118_at _ _ z e q) y x i g0 g1 g2 h0 h1 h2
  case piece2 => exact v_piece m c t 1 (by decide) _ (fun z e q => pay117_at _ _ z e q) y x i g0 g1 g2 h0 h1 h2
  case piece3 => exact v_piece m c t 0 (by decide) _ (fun z e q => pay116_at _ _ z e q) y x i g0 g1 g2 (by omega) h1 h2

theorem point16 (c : Dev nD) (t : Fin cfg0.N) (y : S4x32x128.Idx) (i : S256x32x128.Idx) (g0 : (i 0 : ℕ) = 4 * t.val + y 0) (g1 : (i 1 : ℕ) = y 1) (g2 : (i 2 : ℕ) = y 2) :
    (outsAt0 m c t).2.2.2.2.2.2 y = gArr (A0 m c) (A1 m c) (A2 m c) i := by
  unfold outsAt0
  frame_out
  canon_tiles x h
  case piece0 => exact g_piece m c t 3 (by decide) _ (fun z e q => pay4_at _ _ z e q) y x i g0 g1 g2 h0 h1 h2
  case piece1 => exact g_piece m c t 2 (by decide) _ (fun z e q => pay3_at _ _ z e q) y x i g0 g1 g2 h0 h1 h2
  case piece2 => exact g_piece m c t 1 (by decide) _ (fun z e q => pay2_at _ _ z e q) y x i g0 g1 g2 h0 h1 h2
  case piece3 => exact g_piece m c t 0 (by decide) _ (fun z e q => pay1_at _ _ z e q) y x i g0 g1 g2 (by omega) h1 h2

theorem point10 (c : Dev nD) (t : Fin cfg0.N) (y : S512x1664.Idx) (i : S32768x1664.Idx) (g0 : (i 0 : ℕ) = 512 * t.val + y 0) (g1 : (i 1 : ℕ) = y 1) :
    (outsAt0 m c t).1 y = sArr (A0 m c) (A1 m c) (A2 m c) i := by
  have h : (outsAt0 m c t).1 = k0_pay6 (iblk m c 0 t) (iblk m c 1 t) (iblk m c 2 t) := by
    unfold outsAt0
    frame_out
    try simp only [read_unread_whole]
  have e : y = ix2 (y 0 : Fin 512) (y 1 : Fin 1664) := eq_ix2 y
  have e1 : (y 1 : Fin 1664) = i 1 := Fin.ext g1.symm
  rw [h, e]
  refine (s_at m c t _ _ (i 0) g0).trans ?_
  unfold sArr
  rw [e1]

theorem point13 (c : Dev nD) (t : Fin cfg0.N) (y : S512x256.Idx) (i : S32768x256.Idx) (g0 : (i 0 : ℕ) = 512 * t.val + y 0) (g1 : (i 1 : ℕ) = y 1) :
    (outsAt0 m c t).2.2.2.1 y = kArr (A0 m c) (A1 m c) (A2 m c) i := by
  have h : (outsAt0 m c t).2.2.2.1 = k0_pay112 (k0_pay5 (iblk m c 0 t) (iblk m c 1 t)) (iblk m c 5 t) (iblk m c 9 t) := by
    unfold outsAt0
    frame_out
    try simp only [read_unread_whole]
  have e : y = ix2 (y 0 : Fin 512) (y 1 : Fin 256) := eq_ix2 y
  have e1 : (y 1 : Fin 256) = i 1 := Fin.ext g1.symm
  rw [h, e]
  refine (k_at m c t _ _ (i 0) g0).trans ?_
  unfold kArr
  rw [e1]
  split_ifs with h1 h2 h3
  · exact absurd h2 (by omega)
  · exact add_zero _
  · exact zero_add _
  · exact zero_add _

theorem point14 (c : Dev nD) (t : Fin cfg0.N) (y : S512x256.Idx) (i : S32768x256.Idx) (g0 : (i 0 : ℕ) = 512 * t.val + y 0) (g1 : (i 1 : ℕ) = y 1) :
    (outsAt0 m c t).2.2.2.2.1 y = wArr (A0 m c) (A1 m c) (A2 m c) i := by
  have h : (outsAt0 m c t).2.2.2.2.1 = k0_pay114 (k0_pay5 (iblk m c 0 t) (iblk m c 1 t)) (k0_pay113 (iblk m c 6 t)) (constant S512x256 .f32 0x00000000#32) := by
    unfold outsAt0
    frame_out
    try simp only [read_unread_whole]
  have e : y = ix2 (y 0 : Fin 512) (y 1 : Fin 256) := eq_ix2 y
  have e1 : (y 1 : Fin 256) = i 1 := Fin.ext g1.symm
  rw [h, e]
  refine (w_at m c t _ _ (i 0) g0).trans ?_
  unfold wArr
  rw [e1]

theorem final10 (c : Dev nD) : (dats m 0 c).arrAt 10 (cfgs 0).N = sArr (A0 m c) (A1 m c) (A2 m c) := by
  refine (dats m 0 c).arrAt_eq_of_covers 10 _ (by decide +kernel) fun t hf y => ?_
  blk_simp
  rw [after0_10]
  refine point10 m c t y _ ?_ ?_
  all_goals (blk_simp [idx t] <;> try omega)

theorem final11 (c : Dev nD) : (dats m 0 c).arrAt 11 (cfgs 0).N = qArr (A0 m c) (A1 m c) (A2 m c) := by
  refine (dats m 0 c).arrAt_eq_of_covers 11 _ (by decide +kernel) fun t hf y => ?_
  blk_simp
  rw [after0_11]
  refine point11 m c t y _ ?_ ?_ ?_
  all_goals (blk_simp [idx t] <;> try omega)

theorem final13 (c : Dev nD) : (dats m 0 c).arrAt 13 (cfgs 0).N = kArr (A0 m c) (A1 m c) (A2 m c) := by
  refine (dats m 0 c).arrAt_eq_of_covers 13 _ (by decide +kernel) fun t hf y => ?_
  blk_simp
  rw [after0_13]
  refine point13 m c t y _ ?_ ?_
  all_goals (blk_simp [idx t] <;> try omega)

theorem final14 (c : Dev nD) : (dats m 0 c).arrAt 14 (cfgs 0).N = wArr (A0 m c) (A1 m c) (A2 m c) := by
  refine (dats m 0 c).arrAt_eq_of_covers 14 _ (by decide +kernel) fun t hf y => ?_
  blk_simp
  rw [after0_14]
  refine point14 m c t y _ ?_ ?_
  all_goals (blk_simp [idx t] <;> try omega)

theorem final15 (c : Dev nD) : (dats m 0 c).arrAt 15 (cfgs 0).N = vArr (A0 m c) (A1 m c) (A2 m c) := by
  refine (dats m 0 c).arrAt_eq_of_covers 15 _ (by decide +kernel) fun t hf y => ?_
  blk_simp
  rw [after0_15]
  refine point15 m c t y _ ?_ ?_ ?_
  all_goals (blk_simp [idx t] <;> try omega)

theorem final16 (c : Dev nD) : (dats m 0 c).arrAt 16 (cfgs 0).N = gArr (A0 m c) (A1 m c) (A2 m c) := by
  refine (dats m 0 c).arrAt_eq_of_covers 16 _ (by decide +kernel) fun t hf y => ?_
  blk_simp
  rw [after0_16]
  refine point16 m c t y _ ?_ ?_ ?_
  all_goals (blk_simp [idx t] <;> try omega)

end Cert.Kernel5Ideal.Even
-- ==== Proof.EvenReference.lean ====
module

public import proofs.«01_k».proof.Proof.Gen.Reference5Ideal.Run
public import proofs.«01_k».proof.Proof.EvenKernel
public import proofs.«01_k».proof.Proof.ProjMath

@[expose] public section

set_option maxRecDepth 16384

noncomputable section

open Idealize.ShloMosaic Idealize.ShloMosaic.TcCoe Idealize.SL.Sem

namespace Cert.Reference5Ideal.Even

open Cert.Reference5Ideal Cert.Reference5Ideal.Gen Cert.Reference5Ideal.Value
open Cert.Kernel2Ideal.Mlp (rmsRow)
open Cert.Kernel5Ideal.Even (proj qArr cArr sArr kArr wArr vArr gArr)

/-- The root-mean-square normalisation, as the reference writes it. -/
def refNorm (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2
      (Host.rsqrt (addf (Host.divf (broadcastInDim S2x16384x1 ![0, 1] bcast_S2x16384_S2x16384x1_0_1
        (Host.reduceAdd (mulf x x) (constant S_ .f32 0x00000000#32) reducesTo_S2x16384x1024_S2x16384_d2 h_S_))
          (broadcastInDim S2x16384x1 ![] bcast_S_S2x16384x1 (constant S_ .f32 0x44800000#32)))
        (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- The projection of every token. -/
def refProj (x : FVec Ideal S2x16384x1024 .f32) (g : FVec Ideal S1024 .f32) (w : FVec Ideal S1024x2848 .f32) : FVec Ideal S32768x2848 .f32 :=
  shapeCast S32768x2848 (Host.dotGeneral dot_S2x16384x1024_S1024x2848_S2x16384x2848_2_0_01_1_n_n none (refNorm x g) w) shapeCasts_S2x16384x2848_S32768x2848

/-- The channels of the attention mixer. -/
def refN (u : FVec Ideal S32768x2848 .f32) : FVec Ideal S32768x1304 .f32 :=
  extractStridedSlice S32768x1304 ![0, 1544] u slices_S32768x2848_S32768x1304_0_1544

def refS (u : FVec Ideal S32768x2848 .f32) : FVec Ideal S32768x1664 .f32 :=
  concatenate S32768x1664 1 [⟨S32768x1544, (extractStridedSlice S32768x1544 ![0, 0] u slices_S32768x2848_S32768x1544_0_0)⟩, ⟨S32768x120, (broadcastInDim S32768x120 ![] bcast_S_S32768x120 (constant S_ .f32 0x00000000#32))⟩] concatenates_S32768x1544_S32768x120_S32768x1664_d1

def refQ (u : FVec Ideal S32768x2848 .f32) : FVec Ideal S256x512x128 .bf16 :=
  truncf .bf16 (transpose S256x512x128 [0, 2, 1] (shapeCast S256x128x512 (Host.divf (mulf (extractStridedSlice S32768x512 ![0, 0] (refN u) slices_S32768x1304_S32768x512_0_0) (broadcastInDim S32768x512 ![] bcast_S_S32768x512 (constant S_ .f32 0x3E000000#32))) (broadcastInDim S32768x512 ![] bcast_S_S32768x512 (Host.log (constant S_ .f32 0x40000000#32)))) shapeCasts_S32768x512_S256x128x512) transposes_S256x128x512_S256x512x128_0_2_1) bitsLt_bf16_f32

def refC (u : FVec Ideal S32768x2848 .f32) : FVec Ideal S2048x4096 .f32 :=
  shapeCast S2048x4096 (transpose S2048x4x16x64 [0, 2, 1, 3] (shapeCast S2048x16x4x64 (extractStridedSlice S32768x256 ![0, 512] (refN u) slices_S32768x1304_S32768x256_0_512) shapeCasts_S32768x256_S2048x16x4x64) transposes_S2048x16x4x64_S2048x4x16x64_0_2_1_3) shapeCasts_S2048x4x16x64_S2048x4096

/-- The mark of a token's block of 64 within 512. -/
def refB : FVec Ideal S32768x2x8 .f32 :=
  shapeCast S32768x2x8 (broadcastInDim S64x8x64x2x8 ![0, 1, 2, 3, 4] bcast_S1x8x1x1x8_S64x8x64x2x8_0_1_2_3_4 (broadcastInDim S1x8x1x1x8 ![1, 4] bcast_S8x8_S1x8x1x1x8_1_4 (uitofp .f32 (cmpi .eq (addi (iotaInDim S8x8 32 0) (broadcastInDim S8x8 ![] bcast_S_S8x8 (constantI S_ 32 0#32))) (iotaInDim S8x8 32 1))))) shapeCasts_S64x8x64x2x8_S32768x2x8

def refKeys (u : FVec Ideal S32768x2848 .f32) (B : FVec Ideal S32768x2x8 .f32) : FVec Ideal S32768x256 .bf16 :=
  truncf .bf16 (shapeCast S32768x256 (concatenate S32768x2x128 2 [⟨S32768x2x64, (shapeCast S32768x2x64 (extractStridedSlice S32768x128 ![0, 768] (refN u) slices_S32768x1304_S32768x128_0_768) shapeCasts_S32768x128_S32768x2x64 : FVec Ideal S32768x2x64 .f32)⟩, ⟨S32768x2x8, B⟩, ⟨S32768x2x56, (broadcastInDim S32768x2x56 ![] bcast_S_S32768x2x56 (constant S_ .f32 0x00000000#32) : FVec Ideal S32768x2x56 .f32)⟩] concatenates_S32768x2x64_S32768x2x8_S32768x2x56_S32768x2x128_d2) shapeCasts_S32768x2x128_S32768x256) bitsLt_bf16_f32

def refK (u : FVec Ideal S32768x2848 .f32) : FVec Ideal S32768x256 .bf16 := refKeys u refB

def refW (u : FVec Ideal S32768x2848 .f32) : FVec Ideal S32768x256 .bf16 :=
  truncf .bf16 (shapeCast S32768x256 (concatenate S32768x2x128 2 [⟨S32768x2x64, (shapeCast S32768x2x64 (extractStridedSlice S32768x128 ![0, 1024] (refN u) slices_S32768x1304_S32768x128_0_1024) shapeCasts_S32768x128_S32768x2x64)⟩, ⟨S32768x2x64, (broadcastInDim S32768x2x64 ![] bcast_S_S32768x2x64 (constant S_ .f32 0x00000000#32))⟩] concatenates_S32768x2x64_S32768x2x64_S32768x2x128_d2) shapeCasts_S32768x2x128_S32768x256) bitsLt_bf16_f32

def refV (u : FVec Ideal S32768x2848 .f32) : FVec Ideal S256x256x128 .bf16 :=
  truncf .bf16 (transpose S256x256x128 [0, 2, 1] (shapeCast S256x128x256 (concatenate S32768x256 1 [⟨S32768x128, (extractStridedSlice S32768x128 ![0, 896] (refN u) slices_S32768x1304_S32768x128_0_896)⟩, ⟨S32768x128, (extractStridedSlice S32768x128 ![0, 1152] (refN u) slices_S32768x1304_S32768x128_0_1152)⟩] concatenates_S32768x128_S32768x128_S32768x256_d1) shapeCasts_S32768x256_S256x128x256) transposes_S256x128x256_S256x256x128_0_2_1) bitsLt_bf16_f32

def refG (u : FVec Ideal S32768x2848 .f32) : FVec Ideal S256x32x128 .f32 :=
  shapeCast S256x32x128 (concatenate S256x2x16x128 2 [⟨S256x2x12x128, (shapeCast S256x2x12x128 (transpose S256x2x3x4x128 [0, 2, 4, 3, 1] (shapeCast S256x128x2x4x3 (extractStridedSlice S32768x24 ![0, 1280] (refN u) slices_S32768x1304_S32768x24_0_1280) shapeCasts_S32768x24_S256x128x2x4x3) transposes_S256x128x2x4x3_S256x2x3x4x128_0_2_4_3_1) shapeCasts_S256x2x3x4x128_S256x2x12x128)⟩, ⟨S256x2x4x128, (broadcastInDim S256x2x4x128 ![] bcast_S_S256x2x4x128 (constant S_ .f32 0x00000000#32))⟩] concatenates_S256x2x12x128_S256x2x4x128_S256x2x16x128_d2) shapeCasts_S256x2x16x128_S256x32x128

theorem refNorm_at (x : FVec Ideal S2x16384x1024 .f32) (g : FVec Ideal S1024 .f32) (b : Fin 2) (s : Fin 16384) (l : Fin 1024) :
    refNorm x g (ix3 b s l) = rmsRow (fun k => x (ix3 b s k)) (fun k => g (ix1 k)) l := by
  pointwise [refNorm, rmsRow]

theorem refProj_at (x : FVec Ideal S2x16384x1024 .f32) (g : FVec Ideal S1024 .f32) (w : FVec Ideal S1024x2848 .f32) (R : Fin 32768) (l : Fin 2848) :
    refProj x g w (ix2 R l) = proj x g w R l := by
  have h : refProj x g w (ix2 R l)
      = ∑ k : Fin 1024, refNorm x g (ix3 ⟨R.val / 16384, by omega⟩ ⟨R.val % 16384, by omega⟩ k) * w (ix2 k l) := by
    pointwise [refProj]
  refine h.trans ?_
  unfold proj
  exact Finset.sum_congr rfl fun k _ => congrArg (· * _) (refNorm_at _ _ _ _ _)

/-- The projection at two spellings of the same token and channel. -/
theorem same (u : FVec Ideal S32768x2848 .f32) (R R' : Fin 32768) (l l' : Fin 2848) (hR : R.val = R'.val) (hl : l.val = l'.val) :
    u (ix2 R l) = u (ix2 R' l') := by
  rw [Fin.ext hR, Fin.ext hl]

theorem refS_at (u : FVec Ideal S32768x2848 .f32) (R : Fin 32768) (l : Fin 1664) :
    refS u (ix2 R l) = if h : l.val < 1544 then u (ix2 R ⟨l.val, by omega⟩) else 0 := by
  pointwise [refS]

theorem refQ_at (u : FVec Ideal S32768x2848 .f32) (b : Fin 256) (e : Fin 512) (q : Fin 128) :
    refQ u (ix3 b e q) = Ideal.div (u (ix2 ⟨128 * b.val + q.val, by omega⟩ ⟨1544 + e.val, by omega⟩) * Ideal.ofBits .f32 0x3E000000#32)
      (Ideal.log (Ideal.ofBits .f32 0x40000000#32)) := by
  pointwise [refQ, refN]
  simp only [Nat.mul_comm]

theorem refC_at (u : FVec Ideal S32768x2848 .f32) (r : Fin 2048) (l : Fin 4096) :
    refC u (ix2 r l) = u (ix2 ⟨16 * r.val + l.val / 64 % 16, by omega⟩ ⟨2056 + (l.val / 1024 * 64 + l.val % 64), by omega⟩) := by
  pointwise [refC, refN]
  exact same u _ _ _ _ (by show r.val * 16 + l.val / 64 % 16 = 16 * r.val + l.val / 64 % 16; omega)
    (by show 1544 + (512 + (l.val / 1024 * 64 + l.val % 64)) = 2056 + (l.val / 1024 * 64 + l.val % 64); omega)

theorem eye_at (a b : Fin 8) :
    (uitofp .f32 (cmpi .eq (addi (iotaInDim S8x8 32 0) (broadcastInDim S8x8 ![] bcast_S_S8x8 (constantI S_ 32 0#32))) (iotaInDim S8x8 32 1)) : FVec Ideal S8x8 .f32) (ix2 a b)
      = if a.val = b.val then (1 : EReal) else 0 := by
  pointwise
  have e : ∀ a b : Fin 8, IntOp.cmpi CmpIPredicate.eq (IntOp.addi (BitVec.ofNat 32 a.val) 0#32) (BitVec.ofNat 32 b.val) = if a.val = b.val then 1#1 else 0#1 := by
    decide +kernel
  rw [e]
  split_ifs
  · show (((1#1 : BitVec 1).toNat : ℝ) : EReal) = 1
    norm_num
  · show (((0#1 : BitVec 1).toNat : ℝ) : EReal) = 0
    norm_num

theorem refB_at (R : Fin 32768) (z : Fin 2) (q : Fin 8) :
    refB (ix3 R z q) = if R.val % 512 / 64 = q.val then (1 : EReal) else 0 := by
  have e : ∀ E : FVec Ideal S8x8 .f32, (shapeCast S32768x2x8 (broadcastInDim S64x8x64x2x8 ![0, 1, 2, 3, 4] bcast_S1x8x1x1x8_S64x8x64x2x8_0_1_2_3_4 (broadcastInDim S1x8x1x1x8 ![1, 4] bcast_S8x8_S1x8x1x1x8_1_4 E)) shapeCasts_S64x8x64x2x8_S32768x2x8 : FVec Ideal S32768x2x8 .f32) (ix3 R z q)
      = E (ix2 ⟨R.val % 512 / 64, by omega⟩ q) := by
    intro E
    pointwise
    exact congrArg E (congrArg (fun a => ix2 a q) (Fin.ext (by show R.val / 64 % 8 = R.val % 512 / 64; omega)))
  exact (e _).trans (eye_at _ _)

theorem refK_at (u : FVec Ideal S32768x2848 .f32) (R : Fin 32768) (l : Fin 256) :
    refK u (ix2 R l) = if h : l.val % 128 < 64 then u (ix2 R ⟨2312 + (l.val / 128 * 64 + l.val % 128), by omega⟩)
      else if l.val % 128 = 64 + R.val % 512 / 64 then (1 : EReal) else (0 : EReal) := by
  have e : ∀ B : FVec Ideal S32768x2x8 .f32, refKeys u B (ix2 R l) = if h : l.val % 128 < 64 then u (ix2 R ⟨2312 + (l.val / 128 * 64 + l.val % 128), by omega⟩)
      else if h : l.val % 128 < 72 then B (ix3 R ⟨l.val / 128, by omega⟩ ⟨l.val % 128 - 64, by omega⟩) else 0 := by
    intro B
    pointwise [refKeys, refN]
    by_cases h : l.val % 128 < 64
    · rw [dif_pos h, dif_pos h]
      exact same u _ _ _ _ rfl (by show 1544 + (768 + (l.val / 128 * 64 + l.val % 128)) = 2312 + (l.val / 128 * 64 + l.val % 128); omega)
    · rw [dif_neg h, dif_neg h]
      by_cases h1 : l.val % 128 < 72
      · rw [dif_pos h1, dif_pos (by omega)]
      · rw [dif_neg h1, dif_neg (by omega)]
  refine (e refB).trans ?_
  split_ifs with h h1 h2 h2
  · rfl
  · exact (refB_at _ _ _).trans (if_pos (by show R.val % 512 / 64 = l.val % 128 - 64; omega))
  · exact (refB_at _ _ _).trans (if_neg (by show ¬ R.val % 512 / 64 = l.val % 128 - 64; omega))
  · omega
  · rfl

theorem refW_at (u : FVec Ideal S32768x2848 .f32) (R : Fin 32768) (l : Fin 256) :
    refW u (ix2 R l) = if h : l.val % 128 < 64 then u (ix2 R ⟨2568 + (l.val / 128 * 64 + l.val % 128), by omega⟩) else 0 := by
  pointwise [refW, refN]
  split_ifs with h
  · exact same u _ _ _ _ rfl (by show 1544 + (1024 + (l.val / 128 * 64 + l.val % 128)) = 2568 + (l.val / 128 * 64 + l.val % 128); omega)
  · rfl

theorem refV_at (u : FVec Ideal S32768x2848 .f32) (b : Fin 256) (e : Fin 256) (q : Fin 128) :
    refV u (ix3 b e q) = u (ix2 ⟨128 * b.val + q.val, by omega⟩ ⟨if e.val < 128 then 2440 + e.val else 2568 + e.val, by split_ifs <;> omega⟩) := by
  pointwise [refV, refN]
  split_ifs with h
  · exact same u _ _ _ _ (by show b.val * 128 + q.val = 128 * b.val + q.val; omega) (by show 1544 + (896 + e.val) = 2440 + e.val; omega)
  all_goals exact same u _ _ _ _ (by show b.val * 128 + q.val = 128 * b.val + q.val; omega) (by show 1544 + (1152 + (e.val - 128)) = 2568 + e.val; omega)

theorem refG_at (u : FVec Ideal S32768x2848 .f32) (b : Fin 256) (e : Fin 32) (q : Fin 128) :
    refG u (ix3 b e q) = if h : e.val % 16 < 12 then u (ix2 ⟨128 * b.val + q.val, by omega⟩ ⟨2824 + (e.val / 16 * 12 + e.val % 4 * 3 + e.val % 16 / 4), by omega⟩) else 0 := by
  pointwise [refG, refN]
  split_ifs with h
  · exact same u _ _ _ _ (by show b.val * 128 + q.val = 128 * b.val + q.val; omega)
      (by show 1544 + (1280 + (e.val / 16 * 12 + e.val % 16 % 4 * 3 + e.val % 16 / 4)) = 2824 + (e.val / 16 * 12 + e.val % 4 * 3 + e.val % 16 / 4); omega)
  · rfl

/-! ## The results -/

variable (x : FVec Ideal S2x16384x1024 .f32) (g : FVec Ideal S1024 .f32) (w : FVec Ideal S1024x2848 .f32)

theorem s_eq : refS (refProj x g w) = sArr x g w :=
  funext fun j => by
    have e : j = ix2 (j 0 : Fin 32768) (j 1 : Fin 1664) := eq_ix2 j
    refine (congrArg (refS (refProj x g w)) e).trans ((refS_at _ _ _).trans ?_)
    unfold sArr
    split_ifs with h
    · exact refProj_at _ _ _ _ _
    · rfl

theorem q_eq : refQ (refProj x g w) = qArr x g w :=
  funext fun j => by
    have e : j = ix3 (j 0 : Fin 256) (j 1 : Fin 512) (j 2 : Fin 128) := eq_ix3 j
    refine (congrArg (refQ (refProj x g w)) e).trans ((refQ_at _ _ _ _).trans ?_)
    rw [refProj_at]
    exact Cert.Proj.scaled_sum _

theorem c_eq : refC (refProj x g w) = cArr x g w :=
  funext fun j => by
    have e : j = ix2 (j 0 : Fin 2048) (j 1 : Fin 4096) := eq_ix2 j
    exact (congrArg (refC (refProj x g w)) e).trans ((refC_at _ _ _).trans (refProj_at _ _ _ _ _))

theorem k_eq : refK (refProj x g w) = kArr x g w :=
  funext fun j => by
    have e : j = ix2 (j 0 : Fin 32768) (j 1 : Fin 256) := eq_ix2 j
    refine (congrArg (refK (refProj x g w)) e).trans ((refK_at _ _ _).trans ?_)
    unfold kArr
    split_ifs with h
    · exact refProj_at _ _ _ _ _
    · rfl
    · rfl

theorem w_eq : refW (refProj x g w) = wArr x g w :=
  funext fun j => by
    have e : j = ix2 (j 0 : Fin 32768) (j 1 : Fin 256) := eq_ix2 j
    refine (congrArg (refW (refProj x g w)) e).trans ((refW_at _ _ _).trans ?_)
    unfold wArr
    split_ifs with h
    · exact refProj_at _ _ _ _ _
    · rfl

theorem v_eq : refV (refProj x g w) = vArr x g w :=
  funext fun j => by
    have e : j = ix3 (j 0 : Fin 256) (j 1 : Fin 256) (j 2 : Fin 128) := eq_ix3 j
    exact (congrArg (refV (refProj x g w)) e).trans ((refV_at _ _ _ _).trans (refProj_at _ _ _ _ _))

theorem g_eq : refG (refProj x g w) = gArr x g w :=
  funext fun j => by
    have e : j = ix3 (j 0 : Fin 256) (j 1 : Fin 32) (j 2 : Fin 128) := eq_ix3 j
    refine (congrArg (refG (refProj x g w)) e).trans ((refG_at _ _ _ _).trans ?_)
    unfold gArr
    simp only [refProj_at]

end Cert.Reference5Ideal.Even
-- ==== Proof.EvenPieces.lean ====
module

public import proofs.«01_k».proof.Proof.EvenKernel

@[expose] public section

set_option maxRecDepth 16384

noncomputable section

open Idealize.ShloMosaic Idealize.ShloMosaic.TcCoe Idealize.SL.Sem
open Idealize.ShloMosaic.Pipeline (Dat)

namespace Cert.Kernel5Ideal.Even

open Cert.Kernel5Ideal Cert.Kernel5Ideal.Gen Cert.Kernel5Ideal.Value
open Cert.Kernel2Ideal.Mlp (rmsRow)

variable (m : (ℓ : Loc nD τ sig) → Buf (Elt Ideal) ℓ)

theorem pay14_at (v : FVec Ideal S512x1024 .bf16) (w : FVec Ideal S1024x256 .bf16) (z : Fin 1) (r : Fin 512) (d : Fin 128) :
    (k0_pay14 v w : FVec Ideal S1x512x128 .f32) (ix3 z r d) = (k0_pay13 v w : FVec Ideal S512x256 .f32) (ix2 r ⟨128 * 0 + d.val, by omega⟩) := by
  pointwise [k0_pay14]

theorem pay15_at (v : FVec Ideal S512x1024 .bf16) (w : FVec Ideal S1024x256 .bf16) (z : Fin 1) (r : Fin 512) (d : Fin 128) :
    (k0_pay15 v w : FVec Ideal S1x512x128 .f32) (ix3 z r d) = (k0_pay13 v w : FVec Ideal S512x256 .f32) (ix2 r ⟨128 * 1 + d.val, by omega⟩) := by
  pointwise [k0_pay15]

theorem half0_at (v : FVec Ideal S1x32x128 .f32) (i : Fin 32) (d : Fin 64) :
    (extractStridedSlice S32x64 ![0, 0] (shapeCast S32x128 v shapeCasts_S1x32x128_S32x128) slices_S32x128_o0_0_S32x64 : FVec Ideal S32x64 .f32) (ix2 i d)
      = v (ix3 0 i ⟨64 * 0 + d.val, by omega⟩) := by
  pointwise

theorem half1_at (v : FVec Ideal S1x32x128 .f32) (i : Fin 32) (d : Fin 64) :
    (extractStridedSlice S32x64 ![0, 64] (shapeCast S32x128 v shapeCasts_S1x32x128_S32x128) slices_S32x128_o0_64_S32x64 : FVec Ideal S32x64 .f32) (ix2 i d)
      = v (ix3 0 i ⟨64 * 1 + d.val, by omega⟩) := by
  pointwise

/-- Every 16th row of a slab just stored, from row `J` on. -/
theorem strided_at (v : View sig .tc .vmem S2x512x128 .f32) (a J : Nat) (hJ : J < 16)
    (inb : ∀ k, (![a, 0, 0] : Fin 3 → Nat) k + (![1, 512, 128] : Fin 3 → Nat) k ≤ S2x512x128.size k)
    (P : FVec Ideal S1x512x128 .f32) (L : List (View.Piece (Elt Ideal) S2x512x128 .f32))
    (inbB) (i : Fin 32) (d : Fin 128) :
    v.readCov (⟨Rect.unit ![a, 0, 0] ![1, 512, 128] inb, P⟩ :: L)
        ({ off := ![a, J, 0], size := ![1, 32, 128], stride := ![1, 16, 1], inb := inbB } : LoadRect S2x512x128) (ix3 (0 : Fin 1) i d)
      = P (ix3 0 ⟨J + 16 * i.val, by omega⟩ d) := by
  rw [View.readCov_eq_canon']
  have e : ({ off := ![a, J, 0], size := ![1, 32, 128], stride := ![1, 16, 1], inb := inbB } : LoadRect S2x512x128).idx (ix3 (0 : Fin 1) i d)
      = (Rect.unit (s := S2x512x128) ![a, 0, 0] ![1, 512, 128] inb).emb (ix3 (0 : Fin 1) (⟨J + 16 * i.val, by omega⟩ : Fin 512) d) := by
    funext k
    refine Fin.ext ?_
    match k with
    | ⟨0, _⟩ => show a + 1 * 0 = a + 1 * 0; rfl
    | ⟨1, _⟩ => show J + 16 * i.val = 0 + 1 * (J + 16 * i.val); omega
    | ⟨2, _⟩ => show 0 + 1 * d.val = 0 + 1 * d.val; rfl
  show View.canon _ _ = _
  rw [e]
  exact View.canon_cons_emb _ _ _ _

/-- A tile of the pieces of 16 tokens: half `H` of slab `a`, its rows from `J` on. -/
theorem c_piece (c : Dev nD) (t : Fin cfg0.N) (v : View sig .tc .vmem S2x512x128 .f32) (a : Nat) (ha : a < 2) (H : Nat) (hH : H < 2) (J : Nat) (hJ : J < 16)
    (inb : ∀ k, (![a, 0, 0] : Fin 3 → Nat) k + (![1, 512, 128] : Fin 3 → Nat) k ≤ S2x512x128.size k)
    (P : FVec Ideal S1x512x128 .f32)
    (hP : ∀ (z : Fin 1) (r : Fin 512) (d : Fin 128), P (ix3 z r d)
      = (k0_pay13 (k0_pay5 (iblk m c 0 t) (iblk m c 1 t)) (iblk m c 4 t) : FVec Ideal S512x256 .f32) (ix2 r ⟨128 * a + d.val, by omega⟩))
    (L : List (View.Piece (Elt Ideal) S2x512x128 .f32)) (inbB)
    (Q : FVec Ideal S32x64 .f32)
    (hQ : ∀ (r : Fin 32) (d : Fin 64), Q (ix2 r d) = (v.readCov (⟨Rect.unit ![a, 0, 0] ![1, 512, 128] inb, P⟩ :: L)
        ({ off := ![a, J, 0], size := ![1, 32, 128], stride := ![1, 16, 1], inb := inbB } : LoadRect S2x512x128) : FVec Ideal S1x32x128 .f32) (ix3 0 r ⟨64 * H + d.val, by omega⟩))
    (y : S32x4096.Idx) (x : S32x64.Idx) (i : S2048x4096.Idx) (g0 : (i 0 : ℕ) = 32 * t.val + y 0) (g1 : (i 1 : ℕ) = y 1)
    (h0 : (y 0 : ℕ) = x 0) (h1 : (y 1 : ℕ) = 2048 * a + 1024 * H + 64 * J + x 1) :
    Q x = cArr (A0 m c) (A1 m c) (A2 m c) i := by
  have e : x = ix2 (x 0 : Fin 32) (x 1 : Fin 64) := eq_ix2 x
  have hx0 : (x 0).val < 32 := (x 0).isLt
  have hx1 : (x 1).val < 64 := (x 1).isLt
  have hi0 : (i 0).val < 2048 := (i 0).isLt
  have hi1 : (i 1).val < 4096 := (i 1).isLt
  rw [e]
  refine (hQ _ _).trans ((strided_at v a J hJ inb P L inbB _ _).trans ((hP _ _ _).trans
    ((c_at m c t _ _ ⟨16 * (i 0).val + (i 1).val / 64 % 16, by omega⟩ ?_).trans ?_)))
  · show 16 * (i 0).val + (i 1).val / 64 % 16 = 512 * t.val + (J + 16 * (x 0).val)
    omega
  · unfold cArr
    refine congrArg _ (Fin.ext ?_)
    show 2056 + (128 * a + (64 * H + (x 1).val)) = 2056 + ((i 1).val / 1024 * 64 + (i 1).val % 64)
    omega

theorem c_piece0 (c : Dev nD) (t : Fin cfg0.N) (v : View sig .tc .vmem S2x512x128 .f32) (a : Nat) (ha : a < 2) (J : Nat) (hJ : J < 16)
    (inb : ∀ k, (![a, 0, 0] : Fin 3 → Nat) k + (![1, 512, 128] : Fin 3 → Nat) k ≤ S2x512x128.size k)
    (P : FVec Ideal S1x512x128 .f32)
    (hP : ∀ (z : Fin 1) (r : Fin 512) (d : Fin 128), P (ix3 z r d)
      = (k0_pay13 (k0_pay5 (iblk m c 0 t) (iblk m c 1 t)) (iblk m c 4 t) : FVec Ideal S512x256 .f32) (ix2 r ⟨128 * a + d.val, by omega⟩))
    (L : List (View.Piece (Elt Ideal) S2x512x128 .f32)) (inbB)
    (y : S32x4096.Idx) (x : S32x64.Idx) (i : S2048x4096.Idx) (g0 : (i 0 : ℕ) = 32 * t.val + y 0) (g1 : (i 1 : ℕ) = y 1)
    (h0 : (y 0 : ℕ) = x 0) (h1 : (y 1 : ℕ) = 2048 * a + 1024 * 0 + 64 * J + x 1) :
    (extractStridedSlice S32x64 ![0, 0] (shapeCast S32x128 (v.readCov (⟨Rect.unit ![a, 0, 0] ![1, 512, 128] inb, P⟩ :: L)
        ({ off := ![a, J, 0], size := ![1, 32, 128], stride := ![1, 16, 1], inb := inbB } : LoadRect S2x512x128) : FVec Ideal S1x32x128 .f32)
        shapeCasts_S1x32x128_S32x128) slices_S32x128_o0_0_S32x64 : FVec Ideal S32x64 .f32) x
      = cArr (A0 m c) (A1 m c) (A2 m c) i :=
  c_piece m c t v a ha 0 (by decide) J hJ inb P hP L inbB _ (fun r d => half0_at _ r d) y x i g0 g1 h0 h1

theorem c_piece1 (c : Dev nD) (t : Fin cfg0.N) (v : View sig .tc .vmem S2x512x128 .f32) (a : Nat) (ha : a < 2) (J : Nat) (hJ : J < 16)
    (inb : ∀ k, (![a, 0, 0] : Fin 3 → Nat) k + (![1, 512, 128] : Fin 3 → Nat) k ≤ S2x512x128.size k)
    (P : FVec Ideal S1x512x128 .f32)
    (hP : ∀ (z : Fin 1) (r : Fin 512) (d : Fin 128), P (ix3 z r d)
      = (k0_pay13 (k0_pay5 (iblk m c 0 t) (iblk m c 1 t)) (iblk m c 4 t) : FVec Ideal S512x256 .f32) (ix2 r ⟨128 * a + d.val, by omega⟩))
    (L : List (View.Piece (Elt Ideal) S2x512x128 .f32)) (inbB)
    (y : S32x4096.Idx) (x : S32x64.Idx) (i : S2048x4096.Idx) (g0 : (i 0 : ℕ) = 32 * t.val + y 0) (g1 : (i 1 : ℕ) = y 1)
    (h0 : (y 0 : ℕ) = x 0) (h1 : (y 1 : ℕ) = 2048 * a + 1024 * 1 + 64 * J + x 1) :
    (extractStridedSlice S32x64 ![0, 64] (shapeCast S32x128 (v.readCov (⟨Rect.unit ![a, 0, 0] ![1, 512, 128] inb, P⟩ :: L)
        ({ off := ![a, J, 0], size := ![1, 32, 128], stride := ![1, 16, 1], inb := inbB } : LoadRect S2x512x128) : FVec Ideal S1x32x128 .f32)
        shapeCasts_S1x32x128_S32x128) slices_S32x128_o0_64_S32x64 : FVec Ideal S32x64 .f32) x
      = cArr (A0 m c) (A1 m c) (A2 m c) i :=
  c_piece m c t v a ha 1 (by decide) J hJ inb P hP L inbB _ (fun r d => half1_at _ r d) y x i g0 g1 h0 h1

set_option maxHeartbeats 4000000 in
theorem point12 (c : Dev nD) (t : Fin cfg0.N) (y : S32x4096.Idx) (i : S2048x4096.Idx) (g0 : (i 0 : ℕ) = 32 * t.val + y 0) (g1 : (i 1 : ℕ) = y 1) :
    (outsAt0 m c t).2.2.1 y = cArr (A0 m c) (A1 m c) (A2 m c) i := by
  unfold outsAt0
  frame_open
  simp (disch := decide) only [↓ View.readCov_skip, ↓ View.readCov_cons_toLoadRect, ↓ View.readCov_fill]
  frame_out
  canon_tiles x h
  case piece0 | piece4 | piece8 | piece12 | piece16 | piece20 | piece24 | piece28 | piece32 | piece36 | piece40 | piece44 | piece48 | piece52 | piece56 | piece60 =>
    dsimp only [k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112]
    exact c_piece1 m c t _ 1 (by decide) _ (by decide) _ _ (fun z r d => pay15_at _ _ z r d) _ _ y x i g0 g1 h0 (by omega)
  case piece1 | piece5 | piece9 | piece13 | piece17 | piece21 | piece25 | piece29 | piece33 | piece37 | piece41 | piece45 | piece49 | piece53 | piece57 | piece61 =>
    dsimp only [k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112]
    exact c_piece0 m c t _ 1 (by decide) _ (by decide) _ _ (fun z r d => pay15_at _ _ z r d) _ _ y x i g0 g1 h0 (by omega)
  case piece2 | piece6 | piece10 | piece14 | piece18 | piece22 | piece26 | piece30 | piece34 | piece38 | piece42 | piece46 | piece50 | piece54 | piece58 | piece62 =>
    dsimp only [k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112]
    exact c_piece1 m c t _ 0 (by decide) _ (by decide) _ _ (fun z r d => pay14_at _ _ z r d) _ _ y x i g0 g1 h0 (by omega)
  case piece3 | piece7 | piece11 | piece15 | piece19 | piece23 | piece27 | piece31 | piece35 | piece39 | piece43 | piece47 | piece51 | piece55 | piece59 | piece63 =>
    dsimp only [k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112]
    exact c_piece0 m c t _ 0 (by decide) _ (by decide) _ _ (fun z r d => pay14_at _ _ z r d) _ _ y x i g0 g1 h0 (by omega)

theorem final12 (c : Dev nD) : (dats m 0 c).arrAt 12 (cfgs 0).N = cArr (A0 m c) (A1 m c) (A2 m c) := by
  refine (dats m 0 c).arrAt_eq_of_covers 12 _ (by decide +kernel) fun t hf y => ?_
  blk_simp
  rw [after0_12]
  refine point12 m c t y _ ?_ ?_
  all_goals (blk_simp [idx t] <;> try omega)

end Cert.Kernel5Ideal.Even
-- ==== Proof.Claims5.lean ====
module

public import proofs.«01_k».proof.Defs
public import proofs.«01_k».proof.Proof.EvenReference
public import proofs.«01_k».proof.Proof.EvenPieces
public import proofs.«01_k».proof.Proof.Gen.Kernel5.Frame
public import Idealize.ShloMosaic.Lib.Quiescent

@[expose] public section

set_option maxRecDepth 16384

noncomputable section

namespace Cert.Proof.EvenClaims

open Idealize.ShloMosaic Idealize.ShloMosaic.TcCoe Idealize.SL.Sem

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2.2.2.2.2.2.2, Idealize.ShloMosaic.sem_eq_zero_of_no_sems (by decide) r.2⟩)
    (Cert.Reference5Ideal.Value.run (F := Ideal) m ρ)

/-- The call's seven results, on the extended reals, are the reference's. -/
theorem algebraic : Cert.algebraic_Kernel5Ideal_Reference5Ideal := by
  intro m ρ m' ρ' _ hagree
  refine ⟨_, _, _, _, _, _, _, Cert.Kernel5Ideal.Value.run_blocks (F := Ideal) m ρ, ?_⟩
  refine (θ_run Cert.Reference5Ideal.defs _ _).mono
    (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
    (Cert.Reference5Ideal.Value.run (F := Ideal) m' ρ')
  all_goals obtain ⟨h0, h1, h2⟩ := hagree c
  · refine (Cert.Reference5Ideal.Even.s_eq (m' ((c.tc : Thread _ _).loc Cert.Reference5Ideal.main_arg0)) (m' ((c.tc : Thread _ _).loc Cert.Reference5Ideal.main_arg1)) (m' ((c.tc : Thread _ _).loc Cert.Reference5Ideal.main_arg2))).trans (Eq.trans ?_ (Cert.Kernel5Ideal.Even.final10 m c).symm)
    rw [h0, h1, h2]
  · refine (Cert.Reference5Ideal.Even.q_eq (m' ((c.tc : Thread _ _).loc Cert.Reference5Ideal.main_arg0)) (m' ((c.tc : Thread _ _).loc Cert.Reference5Ideal.main_arg1)) (m' ((c.tc : Thread _ _).loc Cert.Reference5Ideal.main_arg2))).trans (Eq.trans ?_ (Cert.Kernel5Ideal.Even.final11 m c).symm)
    rw [h0, h1, h2]
  · refine (Cert.Reference5Ideal.Even.c_eq (m' ((c.tc : Thread _ _).loc Cert.Reference5Ideal.main_arg0)) (m' ((c.tc : Thread _ _).loc Cert.Reference5Ideal.main_arg1)) (m' ((c.tc : Thread _ _).loc Cert.Reference5Ideal.main_arg2))).trans (Eq.trans ?_ (Cert.Kernel5Ideal.Even.final12 m c).symm)
    rw [h0, h1, h2]
  · refine (Cert.Reference5Ideal.Even.k_eq (m' ((c.tc : Thread _ _).loc Cert.Reference5Ideal.main_arg0)) (m' ((c.tc : Thread _ _).loc Cert.Reference5Ideal.main_arg1)) (m' ((c.tc : Thread _ _).loc Cert.Reference5Ideal.main_arg2))).trans (Eq.trans ?_ (Cert.Kernel5Ideal.Even.final13 m c).symm)
    rw [h0, h1, h2]
  · refine (Cert.Reference5Ideal.Even.w_eq (m' ((c.tc : Thread _ _).loc Cert.Reference5Ideal.main_arg0)) (m' ((c.tc : Thread _ _).loc Cert.Reference5Ideal.main_arg1)) (m' ((c.tc : Thread _ _).loc Cert.Reference5Ideal.main_arg2))).trans (Eq.trans ?_ (Cert.Kernel5Ideal.Even.final14 m c).symm)
    rw [h0, h1, h2]
  · refine (Cert.Reference5Ideal.Even.v_eq (m' ((c.tc : Thread _ _).loc Cert.Reference5Ideal.main_arg0)) (m' ((c.tc : Thread _ _).loc Cert.Reference5Ideal.main_arg1)) (m' ((c.tc : Thread _ _).loc Cert.Reference5Ideal.main_arg2))).trans (Eq.trans ?_ (Cert.Kernel5Ideal.Even.final15 m c).symm)
    rw [h0, h1, h2]
  · refine (Cert.Reference5Ideal.Even.g_eq (m' ((c.tc : Thread _ _).loc Cert.Reference5Ideal.main_arg0)) (m' ((c.tc : Thread _ _).loc Cert.Reference5Ideal.main_arg1)) (m' ((c.tc : Thread _ _).loc Cert.Reference5Ideal.main_arg2))).trans (Eq.trans ?_ (Cert.Kernel5Ideal.Even.final16 m c).symm)
    rw [h0, h1, h2]

end Cert.Proof.EvenClaims

end
-- ==== Proof.GluKernel.lean ====
module

public import proofs.«01_k».proof.Proof.Gen.Kernel6Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.Glu

open Cert.Kernel6Ideal Cert.Kernel6Ideal.Gen Cert.Kernel6Ideal.Value

variable (m : (ℓ : Loc nD τ sig) → Buf (Elt Ideal) ℓ)

/-- The smooth rectifier in its form by the hyperbolic tangent, the half first. -/
def geluRow (z : EReal) : EReal :=
  Ideal.ofBits .f32 0x3F000000#32 * z
    * (1 + Ideal.tanh (Ideal.ofBits .f32 0x3F4C422A#32 * (z + Ideal.ofBits .f32 0x3D372713#32 * (z * z * z))))

/-- A unit times its gate, from a row of units and a column of gate weights. -/
def gated (g : Fin 512 → EReal) (w : Fin 512 → EReal) (b : EReal) (l : Fin 512) : EReal :=
  g l * Ideal.div 1 (1 + Ideal.exp (-((∑ k : Fin 512, g k * w k) + b)))

theorem pay_at (y : FVec Ideal S1024x512 .bf16) (d : FVec Ideal S1x512 .f32) (u : FVec Ideal S1024x512 .f32)
    (w : FVec Ideal S512x512 .bf16) (b : FVec Ideal S1x512 .f32) (r : Fin 1024) (l : Fin 512) :
    (k0_pay1 y d u w b : FVec Ideal S1024x512 .bf16) (ix2 r l)
      = gated (fun k => geluRow (y (ix2 r k) + d (ix2 0 k) * u (ix2 r k))) (fun k => w (ix2 k l)) (b (ix2 0 l)) l := by
  unfold gated geluRow
  rw [← zero_sub]
  pointwise [k0_pay1]

/-- Every window's block index at a grid point. -/
theorem idx : ∀ t : Fin cfg0.N,
    win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

abbrev A0 (c : Dev nD) : FVec Ideal S2x16384x512 .f32 := m ((c : Thread nD τ).loc main_arg0)
abbrev A1 (c : Dev nD) : FVec Ideal S2x16384x512 .f32 := m ((c : Thread nD τ).loc main_arg1)
abbrev A2 (c : Dev nD) : FVec Ideal S512 .f32 := m ((c : Thread nD τ).loc main_arg2)
abbrev A3 (c : Dev nD) : FVec Ideal S512x512 .f32 := m ((c : Thread nD τ).loc main_arg3)
abbrev A4 (c : Dev nD) : FVec Ideal S512 .f32 := m ((c : Thread nD τ).loc main_arg4)

theorem blk0 (c : Dev nD) (t : Fin cfg0.N) (r : Fin 1024) (l : Fin 512) (b : Fin 2) (s : Fin 16384)
    (h : b.val * 16384 + s.val = 1024 * t.val + r.val) :
    iblk m c 0 t (ix2 r l) = A0 m c (ix3 b s l) := by
  blk_simp [iblk]
  entry_read
  pointwise
  blk_ext [idx t]

theorem blk1 (c : Dev nD) (t : Fin cfg0.N) (r : Fin 1024) (l : Fin 512) (b : Fin 2) (s : Fin 16384)
    (h : b.val * 16384 + s.val = 1024 * t.val + r.val) :
    iblk m c 1 t (ix2 r l) = A1 m c (ix3 b s l) := by
  blk_simp [iblk]
  entry_read
  pointwise
  blk_ext [idx t]

theorem blk2 (c : Dev nD) (t : Fin cfg0.N) (l : Fin 512) : iblk m c 2 t (ix2 0 l) = A2 m c (ix1 l) := by
  blk_simp [iblk]
  entry_read
  pointwise
  blk_ext [idx t]

theorem blk3 (c : Dev nD) (t : Fin cfg0.N) (k l : Fin 512) : iblk m c 3 t (ix2 k l) = A3 m c (ix2 k l) := by
  blk_simp [iblk]
  entry_read
  pointwise
  blk_ext [idx t]

theorem blk4 (c : Dev nD) (t : Fin cfg0.N) (l : Fin 512) : iblk m c 4 t (ix2 0 l) = A4 m c (ix1 l) := by
  blk_simp [iblk]
  entry_read
  pointwise
  blk_ext [idx t]

/-- The mixer's output at a token and a channel. -/
def outAt (y u : FVec Ideal S2x16384x512 .f32) (d : FVec Ideal S512 .f32) (w : FVec Ideal S512x512 .f32) (b : FVec Ideal S512 .f32)
    (i : Fin 2) (s : Fin 16384) (l : Fin 512) : EReal :=
  gated (fun k => geluRow (y (ix3 i s k) + d (ix1 k) * u (ix3 i s k))) (fun k => w (ix2 k l)) (b (ix1 l)) l

def outArr (y u : FVec Ideal S2x16384x512 .f32) (d : FVec Ideal S512 .f32) (w : FVec Ideal S512x512 .f32) (b : FVec Ideal S512 .f32) :
    FVec Ideal S32768x512 .bf16 :=
  fun i => outAt y u d w b ⟨(i 0).val / 16384, by have h : (i 0).val < 32768 := (i 0).isLt; omega⟩ ⟨(i 0).val % 16384, by omega⟩ (i 1)

theorem out_at (c : Dev nD) (t : Fin cfg0.N) (r : Fin 1024) (l : Fin 512) (b : Fin 2) (s : Fin 16384)
    (h : b.val * 16384 + s.val = 1024 * t.val + r.val) :
    out0_5 (F := Ideal) (iblk m c 0 t) (iblk m c 1 t) (iblk m c 2 t) (iblk m c 3 t) (iblk m c 4 t) (ix2 r l)
      = outAt (A0 m c) (A1 m c) (A2 m c) (A3 m c) (A4 m c) b s l := by
  have e : out0_5 (F := Ideal) (iblk m c 0 t) (iblk m c 1 t) (iblk m c 2 t) (iblk m c 3 t) (iblk m c 4 t)
      = k0_pay1 (iblk m c 0 t) (iblk m c 2 t) (iblk m c 1 t) (iblk m c 3 t) (iblk m c 4 t) := by
    frame_out
    try simp only [read_unread_whole]
  rw [e]
  refine (pay_at _ _ _ _ _ r l).trans ?_
  unfold outAt
  refine congrFun (congr (congrArg₂ gated (funext fun k => congrArg geluRow ?_) (funext fun k => blk3 m c t k l)) (blk4 m c t l)) l
  exact congrArg₂ _ (blk0 m c t r k b s h) (congrArg₂ _ (blk2 m c t k) (blk1 m c t r k b s h))

theorem point (c : Dev nD) (t : Fin cfg0.N) (y : S1024x512.Idx) (i : S32768x512.Idx) (g0 : (i 0 : ℕ) = 1024 * t.val + y 0) (g1 : (i 1 : ℕ) = y 1) :
    out0_5 (F := Ideal) (iblk m c 0 t) (iblk m c 1 t) (iblk m c 2 t) (iblk m c 3 t) (iblk m c 4 t) y
      = outArr (A0 m c) (A1 m c) (A2 m c) (A3 m c) (A4 m c) i := by
  have e : y = ix2 (y 0 : Fin 1024) (y 1 : Fin 512) := eq_ix2 y
  have e1 : (i 1 : Fin 512) = (y 1 : Fin 512) := Fin.ext g1
  have hi : (i 0).val < 32768 := (i 0).isLt
  rw [e]
  refine (out_at m c t (y 0) (y 1) ⟨(i 0).val / 16384, by omega⟩ ⟨(i 0).val % 16384, by omega⟩
    (by show (i 0).val / 16384 * 16384 + (i 0).val % 16384 = _; omega)).trans ?_
  unfold outArr
  rw [e1]

theorem final (c : Dev nD) : (dats m 0 c).arrAt 5 (cfgs 0).N = outArr (A0 m c) (A1 m c) (A2 m c) (A3 m c) (A4 m c) := by
  refine (dats m 0 c).arrAt_eq_of_covers 5 _ (by decide +kernel) fun t hf y => ?_
  blk_simp
  rw [after0_5]
  refine point m c t y _ ?_ ?_
  all_goals (blk_simp [idx t] <;> try omega)

end Cert.Kernel6Ideal.Glu
-- ==== Proof.GluReference.lean ====
module

public import proofs.«01_k».proof.Proof.Gen.Reference6Ideal.Run
public import proofs.«01_k».proof.Proof.GluKernel

@[expose] public section

set_option maxRecDepth 16384

noncomputable section

open Idealize.ShloMosaic Idealize.ShloMosaic.TcCoe Idealize.SL.Sem

namespace Cert.Reference6Ideal.Glu

open Cert.Reference6Ideal Cert.Reference6Ideal.Gen Cert.Reference6Ideal.Value
open Cert.Kernel6Ideal.Glu (geluRow gated outAt outArr)

/-- The state space's output plus the skipped input. -/
def refPre (y u : FVec Ideal S2x16384x512 .f32) (d : FVec Ideal S512 .f32) : FVec Ideal S2x16384x512 .f32 :=
  shapeCast S2x16384x512 (addf (shapeCast S2x16384x32x16 y shapeCasts_S2x16384x512_S2x16384x32x16)
    (mulf (broadcastInDim S2x16384x32x16 ![0, 1, 2, 3] bcast_S1x1x32x16_S2x16384x32x16_0_1_2_3
      (broadcastInDim S1x1x32x16 ![2, 3] bcast_S32x16_S1x1x32x16_2_3 (shapeCast S32x16 d shapeCasts_S512_S32x16)))
      (shapeCast S2x16384x32x16 u shapeCasts_S2x16384x512_S2x16384x32x16))) shapeCasts_S2x16384x32x16_S2x16384x512

/-- The smooth rectifier, as the reference writes it. -/
def refGelu (z : FVec Ideal S2x16384x512 .f32) : FVec Ideal S2x16384x512 .f32 :=
  mulf z (mulf (broadcastInDim S2x16384x512 ![] bcast_S_S2x16384x512 (constant S_ .f32 0x3F000000#32))
    (addf (broadcastInDim S2x16384x512 ![] bcast_S_S2x16384x512 (constant S_ .f32 0x3F800000#32))
      (Host.tanh (mulf (broadcastInDim S2x16384x512 ![] bcast_S_S2x16384x512 (constant S_ .f32 0x3F4C422A#32))
        (addf z (mulf (broadcastInDim S2x16384x512 ![] bcast_S_S2x16384x512 (constant S_ .f32 0x3D372713#32)) (mulf (mulf z z) z)))))))

/-- The gated output. -/
def refGate (g : FVec Ideal S2x16384x512 .f32) (w : FVec Ideal S512x512 .f32) (b : FVec Ideal S512 .f32) : FVec Ideal S2x16384x512 .f32 :=
  mulf g (Host.divf (broadcastInDim S2x16384x512 ![] bcast_S_S2x16384x512 (constant S_ .f32 0x3F800000#32))
    (addf (broadcastInDim S2x16384x512 ![] bcast_S_S2x16384x512 (constant S_ .f32 0x3F800000#32))
      (Host.exp (Host.negf (addf (Host.dotGeneral dot_S2x16384x512_S512x512_S2x16384x512_2_0_01_1_n_n none g w)
        (broadcastInDim S2x16384x512 ![0, 1, 2] bcast_S1x1x512_S2x16384x512_0_1_2 (broadcastInDim S1x1x512 ![2] bcast_S512_S1x1x512_2 b)))))))

def refOut (y u : FVec Ideal S2x16384x512 .f32) (d : FVec Ideal S512 .f32) (w : FVec Ideal S512x512 .f32) (b : FVec Ideal S512 .f32) :
    FVec Ideal S32768x512 .bf16 :=
  truncf .bf16 (shapeCast S32768x512 (refGate (refGelu (refPre y u d)) w b) shapeCasts_S2x16384x512_S32768x512) bitsLt_bf16_f32

set_option maxHeartbeats 2000000 in
theorem res_eq (m : (ℓ : Loc nD τ sig) → Buf (Elt Ideal) ℓ) (c : Dev nD) :
    res_out0 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem refPre_at (y u : FVec Ideal S2x16384x512 .f32) (d : FVec Ideal S512 .f32) (b : Fin 2) (s : Fin 16384) (l : Fin 512) :
    refPre y u d (ix3 b s l) = y (ix3 b s l) + d (ix1 l) * u (ix3 b s l) := by
  pointwise [refPre]

theorem refGelu_at (z : FVec Ideal S2x16384x512 .f32) (b : Fin 2) (s : Fin 16384) (l : Fin 512) :
    refGelu z (ix3 b s l) = geluRow (z (ix3 b s l)) := by
  have e : refGelu z (ix3 b s l) = z (ix3 b s l) * (Ideal.ofBits .f32 0x3F000000#32
      * (1 + Ideal.tanh (Ideal.ofBits .f32 0x3F4C422A#32 * (z (ix3 b s l) + Ideal.ofBits .f32 0x3D372713#32 * (z (ix3 b s l) * z (ix3 b s l) * z (ix3 b s l)))))) := by
    pointwise [refGelu]
  rw [e]
  unfold geluRow
  rw [← mul_assoc, mul_comm (z (ix3 b s l)) (Ideal.ofBits .f32 0x3F000000#32)]

theorem refGate_at (g : FVec Ideal S2x16384x512 .f32) (w : FVec Ideal S512x512 .f32) (b : FVec Ideal S512 .f32) (i : Fin 2) (s : Fin 16384) (l : Fin 512) :
    refGate g w b (ix3 i s l) = gated (fun k => g (ix3 i s k)) (fun k => w (ix2 k l)) (b (ix1 l)) l := by
  unfold gated
  pointwise [refGate]

theorem out_eq (y u : FVec Ideal S2x16384x512 .f32) (d : FVec Ideal S512 .f32) (w : FVec Ideal S512x512 .f32) (b : FVec Ideal S512 .f32) :
    refOut y u d w b = outArr y u d w b :=
  funext fun j => by
    have e : j = ix2 (j 0 : Fin 32768) (j 1 : Fin 512) := eq_ix2 j
    have hj : (j 0).val < 32768 := (j 0).isLt
    have h : refOut y u d w b (ix2 (j 0 : Fin 32768) (j 1 : Fin 512))
        = refGate (refGelu (refPre y u d)) w b (ix3 ⟨(j 0).val / 16384, by omega⟩ ⟨(j 0).val % 16384, by omega⟩ (j 1)) := by
      pointwise [refOut]
    refine (congrArg (refOut y u d w b) e).trans (h.trans ((refGate_at _ _ _ _ _ _).trans ?_))
    unfold outArr outAt
    exact congrFun (congrArg₂ (fun p q => gated p q (b (ix1 (j 1)))) (funext fun k => (refGelu_at _ _ _ _).trans (congrArg geluRow (refPre_at y u d _ _ k))) rfl) _

end Cert.Reference6Ideal.Glu
-- ==== Proof.Claims6.lean ====
module

public import proofs.«01_k».proof.Defs
public import proofs.«01_k».proof.Proof.GluReference
public import proofs.«01_k».proof.Proof.Gen.Kernel6.Frame
public import Idealize.ShloMosaic.Lib.Quiescent

@[expose] public section

set_option maxRecDepth 16384

noncomputable section

namespace Cert.Proof.GluClaims

open Idealize.ShloMosaic Idealize.ShloMosaic.TcCoe Idealize.SL.Sem

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The call's result array, on the extended reals, is the reference's. -/
theorem algebraic : Cert.algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨(h c).1.trans ?_, (h c).2⟩)
    (Cert.Reference6Ideal.Value.run (F := Ideal) m' ρ')
  refine (Cert.Reference6Ideal.Glu.res_eq m' c).trans (Eq.trans ?_ (Cert.Kernel6Ideal.Glu.final m c).symm)
  obtain ⟨h0, h1, h2, h3, h4⟩ := hagree c
  rw [h0, h1, h2, h3, h4]
  exact Cert.Reference6Ideal.Glu.out_eq _ _ _ _ _

end Cert.Proof.GluClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Claims1
public import proofs.«01_k».proof.Proof.Claims2
public import proofs.«01_k».proof.Proof.Claims3
public import proofs.«01_k».proof.Proof.Claims4
public import proofs.«01_k».proof.Proof.Claims5
public import proofs.«01_k».proof.Proof.Claims6
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel6.Gen.facts, Cert.Kernel6Ideal.Gen.facts, Cert.Reference6Ideal.Gen.facts, Cert.Kernel5.Gen.facts, Cert.Kernel5Ideal.Gen.facts, Cert.Reference5Ideal.Gen.facts, Cert.Pre_finite.Gen.facts,
  SwaClaims.frame_p, SwaClaims.frame_pi, fun m ρ _ => SwaClaims.frame_pi m ρ trivial,
  SwaClaims.frame_ri, fun m ρ _ => SwaClaims.frame_ri m ρ trivial,
  MlpClaims.frame_p, MlpClaims.frame_pi, MlpClaims.frame_ri,
  Mlp3Claims.frame_p, Mlp3Claims.frame_pi, Mlp3Claims.frame_ri,
  OddClaims.frame_p, OddClaims.frame_pi, OddClaims.frame_ri,
  GluClaims.frame_p, GluClaims.frame_pi, GluClaims.frame_ri,
  EvenClaims.frame_p, EvenClaims.frame_pi, EvenClaims.frame_ri,
  SwaClaims.preserves, SwaClaims.algebraic, trivial, MlpClaims.algebraic, trivial, Mlp3Claims.algebraic,
  trivial, OddClaims.algebraic, trivial, GluClaims.algebraic, trivial, EvenClaims.algebraic⟩

end Cert.Proof

end
